-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14))
      ∧ r.2.sem = fun _ => 0)

def preserves_Kernel_KernelIdeal : Prop :=
  IdealRules.named_const.Statement Cert.KernelIdeal.κ "scale" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v70) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v19_0)) (v1 : (c : Dev Cert.Kernel3Ideal.nD) → Buf (Elt Ideal) ((c.tc : Thread Cert.Kernel3Ideal.nD Cert.Kernel3Ideal.τ).loc Cert.Kernel3Ideal.main_v19_1)) (v2 : (c : Dev Cert.Kernel3Ideal.nD) → Buf (Elt Ideal) ((c.tc : Thread Cert.Kernel3Ideal.nD Cert.Kernel3Ideal.τ).loc Cert.Kernel3Ideal.main_v19_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v19_0) = v0 c
          ∧ r.2.mem ((c.tc : Thread Cert.Kernel3Ideal.nD Cert.Kernel3Ideal.τ).loc Cert.Kernel3Ideal.main_v19_1) = v1 c
          ∧ r.2.mem ((c.tc : Thread Cert.Kernel3Ideal.nD Cert.Kernel3Ideal.τ).loc Cert.Kernel3Ideal.main_v19_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v57) = v0 c
          ∧ r.2.mem ((c.tc : Thread Cert.Reference3Ideal.nD Cert.Reference3Ideal.τ).loc Cert.Reference3Ideal.main_v58) = v1 c
          ∧ r.2.mem ((c.tc : Thread Cert.Reference3Ideal.nD Cert.Reference3Ideal.τ).loc Cert.Reference3Ideal.main_v55) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)) →
    ∃ (v0 : (c : Dev Cert.Kernel4Ideal.nD) → Buf (Elt Ideal) ((c.tc : Thread Cert.Kernel4Ideal.nD Cert.Kernel4Ideal.τ).loc Cert.Kernel4Ideal.main_v26)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v26) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v92) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S8x4x2x8192x64 : Shape := ⟨5, ![8, 4, 2, 8192, 64]⟩
abbrev S8x4x8192x128 : Shape := ⟨4, ![8, 4, 8192, 128]⟩
abbrev S8x4x2x256x64 : Shape := ⟨5, ![8, 4, 2, 256, 64]⟩
abbrev S8x4x256x128 : Shape := ⟨4, ![8, 4, 256, 128]⟩
abbrev S4x64 : Shape := ⟨2, ![4, 64]⟩
abbrev S128 : Shape := ⟨1, ![128]⟩
abbrev S_ : Shape := ⟨0, ![]⟩

class Facts : Prop where
  bcast_S_S8x4x2x8192x64 : S_.BroadcastsInDim S8x4x2x8192x64 (![] : Fin 0 → Fin S8x4x2x8192x64.rank)
  reducesTo_S8x4x2x8192x64_S_d0_1_2_3_4 : S8x4x2x8192x64.ReducesTo [0, 1, 2, 3, 4] S_
  h_S_ : 0 < S_.numel
  bcast_S_S8x4x8192x128 : S_.BroadcastsInDim S8x4x8192x128 (![] : Fin 0 → Fin S8x4x8192x128.rank)
  reducesTo_S8x4x8192x128_S_d0_1_2_3 : S8x4x8192x128.ReducesTo [0, 1, 2, 3] S_
  bcast_S_S8x4x2x256x64 : S_.BroadcastsInDim S8x4x2x256x64 (![] : Fin 0 → Fin S8x4x2x256x64.rank)
  reducesTo_S8x4x2x256x64_S_d0_1_2_3_4 : S8x4x2x256x64.ReducesTo [0, 1, 2, 3, 4] S_
  bcast_S_S8x4x256x128 : S_.BroadcastsInDim S8x4x256x128 (![] : Fin 0 → Fin S8x4x256x128.rank)
  reducesTo_S8x4x256x128_S_d0_1_2_3 : S8x4x256x128.ReducesTo [0, 1, 2, 3] S_
  bcast_S_S4x64 : S_.BroadcastsInDim S4x64 (![] : Fin 0 → Fin S4x64.rank)
  reducesTo_S4x64_S_d0_1 : S4x64.ReducesTo [0, 1] S_

variable [Facts]

def fn_part1 {F : FTy → Type} [FloatOps F] (main_arg4 : FVec F S8x4x256x128 .f32) (main_arg5 : FVec F S4x64 .f32) (main_v13 : IVec S_ 1) (main_v16 : IVec S8x4x2x256x64 1) : IVec S_ 1 :=
  let main_c_5 : IVec S_ 1 := constantI S_ 1 1#1
  let main_v17 : IVec S_ 1 := (fun x v => Host.reduce IntOp.andi x v reducesTo_S8x4x2x256x64_S_d0_1_2_3_4 h_S_) main_v16 main_c_5
  let main_v18 : IVec S_ 1 := andi main_v13 main_v17
  let main_v19 : FVec F S8x4x256x128 .f32 := Host.absf main_arg4
  let main_cst_6 : FVec F S_ .f32 := constant S_ .f32 0x7F800000#32
  let main_v20 : FVec F S8x4x256x128 .f32 := broadcastInDim S8x4x256x128 ![] bcast_S_S8x4x256x128 main_cst_6
  let main_v21 : IVec S8x4x256x128 1 := cmpf .olt main_v19 main_v20
  let main_c_7 : IVec S_ 1 := constantI S_ 1 1#1
  let main_v22 : IVec S_ 1 := (fun x v => Host.reduce IntOp.andi x v reducesTo_S8x4x256x128_S_d0_1_2_3 h_S_) main_v21 main_c_7
  let main_v23 : IVec S_ 1 := andi main_v18 main_v22
  let main_v24 : FVec F S4x64 .f32 := Host.absf main_arg5
  let main_cst_8 : FVec F S_ .f32 := constant S_ .f32 0x7F800000#32
  let main_v25 : FVec F S4x64 .f32 := broadcastInDim S4x64 ![] bcast_S_S4x64 main_cst_8
  let main_v26 : IVec S4x64 1 := cmpf .olt main_v24 main_v25
  let main_c_9 : IVec S_ 1 := constantI S_ 1 1#1
  let main_v27 : IVec S_ 1 := (fun x v => Host.reduce IntOp.andi x v reducesTo_S4x64_S_d0_1 h_S_) main_v26 main_c_9
  let main_v28 : IVec S_ 1 := andi main_v23 main_v27
  main_v28

def fn {F : FTy → Type} [FloatOps F] (main_arg0 : FVec F S8x4x2x8192x64 .f32) (main_arg1 : FVec F S8x4x2x8192x64 .f32) (main_arg2 : FVec F S8x4x8192x128 .f32) (main_arg3 : FVec F S8x4x2x256x64 .f32) (main_arg4 : FVec F S8x4x256x128 .f32) (main_arg5 : FVec F S4x64 .f32) (main_arg6 : FVec F S128 .f32) : IVec S_ 1 :=
  let main_v0 : FVec F S8x4x2x8192x64 .f32 := Host.absf main_arg0
  let main_cst : FVec F S_ .f32 := constant S_ .f32 0x7F800000#32
  let main_v1 : FVec F S8x4x2x8192x64 .f32 := broadcastInDim S8x4x2x8192x64 ![] bcast_S_S8x4x2x8192x64 main_cst
  let main_v2 : IVec S8x4x2x8192x64 1 := cmpf .olt main_v0 main_v1
  let main_c : IVec S_ 1 := constantI S_ 1 1#1
  let main_v3 : IVec S_ 1 := (fun x v => Host.reduce IntOp.andi x v reducesTo_S8x4x2x8192x64_S_d0_1_2_3_4 h_S_) main_v2 main_c
  let main_v4 : FVec F S8x4x2x8192x64 .f32 := Host.absf main_arg1
  let main_cst_0 : FVec F S_ .f32 := constant S_ .f32 0x7F800000#32
  let main_v5 : FVec F S8x4x2x8192x64 .f32 := broadcastInDim S8x4x2x8192x64 ![] bcast_S_S8x4x2x8192x64 main_cst_0
  let main_v6 : IVec S8x4x2x8192x64 1 := cmpf .olt main_v4 main_v5
  let main_c_1 : IVec S_ 1 := constantI S_ 1 1#1
  let main_v7 : IVec S_ 1 := (fun x v => Host.reduce IntOp.andi x v reducesTo_S8x4x2x8192x64_S_d0_1_2_3_4 h_S_) main_v6 main_c_1
  let main_v8 : IVec S_ 1 := andi main_v3 main_v7
  let main_v9 : FVec F S8x4x8192x128 .f32 := Host.absf main_arg2
  let main_cst_2 : FVec F S_ .f32 := constant S_ .f32 0x7F800000#32
  let main_v10 : FVec F S8x4x8192x128 .f32 := broadcastInDim S8x4x8192x128 ![] bcast_S_S8x4x8192x128 main_cst_2
  let main_v11 : IVec S8x4x8192x128 1 := cmpf .olt main_v9 main_v10
  let main_c_3 : IVec S_ 1 := constantI S_ 1 1#1
  let main_v12 : IVec S_ 1 := (fun x v => Host.reduce IntOp.andi x v reducesTo_S8x4x8192x128_S_d0_1_2_3 h_S_) main_v11 main_c_3
  let main_v13 : IVec S_ 1 := andi main_v8 main_v12
  let main_v14 : FVec F S8x4x2x256x64 .f32 := Host.absf main_arg3
  let main_cst_4 : FVec F S_ .f32 := constant S_ .f32 0x7F800000#32
  let main_v15 : FVec F S8x4x2x256x64 .f32 := broadcastInDim S8x4x2x256x64 ![] bcast_S_S8x4x2x256x64 main_cst_4
  let main_v16 : IVec S8x4x2x256x64 1 := cmpf .olt main_v14 main_v15
  fn_part1 (F := F) main_arg4 main_arg5 main_v13 main_v16
-- ==== Kernel.lean ====
abbrev S8x4x2x8192x64 : Shape := ⟨5, ![8, 4, 2, 8192, 64]⟩
abbrev S8x4x8192x128 : Shape := ⟨4, ![8, 4, 8192, 128]⟩
abbrev S8x4x2x256x64 : Shape := ⟨5, ![8, 4, 2, 256, 64]⟩
abbrev S8x4x256x128 : Shape := ⟨4, ![8, 4, 256, 128]⟩
abbrev S4x64 : Shape := ⟨2, ![4, 64]⟩
abbrev S128 : Shape := ⟨1, ![128]⟩
abbrev S8x4x2x64x8192 : Shape := ⟨5, ![8, 4, 2, 64, 8192]⟩
abbrev S8x4x128x8192 : Shape := ⟨4, ![8, 4, 128, 8192]⟩
abbrev S_ : Shape := ⟨0, ![]⟩
abbrev S8x4x16x8192 : Shape := ⟨4, ![8, 4, 16, 8192]⟩
abbrev S8x8192x4x2x64 : Shape := ⟨5, ![8, 8192, 4, 2, 64]⟩
abbrev S8x8192x512 : Shape := ⟨3, ![8, 8192, 512]⟩
abbrev S8x4x144x8192 : Shape := ⟨4, ![8, 4, 144, 8192]⟩
abbrev S8x4x128x256 : Shape := ⟨4, ![8, 4, 128, 256]⟩
abbrev S8x4x16x256 : Shape := ⟨4, ![8, 4, 16, 256]⟩
abbrev S8x256x4x2x64 : Shape := ⟨5, ![8, 256, 4, 2, 64]⟩
abbrev S8x256x512 : Shape := ⟨3, ![8, 256, 512]⟩
abbrev S8x4x144x256 : Shape := ⟨4, ![8, 4, 144, 256]⟩
abbrev S1x128 : Shape := ⟨2, ![1, 128]⟩
abbrev S1x1x128x1024 : Shape := ⟨4, ![1, 1, 128, 1024]⟩
abbrev S1x8192x128 : Shape := ⟨3, ![1, 8192, 128]⟩
abbrev S1x1x144x8192 : Shape := ⟨4, ![1, 1, 144, 8192]⟩
abbrev S1x256x128 : Shape := ⟨3, ![1, 256, 128]⟩
abbrev S1x1x144x256 : Shape := ⟨4, ![1, 1, 144, 256]⟩
abbrev S1x1024x128 : Shape := ⟨3, ![1, 1024, 128]⟩
abbrev S2x4x128x256 : Shape := ⟨4, ![2, 4, 128, 256]⟩
abbrev S2x4x1x256 : Shape := ⟨4, ![2, 4, 1, 256]⟩
abbrev S2x4x144x256 : Shape := ⟨4, ![2, 4, 144, 256]⟩
abbrev S2x2x4x768x256 : Shape := ⟨5, ![2, 2, 4, 768, 256]⟩
abbrev S2x2x4x1x256 : Shape := ⟨5, ![2, 2, 4, 1, 256]⟩
abbrev S128x256 : Shape := ⟨2, ![128, 256]⟩
abbrev S1x1x128x256 : Shape := ⟨4, ![1, 1, 128, 256]⟩
abbrev S1x768x128 : Shape := ⟨3, ![1, 768, 128]⟩
abbrev S768x128 : Shape := ⟨2, ![768, 128]⟩
abbrev S768x256 : Shape := ⟨2, ![768, 256]⟩
abbrev S1x1x1x768x256 : Shape := ⟨5, ![1, 1, 1, 768, 256]⟩
abbrev S256 : Shape := ⟨1, ![256]⟩
abbrev S1x256 : Shape := ⟨2, ![1, 256]⟩
abbrev S1x1x1x1x256 : Shape := ⟨5, ![1, 1, 1, 1, 256]⟩
abbrev S1x1x144x768 : Shape := ⟨4, ![1, 1, 144, 768]⟩
abbrev S144x768 : Shape := ⟨2, ![144, 768]⟩
abbrev S1x1x1x256 : Shape := ⟨4, ![1, 1, 1, 256]⟩
abbrev S144x256 : Shape := ⟨2, ![144, 256]⟩
abbrev S1x512x128 : Shape := ⟨3, ![1, 512, 128]⟩
abbrev S512x128 : Shape := ⟨2, ![512, 128]⟩
abbrev S256x128 : Shape := ⟨2, ![256, 128]⟩
abbrev S1x1x144x512 : Shape := ⟨4, ![1, 1, 144, 512]⟩
abbrev S144x512 : Shape := ⟨2, ![144, 512]⟩
abbrev S1x64 : Shape := ⟨2, ![1, 64]⟩
abbrev S1 : Shape := ⟨1, ![1]⟩
abbrev S1x1 : Shape := ⟨2, ![1, 1]⟩
abbrev S256x1 : Shape := ⟨2, ![256, 1]⟩

abbrev nBuf : Space → Nat
  | .hbm => 28
  | .vmem => 19
  | .smem => 0
  | _ => 0

abbrev bufTy : (tb : Table) → Fin (tcTables nBuf tb) → BufTy
  | .hbm, ⟨0, _⟩ => ⟨S8x4x2x8192x64, .f32⟩
  | .hbm, ⟨1, _⟩ => ⟨S8x4x2x8192x64, .f32⟩
  | .hbm, ⟨2, _⟩ => ⟨S8x4x8192x128, .f32⟩
  | .hbm, ⟨3, _⟩ => ⟨S8x4x2x256x64, .f32⟩
  | .hbm, ⟨4, _⟩ => ⟨S8x4x256x128, .f32⟩
  | .hbm, ⟨5, _⟩ => ⟨S4x64, .f32⟩
  | .hbm, ⟨6, _⟩ => ⟨S128, .f32⟩
  | .hbm, ⟨7, _⟩ => ⟨S8x4x2x64x8192, .f32⟩
  | .hbm, ⟨8, _⟩ => ⟨S8x4x128x8192, .f32⟩
  | .hbm, ⟨9, _⟩ => ⟨S8x4x128x8192, .bf16⟩
  | .hbm, ⟨10, _⟩ => ⟨S8x4x128x8192, .f32⟩
  | .hbm, ⟨11, _⟩ => ⟨S8x4x128x8192, .bf16⟩
  | .hbm, ⟨12, _⟩ => ⟨S_, .bf16⟩
  | .hbm, ⟨13, _⟩ => ⟨S8x4x16x8192, .bf16⟩
  | .hbm, ⟨14, _⟩ => ⟨S8x8192x4x2x64, .f32⟩
  | .hbm, ⟨15, _⟩ => ⟨S8x8192x512, .f32⟩
  | .hbm, ⟨16, _⟩ => ⟨S8x8192x512, .bf16⟩
  | .hbm, ⟨17, _⟩ => ⟨S8x4x144x8192, .bf16⟩
  | .hbm, ⟨18, _⟩ => ⟨S8x4x128x256, .f32⟩
  | .hbm, ⟨19, _⟩ => ⟨S8x4x128x256, .bf16⟩
  | .hbm, ⟨20, _⟩ => ⟨S_, .bf16⟩
  | .hbm, ⟨21, _⟩ => ⟨S8x4x16x256, .bf16⟩
  | .hbm, ⟨22, _⟩ => ⟨S8x256x4x2x64, .f32⟩
  | .hbm, ⟨23, _⟩ => ⟨S8x256x512, .f32⟩
  | .hbm, ⟨24, _⟩ => ⟨S8x256x512, .bf16⟩
  | .hbm, ⟨25, _⟩ => ⟨S8x4x144x256, .bf16⟩
  | .hbm, ⟨26, _⟩ => ⟨S1x128, .f32⟩
  | .hbm, ⟨27, _⟩ => ⟨S8x8192x512, .bf16⟩
  | .local _ .vmem, ⟨0, _⟩ => ⟨S1x1x128x1024, .bf16⟩
  | .local _ .vmem, ⟨1, _⟩ => ⟨S1x1x128x1024, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x1x144x8192, .bf16⟩
  | .local _ .vmem, ⟨5, _⟩ => ⟨S1x1x144x8192, .bf16⟩
  | .local _ .vmem, ⟨6, _⟩ => ⟨S1x256x128, .bf16⟩
  | .local _ .vmem, ⟨7, _⟩ => ⟨S1x256x128, .bf16⟩
  | .local _ .vmem, ⟨8, _⟩ => ⟨S1x1x144x256, .bf16⟩
  | .local _ .vmem, ⟨9, _⟩ => ⟨S1x1x144x256, .bf16⟩
  | .local _ .vmem, ⟨10, _⟩ => ⟨S4x64, .f32⟩
  | .local _ .vmem, ⟨11, _⟩ => ⟨S1x128, .f32⟩
  | .local _ .vmem, ⟨12, _⟩ => ⟨S1x1024x128, .bf16⟩
  | .local _ .vmem, ⟨13, _⟩ => ⟨S1x1024x128, .bf16⟩
  | .local _ .vmem, ⟨14, _⟩ => ⟨S2x4x128x256, .bf16⟩
  | .local _ .vmem, ⟨15, _⟩ => ⟨S2x4x1x256, .f32⟩
  | .local _ .vmem, ⟨16, _⟩ => ⟨S2x4x144x256, .f32⟩
  | .local _ .vmem, ⟨17, _⟩ => ⟨S2x2x4x768x256, .f32⟩
  | .local _ .vmem, ⟨18, _⟩ => ⟨S2x2x4x1x256, .f32⟩
  | _, _ => ⟨S8x4x2x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![8, 4, 8], ![false, false, false]⟩

def k0_mult1 : BitVec 32 :=
  let c0_i32 : BitVec 32 := 0#32
  c0_i32
@[reducible] def k0_t1_loop : Scf.Loop 32 :=
  let c0_i32_199 : BitVec 32 := 0#32
  let c4_i32 : BitVec 32 := 4#32
  let v181 : BitVec 32 := Scalar.addi c0_i32_199 c4_i32
  let c1_i32 : BitVec 32 := 1#32
  ⟨c0_i32_199, v181, c1_i32⟩
def k0_mult2 (k0_t1 : Fin k0_t1_loop.trips) : BitVec 32 :=
  let c2_i32 : BitVec 32 := 2#32
  let c0_i32_199 : BitVec 32 := 0#32
  let c1_i32 : BitVec 32 := 1#32
  let arg16 : BitVec 32 := Scf.iv c0_i32_199 c1_i32 k0_t1
  let v1140 : BitVec 32 := Scalar.muli c2_i32 arg16
  let c0_i32_1231 : BitVec 32 := 0#32
  let v1141 : BitVec 32 := Scalar.addi v1140 c0_i32_1231
  let c1_i32_1232 : BitVec 32 := 1#32
  let v1142 : BitVec 32 := Scalar.addi v1141 c1_i32_1232
  let c768_i32 : BitVec 32 := 768#32
  let v1143 : BitVec 32 := Scalar.muli v1142 c768_i32
  v1143
def k0_off1 (k0_t1 : Fin k0_t1_loop.trips) (c0_i32_1231 : BitVec 32) : Fin 3 → Nat :=
  let c0_1233 : Index := 0#32
  let c2_i32 : BitVec 32 := 2#32
  let c0_i32_199 : BitVec 32 := 0#32
  let c1_i32 : BitVec 32 := 1#32
  let arg16 : BitVec 32 := Scf.iv c0_i32_199 c1_i32 k0_t1
  let v1140 : BitVec 32 := Scalar.muli c2_i32 arg16
  let v1141 : BitVec 32 := Scalar.addi v1140 c0_i32_1231
  let c1_i32_1232 : BitVec 32 := 1#32
  let v1142 : BitVec 32 := Scalar.addi v1141 c1_i32_1232
  let c768_i32 : BitVec 32 := 768#32
  let v1143 : BitVec 32 := Scalar.muli v1142 c768_i32
  let v1144 : BitVec 32 := v1143
  let v1145 : Index := Scalar.indexCast v1144
  let c0_1234 : Index := 0#32
  ![0, v1145.toNat, 0]
def k0_mult3 (k0_t1 : Fin k0_t1_loop.trips) : BitVec 32 :=
  let c2_i32 : BitVec 32 := 2#32
  let c0_i32_199 : BitVec 32 := 0#32
  let c1_i32 : BitVec 32 := 1#32
  let arg16 : BitVec 32 := Scf.iv c0_i32_199 c1_i32 k0_t1
  let v1140 : BitVec 32 := Scalar.muli c2_i32 arg16
  let c0_i32_1231 : BitVec 32 := 0#32
  let v1141 : BitVec 32 := Scalar.addi v1140 c0_i32_1231
  let c768_i32_1235 : BitVec 32 := 768#32
  let v1148 : BitVec 32 := Scalar.muli v1141 c768_i32_1235
  v1148
def k0_off2 (k0_t1 : Fin k0_t1_loop.trips) (c0_i32_1231 : BitVec 32) : Fin 4 → Nat :=
  let c0_1236 : Index := 0#32
  let c0_1237 : Index := 0#32
  let c0_1238 : Index := 0#32
  let c2_i32 : BitVec 32 := 2#32
  let c0_i32_199 : BitVec 32 := 0#32
  let c1_i32 : BitVec 32 := 1#32
  let arg16 : BitVec 32 := Scf.iv c0_i32_199 c1_i32 k0_t1
  let v1140 : BitVec 32 := Scalar.muli c2_i32 arg16
  let v1141 : BitVec 32 := Scalar.addi v1140 c0_i32_1231
  let c768_i32_1235 : BitVec 32 := 768#32
  let v1148 : BitVec 32 := Scalar.muli v1141 c768_i32_1235
  let v1149 : BitVec 32 := v1148
  let v1150 : Index := Scalar.indexCast v1149
  ![0, 0, 0, v1150.toNat]
def k0_mult4 (k0_t1 : Fin k0_t1_loop.trips) : BitVec 32 :=
  let c2_i32_1583 : BitVec 32 := 2#32
  let c0_i32_199 : BitVec 32 := 0#32
  let c1_i32 : BitVec 32 := 1#32
  let arg16 : BitVec 32 := Scf.iv c0_i32_199 c1_i32 k0_t1
  let v1441 : BitVec 32 := Scalar.muli c2_i32_1583 arg16
  let c1_i32_1584 : BitVec 32 := 1#32
  let v1442 : BitVec 32 := Scalar.addi v1441 c1_i32_1584
  let c1_i32_1585 : BitVec 32 := 1#32
  let v1443 : BitVec 32 := Scalar.addi v1442 c1_i32_1585
  let c768_i32_1586 : BitVec 32 := 768#32
  let v1444 : BitVec 32 := Scalar.muli v1443 c768_i32_1586
  v1444
def k0_mult5 (k0_t1 : Fin k0_t1_loop.trips) : BitVec 32 :=
  let c2_i32_1583 : BitVec 32 := 2#32
  let c0_i32_199 : BitVec 32 := 0#32
  let c1_i32 : BitVec 32 := 1#32
  let arg16 : BitVec 32 := Scf.iv c0_i32_199 c1_i32 k0_t1
  let v1441 : BitVec 32 := Scalar.muli c2_i32_1583 arg16
  let c1_i32_1584 : BitVec 32 := 1#32
  let v1442 : BitVec 32 := Scalar.addi v1441 c1_i32_1584
  let c768_i32_1589 : BitVec 32 := 768#32
  let v1449 : BitVec 32 := Scalar.muli v1442 c768_i32_1589
  v1449
def k0_mult6 : BitVec 32 :=
  let c6912_i32 : BitVec 32 := 6912#32
  c6912_i32
def k0_mult7 : BitVec 32 :=
  let c6144_i32 : BitVec 32 := 6144#32
  c6144_i32
def k0_mult8 : BitVec 32 :=
  let c6912_i32_555 : BitVec 32 := 6912#32
  c6912_i32_555
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x144x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x144x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== KernelIdeal.lean ====
variable {F : FTy → Type} [FloatOps F] [Named F]
def κ : String → Option EReal := fun
  | "scale" => some (((1 / 8) * (Real.log 2)⁻¹ : ℝ) : EReal)
  | _ => none
-- ==== ReferenceIdeal.lean ====
abbrev S8x4x2x8192x64 : Shape := ⟨5, ![8, 4, 2, 8192, 64]⟩
abbrev S8x4x8192x128 : Shape := ⟨4, ![8, 4, 8192, 128]⟩
abbrev S8x4x2x256x64 : Shape := ⟨5, ![8, 4, 2, 256, 64]⟩
abbrev S8x4x256x128 : Shape := ⟨4, ![8, 4, 256, 128]⟩
abbrev S4x64 : Shape := ⟨2, ![4, 64]⟩
abbrev S128 : Shape := ⟨1, ![128]⟩
abbrev S1x64 : Shape := ⟨2, ![1, 64]⟩
abbrev S64 : Shape := ⟨1, ![64]⟩
abbrev S_ : Shape := ⟨0, ![]⟩
abbrev S8x4x2x8448x64 : Shape := ⟨5, ![8, 4, 2, 8448, 64]⟩
abbrev S8x4x8448x128 : Shape := ⟨4, ![8, 4, 8448, 128]⟩
abbrev S8x4x2x8192x8448 : Shape := ⟨5, ![8, 4, 2, 8192, 8448]⟩
abbrev S8x4x2x8192 : Shape := ⟨4, ![8, 4, 2, 8192]⟩
abbrev S8x4x2x8192x1 : Shape := ⟨5, ![8, 4, 2, 8192, 1]⟩
abbrev S8x4x1x8192x8448 : Shape := ⟨5, ![8, 4, 1, 8192, 8448]⟩
abbrev S8x4x8192x8448 : Shape := ⟨4, ![8, 4, 8192, 8448]⟩
abbrev S8x4x8192 : Shape := ⟨3, ![8, 4, 8192]⟩
abbrev S8x4x8192x1 : Shape := ⟨4, ![8, 4, 8192, 1]⟩
abbrev S1x1x1x128 : Shape := ⟨4, ![1, 1, 1, 128]⟩
abbrev S8x8192x4x128 : Shape := ⟨4, ![8, 8192, 4, 128]⟩
abbrev S8x8192x512 : Shape := ⟨3, ![8, 8192, 512]⟩

abbrev nBuf : Space → Nat
  | .hbm => 76
  | .vmem => 0
  | .smem => 0
  | _ => 0

abbrev bufTy : (tb : Table) → Fin (tcTables nBuf tb) → BufTy
  | .hbm, ⟨0, _⟩ => ⟨S8x4x2x8192x64, .f32⟩
  | .hbm, ⟨1, _⟩ => ⟨S8x4x2x8192x64, .f32⟩
  | .hbm, ⟨2, _⟩ => ⟨S8x4x8192x128, .f32⟩
  | .hbm, ⟨3, _⟩ => ⟨S8x4x2x256x64, .f32⟩
  | .hbm, ⟨4, _⟩ => ⟨S8x4x256x128, .f32⟩
  | .hbm, ⟨5, _⟩ => ⟨S4x64, .f32⟩
  | .hbm, ⟨6, _⟩ => ⟨S128, .f32⟩
  | .hbm, ⟨7, _⟩ => ⟨S1x64, .f32⟩
  | .hbm, ⟨8, _⟩ => ⟨S64, .f32⟩
  | .hbm, ⟨9, _⟩ => ⟨S1x64, .f32⟩
  | .hbm, ⟨10, _⟩ => ⟨S64, .f32⟩
  | .hbm, ⟨11, _⟩ => ⟨S1x64, .f32⟩
  | .hbm, ⟨12, _⟩ => ⟨S64, .f32⟩
  | .hbm, ⟨13, _⟩ => ⟨S1x64, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S8x4x2x8448x64, .f32⟩
  | .hbm, ⟨27, _⟩ => ⟨S8x4x8448x128, .f32⟩
  | .hbm, ⟨28, _⟩ => ⟨S8x4x2x8192x8448, .f32⟩
  | .hbm, ⟨29, _⟩ => ⟨S_, .f32⟩
  | .hbm, ⟨30, _⟩ => ⟨S8x4x2x8192x8448, .f32⟩
  | .hbm, ⟨31, _⟩ => ⟨S8x4x2x8192x8448, .f32⟩
  | .hbm, ⟨32, _⟩ => ⟨S_, .f32⟩
  | .hbm, ⟨33, _⟩ => ⟨S8x4x2x8192, .f32⟩
  | .hbm, ⟨34, _⟩ => ⟨S_, .f32⟩
  | .hbm, ⟨35, _⟩ => ⟨S8x4x2x8192, .f32⟩
  | .hbm, ⟨36, _⟩ => ⟨S8x4x2x8192, .f32⟩
  | .hbm, ⟨37, _⟩ => ⟨S8x4x2x8192x1, .f32⟩
  | .hbm, ⟨38, _⟩ => ⟨S8x4x2x8192x8448, .f32⟩
  | .hbm, ⟨39, _⟩ => ⟨S8x4x2x8192x8448, .f32⟩
  | .hbm, ⟨40, _⟩ => ⟨S8x4x2x8192x8448, .f32⟩
  | .hbm, ⟨41, _⟩ => ⟨S_, .f32⟩
  | .hbm, ⟨42, _⟩ => ⟨S8x4x2x8192, .f32⟩
  | .hbm, ⟨43, _⟩ => ⟨S8x4x2x8192x1, .f32⟩
  | .hbm, ⟨44, _⟩ => ⟨S8x4x2x8192x8448, .f32⟩
  | .hbm, ⟨45, _⟩ => ⟨S8x4x2x8192x8448, .f32⟩
  | .hbm, ⟨46, _⟩ => ⟨S8x4x1x8192x8448, .f32⟩
  | .hbm, ⟨47, _⟩ => ⟨S8x4x8192x8448, .f32⟩
  | .hbm, ⟨48, _⟩ => ⟨S8x4x1x8192x8448, .f32⟩
  | .hbm, ⟨49, _⟩ => ⟨S8x4x8192x8448, .f32⟩
  | .hbm, ⟨50, _⟩ => ⟨S8x4x8192x8448, .f32⟩
  | .hbm, ⟨51, _⟩ => ⟨S8x4x8192x8448, .f32⟩
  | .hbm, ⟨52, _⟩ => ⟨S8x4x8192x8448, .f32⟩
  | .hbm, ⟨53, _⟩ => ⟨S8x4x8192x128, .f32⟩
  | .hbm, ⟨54, _⟩ => ⟨S8x4x8192x128, .f32⟩
  | .hbm, ⟨55, _⟩ => ⟨S_, .f32⟩
  | .hbm, ⟨56, _⟩ => ⟨S8x4x8192, .f32⟩
  | .hbm, ⟨57, _⟩ => ⟨S8x4x8192x1, .f32⟩
  | .hbm, ⟨58, _⟩ => ⟨S_, .f32⟩
  | .hbm, ⟨59, _⟩ => ⟨S8x4x8192x1, .f32⟩
  | .hbm, ⟨60, _⟩ => ⟨S8x4x8192x1, .f32⟩
  | .hbm, ⟨61, _⟩ => ⟨S_, .f32⟩
  | .hbm, ⟨62, _⟩ => ⟨S8x4x8192x1, .f32⟩
  | .hbm, ⟨63, _⟩ => ⟨S8x4x8192x1, .f32⟩
  | .hbm, ⟨64, _⟩ => ⟨S8x4x8192x1, .f32⟩
  | .hbm, ⟨65, _⟩ => ⟨S8x4x8192x128, .f32⟩
  | .hbm, ⟨66, _⟩ => ⟨S8x4x8192x128, .f32⟩
  | .hbm, ⟨67, _⟩ => ⟨S1x1x1x128, .f32⟩
  | .hbm, ⟨68, _⟩ => ⟨S8x4x8192x128, .f32⟩
  | .hbm, ⟨69, _⟩ => ⟨S8x4x8192x128, .f32⟩
  | .hbm, ⟨70, _⟩ => ⟨S_, .f32⟩
  | .hbm, ⟨71, _⟩ => ⟨S8x4x8192x128, .f32⟩
  | .hbm, ⟨72, _⟩ => ⟨S8x4x8192x128, .f32⟩
  | .hbm, ⟨73, _⟩ => ⟨S8x8192x4x128, .f32⟩
  | .hbm, ⟨74, _⟩ => ⟨S8x8192x512, .f32⟩
  | .hbm, ⟨75, _⟩ => ⟨S8x8192x512, .bf16⟩
  | _, _ => ⟨S8x4x2x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩

abbrev nD : Nat := 1
abbrev τ : Topo := Topo.v7x

variable {F : FTy → Type} [FloatOps F]
-- ==== Kernel2.lean ====
abbrev S8x8192x1024 : Shape := ⟨3, ![8, 8192, 1024]⟩
abbrev S8x1x1024 : Shape := ⟨3, ![8, 1, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S1x2816 : Shape := ⟨2, ![1, 2816]⟩
abbrev S1x1024 : Shape := ⟨2, ![1, 1024]⟩
abbrev S1x512x1024 : Shape := ⟨3, ![1, 512, 1024]⟩
abbrev S1x8x1024 : Shape := ⟨3, ![1, 8, 1024]⟩
abbrev S1x1x1024 : Shape := ⟨3, ![1, 1, 1024]⟩
abbrev S1024x2816 : Shape := ⟨2, ![1024, 2816]⟩
abbrev S528x1024 : Shape := ⟨2, ![528, 1024]⟩
abbrev S1x528x2816 : Shape := ⟨3, ![1, 528, 2816]⟩
abbrev S512x1024 : Shape := ⟨2, ![512, 1024]⟩
abbrev S8x1024 : Shape := ⟨2, ![8, 1024]⟩
abbrev S528x2816 : Shape := ⟨2, ![528, 2816]⟩
abbrev S512x2816 : Shape := ⟨2, ![512, 2816]⟩
abbrev S512 : Shape := ⟨1, ![512]⟩
abbrev S512x1 : Shape := ⟨2, ![512, 1]⟩

abbrev nBuf : Space → Nat
  | .hbm => 16
  | .vmem => 24
  | .smem => 0
  | _ => 0

abbrev bufTy : (tb : Table) → Fin (tcTables nBuf tb) → BufTy
  | .hbm, ⟨0, _⟩ => ⟨S8x8192x1024, .f32⟩
  | .hbm, ⟨1, _⟩ => ⟨S8x1x1024, .f32⟩
  | .hbm, ⟨2, _⟩ => ⟨S8x1x1024, .f32⟩
  | .hbm, ⟨3, _⟩ => ⟨S8x1x1024, .f32⟩
  | .hbm, ⟨4, _⟩ => ⟨S1024x5632, .f32⟩
  | .hbm, ⟨5, _⟩ => ⟨S3x2816, .f32⟩
  | .hbm, ⟨6, _⟩ => ⟨S2816, .f32⟩
  | .hbm, ⟨7, _⟩ => ⟨S2816x1024, .f32⟩
  | .hbm, ⟨8, _⟩ => ⟨S1024, .f32⟩
  | .hbm, ⟨9, _⟩ => ⟨S1024, .f32⟩
  | .hbm, ⟨10, _⟩ => ⟨S1024x5632, .bf16⟩
  | .hbm, ⟨11, _⟩ => ⟨S2816x1024, .bf16⟩
  | .hbm, ⟨12, _⟩ => ⟨S1x2816, .f32⟩
  | .hbm, ⟨13, _⟩ => ⟨S1x1024, .f32⟩
  | .hbm, ⟨14, _⟩ => ⟨S1x1024, .f32⟩
  | .hbm, ⟨15, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1024x2816, .bf16⟩
  | .local _ .vmem, ⟨13, _⟩ => ⟨S1024x2816, .bf16⟩
  | .local _ .vmem, ⟨14, _⟩ => ⟨S3x2816, .f32⟩
  | .local _ .vmem, ⟨15, _⟩ => ⟨S1x2816, .f32⟩
  | .local _ .vmem, ⟨16, _⟩ => ⟨S2816x1024, .bf16⟩
  | .local _ .vmem, ⟨17, _⟩ => ⟨S1x1024, .f32⟩
  | .local _ .vmem, ⟨18, _⟩ => ⟨S1x1024, .f32⟩
  | .local _ .vmem, ⟨19, _⟩ => ⟨S1x512x1024, .f32⟩
  | .local _ .vmem, ⟨20, _⟩ => ⟨S1x512x1024, .f32⟩
  | .local _ .vmem, ⟨21, _⟩ => ⟨S528x1024, .f32⟩
  | .local _ .vmem, ⟨22, _⟩ => ⟨S1x528x2816, .f32⟩
  | .local _ .vmem, ⟨23, _⟩ => ⟨S512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨3, ![8, 16, 1], ![false, false, false]⟩

def k0_cond2 (i : grid0.Coords) : BitVec 1 :=
  let arg2 : BitVec 32 := BitVec.ofNat 32 (i 2).val
  let c0_i32_30 : BitVec 32 := 0#32
  let v56 : BitVec 1 := Scalar.cmpi .eq arg2 c0_i32_30
  let v57 : BitVec 32 := Scalar.extui v56
  let c0_i32_31 : BitVec 32 := 0#32
  let v58 : BitVec 1 := Scalar.cmpi .ne v57 c0_i32_31
  v58

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg2
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, true]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, true]

abbrev stage0_8 : Fin 1 → Memref sig .tc .vmem S3x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, true]

abbrev stage0_9 : Fin 1 → Memref sig .tc .vmem S1x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, true]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]
-- ==== Reference2Ideal.lean ====
abbrev S8x8192x1024 : Shape := ⟨3, ![8, 8192, 1024]⟩
abbrev S8x1x1024 : Shape := ⟨3, ![8, 1, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S_ : Shape := ⟨0, ![]⟩
abbrev S8x8192x5632 : Shape := ⟨3, ![8, 8192, 5632]⟩
abbrev S8x8192x2816 : Shape := ⟨3, ![8, 8192, 2816]⟩
abbrev S8x8194x2816 : Shape := ⟨3, ![8, 8194, 2816]⟩
abbrev S1x2816 : Shape := ⟨2, ![1, 2816]⟩
abbrev S1x1x2816 : Shape := ⟨3, ![1, 1, 2816]⟩
abbrev S8x8192 : Shape := ⟨2, ![8, 8192]⟩
abbrev S8x8192x1 : Shape := ⟨3, ![8, 8192, 1]⟩
abbrev S1x1x1024 : Shape := ⟨3, ![1, 1, 1024]⟩

abbrev nBuf : Space → Nat
  | .hbm => 92
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x1x1024, .f32⟩
  | .hbm, ⟨2, _⟩ => ⟨S8x1x1024, .f32⟩
  | .hbm, ⟨3, _⟩ => ⟨S8x1x1024, .f32⟩
  | .hbm, ⟨4, _⟩ => ⟨S1024x5632, .f32⟩
  | .hbm, ⟨5, _⟩ => ⟨S3x2816, .f32⟩
  | .hbm, ⟨6, _⟩ => ⟨S2816, .f32⟩
  | .hbm, ⟨7, _⟩ => ⟨S2816x1024, .f32⟩
  | .hbm, ⟨8, _⟩ => ⟨S1024, .f32⟩
  | .hbm, ⟨9, _⟩ => ⟨S1024, .f32⟩
  | .hbm, ⟨10, _⟩ => ⟨S_, .f32⟩
  | .hbm, ⟨11, _⟩ => ⟨S8x1x1024, .f32⟩
  | .hbm, ⟨12, _⟩ => ⟨S8x1x1024, .f32⟩
  | .hbm, ⟨13, _⟩ => ⟨S8x8192x1024, .f32⟩
  | .hbm, ⟨14, _⟩ => ⟨S8x8192x1024, .f32⟩
  | .hbm, ⟨15, _⟩ => ⟨S8x8192x1024, .f32⟩
  | .hbm, ⟨16, _⟩ => ⟨S8x8192x1024, .f32⟩
  | .hbm, ⟨17, _⟩ => ⟨S8x8192x5632, .f32⟩
  | .hbm, ⟨18, _⟩ => ⟨S8x8192x2816, .f32⟩
  | .hbm, ⟨19, _⟩ => ⟨S8x8192x2816, .f32⟩
  | .hbm, ⟨20, _⟩ => ⟨S_, .i32⟩
  | .hbm, ⟨21, _⟩ => ⟨S_, .f32⟩
  | .hbm, ⟨22, _⟩ => ⟨S8x8194x2816, .f32⟩
  | .hbm, ⟨23, _⟩ => ⟨S8x8192x2816, .f32⟩
  | .hbm, ⟨24, _⟩ => ⟨S1x2816, .f32⟩
  | .hbm, ⟨25, _⟩ => ⟨S2816, .f32⟩
  | .hbm, ⟨26, _⟩ => ⟨S1x1x2816, .f32⟩
  | .hbm, ⟨27, _⟩ => ⟨S8x8192x2816, .f32⟩
  | .hbm, ⟨28, _⟩ => ⟨S8x8192x2816, .f32⟩
  | .hbm, ⟨29, _⟩ => ⟨S8x8192x2816, .f32⟩
  | .hbm, ⟨30, _⟩ => ⟨S1x2816, .f32⟩
  | .hbm, ⟨31, _⟩ => ⟨S2816, .f32⟩
  | .hbm, ⟨32, _⟩ => ⟨S1x1x2816, .f32⟩
  | .hbm, ⟨33, _⟩ => ⟨S8x8192x2816, .f32⟩
  | .hbm, ⟨34, _⟩ => ⟨S8x8192x2816, .f32⟩
  | .hbm, ⟨35, _⟩ => ⟨S8x8192x2816, .f32⟩
  | .hbm, ⟨36, _⟩ => ⟨S8x8192x2816, .f32⟩
  | .hbm, ⟨37, _⟩ => ⟨S1x2816, .f32⟩
  | .hbm, ⟨38, _⟩ => ⟨S2816, .f32⟩
  | .hbm, ⟨39, _⟩ => ⟨S1x1x2816, .f32⟩
  | .hbm, ⟨40, _⟩ => ⟨S8x8192x2816, .f32⟩
  | .hbm, ⟨41, _⟩ => ⟨S8x8192x2816, .f32⟩
  | .hbm, ⟨42, _⟩ => ⟨S8x8192x2816, .f32⟩
  | .hbm, ⟨43, _⟩ => ⟨S1x1x2816, .f32⟩
  | .hbm, ⟨44, _⟩ => ⟨S8x8192x2816, .f32⟩
  | .hbm, ⟨45, _⟩ => ⟨S8x8192x2816, .f32⟩
  | .hbm, ⟨46, _⟩ => ⟨S_, .f32⟩
  | .hbm, ⟨47, _⟩ => ⟨S8x8192x2816, .f32⟩
  | .hbm, ⟨48, _⟩ => ⟨S8x8192x2816, .f32⟩
  | .hbm, ⟨49, _⟩ => ⟨S8x8192x2816, .f32⟩
  | .hbm, ⟨50, _⟩ => ⟨S_, .f32⟩
  | .hbm, ⟨51, _⟩ => ⟨S8x8192x2816, .f32⟩
  | .hbm, ⟨52, _⟩ => ⟨S8x8192x2816, .f32⟩
  | .hbm, ⟨53, _⟩ => ⟨S8x8192x2816, .f32⟩
  | .hbm, ⟨54, _⟩ => ⟨S8x8192x2816, .f32⟩
  | .hbm, ⟨55, _⟩ => ⟨S8x8192x2816, .f32⟩
  | .hbm, ⟨56, _⟩ => ⟨S8x8192x1024, .f32⟩
  | .hbm, ⟨57, _⟩ => ⟨S_, .f32⟩
  | .hbm, ⟨58, _⟩ => ⟨S8x8192x1024, .f32⟩
  | .hbm, ⟨59, _⟩ => ⟨S8x8192x1024, .f32⟩
  | .hbm, ⟨60, _⟩ => ⟨S8x8192x1024, .f32⟩
  | .hbm, ⟨61, _⟩ => ⟨S8x8192x1024, .f32⟩
  | .hbm, ⟨62, _⟩ => ⟨S8x8192x1024, .f32⟩
  | .hbm, ⟨63, _⟩ => ⟨S_, .f32⟩
  | .hbm, ⟨64, _⟩ => ⟨S8x8192, .f32⟩
  | .hbm, ⟨65, _⟩ => ⟨S8x8192x1, .f32⟩
  | .hbm, ⟨66, _⟩ => ⟨S_, .f32⟩
  | .hbm, ⟨67, _⟩ => ⟨S8x8192x1, .f32⟩
  | .hbm, ⟨68, _⟩ => ⟨S8x8192x1, .f32⟩
  | .hbm, ⟨69, _⟩ => ⟨S8x8192x1024, .f32⟩
  | .hbm, ⟨70, _⟩ => ⟨S8x8192x1024, .f32⟩
  | .hbm, ⟨71, _⟩ => ⟨S8x8192x1024, .f32⟩
  | .hbm, ⟨72, _⟩ => ⟨S_, .f32⟩
  | .hbm, ⟨73, _⟩ => ⟨S8x8192, .f32⟩
  | .hbm, ⟨74, _⟩ => ⟨S8x8192x1, .f32⟩
  | .hbm, ⟨75, _⟩ => ⟨S_, .f32⟩
  | .hbm, ⟨76, _⟩ => ⟨S8x8192x1, .f32⟩
  | .hbm, ⟨77, _⟩ => ⟨S8x8192x1, .f32⟩
  | .hbm, ⟨78, _⟩ => ⟨S8x8192x1024, .f32⟩
  | .hbm, ⟨79, _⟩ => ⟨S8x8192x1024, .f32⟩
  | .hbm, ⟨80, _⟩ => ⟨S_, .f32⟩
  | .hbm, ⟨81, _⟩ => ⟨S8x8192x1, .f32⟩
  | .hbm, ⟨82, _⟩ => ⟨S8x8192x1, .f32⟩
  | .hbm, ⟨83, _⟩ => ⟨S8x8192x1, .f32⟩
  | .hbm, ⟨84, _⟩ => ⟨S8x8192x1024, .f32⟩
  | .hbm, ⟨85, _⟩ => ⟨S8x8192x1024, .f32⟩
  | .hbm, ⟨86, _⟩ => ⟨S1x1x1024, .f32⟩
  | .hbm, ⟨87, _⟩ => ⟨S8x8192x1024, .f32⟩
  | .hbm, ⟨88, _⟩ => ⟨S8x8192x1024, .f32⟩
  | .hbm, ⟨89, _⟩ => ⟨S1x1x1024, .f32⟩
  | .hbm, ⟨90, _⟩ => ⟨S8x8192x1024, .f32⟩
  | .hbm, ⟨91, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_call0_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_0 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_1 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_2 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_3 : Ref sig .tc := ⟨.hbm, 63, rfl⟩
abbrev main_v47 : Ref sig .tc := ⟨.hbm, 64, rfl⟩
abbrev main_v48 : Ref sig .tc := ⟨.hbm, 65, rfl⟩
abbrev main_cst_4 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_5 : Ref sig .tc := ⟨.hbm, 72, rfl⟩
abbrev main_v54 : Ref sig .tc := ⟨.hbm, 73, rfl⟩
abbrev main_v55 : Ref sig .tc := ⟨.hbm, 74, rfl⟩
abbrev main_cst_6 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_7 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩

abbrev nD : Nat := 1
abbrev τ : Topo := Topo.v7x

variable {F : FTy → Type} [FloatOps F]
-- ==== Kernel3.lean ====
abbrev S8x8192x1024 : Shape := ⟨3, ![8, 8192, 1024]⟩
abbrev S8x1x1024 : Shape := ⟨3, ![8, 1, 1024]⟩
abbrev S1024x5664 : Shape := ⟨2, ![1024, 5664]⟩
abbrev S5x1536 : Shape := ⟨2, ![5, 1536]⟩
abbrev S1536 : Shape := ⟨1, ![1536]⟩
abbrev S1024x1024 : Shape := ⟨2, ![1024, 1024]⟩
abbrev S1024x1536 : Shape := ⟨2, ![1024, 1536]⟩
abbrev S1024x32 : Shape := ⟨2, ![1024, 32]⟩
abbrev S1024x512 : Shape := ⟨2, ![1024, 512]⟩
abbrev S1024x256 : Shape := ⟨2, ![1024, 256]⟩
abbrev S_ : Shape := ⟨0, ![]⟩
abbrev S1024x112 : Shape := ⟨2, ![1024, 112]⟩
abbrev S1024x4096 : Shape := ⟨2, ![1024, 4096]⟩
abbrev S1024x16 : Shape := ⟨2, ![1024, 16]⟩
abbrev S1x1536 : Shape := ⟨2, ![1, 1536]⟩
abbrev S8x8192x4096 : Shape := ⟨3, ![8, 8192, 4096]⟩
abbrev S8x8192x1536 : Shape := ⟨3, ![8, 8192, 1536]⟩
abbrev S8x8192x256 : Shape := ⟨3, ![8, 8192, 256]⟩
abbrev S1x512x1024 : Shape := ⟨3, ![1, 512, 1024]⟩
abbrev S1x8x1024 : Shape := ⟨3, ![1, 8, 1024]⟩
abbrev S1x1x1024 : Shape := ⟨3, ![1, 1, 1024]⟩
abbrev S1x512x4096 : Shape := ⟨3, ![1, 512, 4096]⟩
abbrev S1x512x1536 : Shape := ⟨3, ![1, 512, 1536]⟩
abbrev S1x512x256 : Shape := ⟨3, ![1, 512, 256]⟩
abbrev S528x1024 : Shape := ⟨2, ![528, 1024]⟩
abbrev S528x1536 : Shape := ⟨2, ![528, 1536]⟩
abbrev S1x1024 : Shape := ⟨2, ![1, 1024]⟩
abbrev S8x1024 : Shape := ⟨2, ![8, 1024]⟩
abbrev S512x1024 : Shape := ⟨2, ![512, 1024]⟩
abbrev S528x1 : Shape := ⟨2, ![528, 1]⟩
abbrev S512x4096 : Shape := ⟨2, ![512, 4096]⟩
abbrev S512x256 : Shape := ⟨2, ![512, 256]⟩
abbrev S528x256 : Shape := ⟨2, ![528, 256]⟩
abbrev S1x256 : Shape := ⟨2, ![1, 256]⟩

abbrev nBuf : Space → Nat
  | .hbm => 29
  | .vmem => 23
  | .smem => 0
  | _ => 0

abbrev bufTy : (tb : Table) → Fin (tcTables nBuf tb) → BufTy
  | .hbm, ⟨0, _⟩ => ⟨S8x8192x1024, .f32⟩
  | .hbm, ⟨1, _⟩ => ⟨S8x1x1024, .f32⟩
  | .hbm, ⟨2, _⟩ => ⟨S8x1x1024, .f32⟩
  | .hbm, ⟨3, _⟩ => ⟨S1024x5664, .f32⟩
  | .hbm, ⟨4, _⟩ => ⟨S5x1536, .f32⟩
  | .hbm, ⟨5, _⟩ => ⟨S1536, .f32⟩
  | .hbm, ⟨6, _⟩ => ⟨S1024x1024, .f32⟩
  | .hbm, ⟨7, _⟩ => ⟨S1024x1536, .f32⟩
  | .hbm, ⟨8, _⟩ => ⟨S1024x32, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x256, .f32⟩
  | .hbm, ⟨13, _⟩ => ⟨S1024x256, .f32⟩
  | .hbm, ⟨14, _⟩ => ⟨S1024x512, .f32⟩
  | .hbm, ⟨15, _⟩ => ⟨S1024x512, .f32⟩
  | .hbm, ⟨16, _⟩ => ⟨S_, .f32⟩
  | .hbm, ⟨17, _⟩ => ⟨S1024x112, .f32⟩
  | .hbm, ⟨18, _⟩ => ⟨S1024x4096, .f32⟩
  | .hbm, ⟨19, _⟩ => ⟨S1024x16, .f32⟩
  | .hbm, ⟨20, _⟩ => ⟨S1024x16, .f32⟩
  | .hbm, ⟨21, _⟩ => ⟨S1024x256, .f32⟩
  | .hbm, ⟨22, _⟩ => ⟨S1024x4096, .bf16⟩
  | .hbm, ⟨23, _⟩ => ⟨S1024x1536, .bf16⟩
  | .hbm, ⟨24, _⟩ => ⟨S1024x256, .bf16⟩
  | .hbm, ⟨25, _⟩ => ⟨S1x1536, .f32⟩
  | .hbm, ⟨26, _⟩ => ⟨S8x8192x4096, .bf16⟩
  | .hbm, ⟨27, _⟩ => ⟨S8x8192x1536, .bf16⟩
  | .hbm, ⟨28, _⟩ => ⟨S8x8192x256, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1024x4096, .bf16⟩
  | .local _ .vmem, ⟨11, _⟩ => ⟨S1024x1536, .bf16⟩
  | .local _ .vmem, ⟨12, _⟩ => ⟨S1024x256, .bf16⟩
  | .local _ .vmem, ⟨13, _⟩ => ⟨S5x1536, .f32⟩
  | .local _ .vmem, ⟨14, _⟩ => ⟨S1x1536, .f32⟩
  | .local _ .vmem, ⟨15, _⟩ => ⟨S1x512x4096, .bf16⟩
  | .local _ .vmem, ⟨16, _⟩ => ⟨S1x512x4096, .bf16⟩
  | .local _ .vmem, ⟨17, _⟩ => ⟨S1x512x1536, .bf16⟩
  | .local _ .vmem, ⟨18, _⟩ => ⟨S1x512x1536, .bf16⟩
  | .local _ .vmem, ⟨19, _⟩ => ⟨S1x512x256, .f32⟩
  | .local _ .vmem, ⟨20, _⟩ => ⟨S1x512x256, .f32⟩
  | .local _ .vmem, ⟨21, _⟩ => ⟨S528x1024, .f32⟩
  | .local _ .vmem, ⟨22, _⟩ => ⟨S528x1536, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19_0 : Ref sig .tc := ⟨.hbm, 26, rfl⟩
abbrev main_v19_1 : Ref sig .tc := ⟨.hbm, 27, rfl⟩
abbrev main_v19_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S5x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1536 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference3Ideal.lean ====
abbrev S8x8192x1024 : Shape := ⟨3, ![8, 8192, 1024]⟩
abbrev S8x1x1024 : Shape := ⟨3, ![8, 1, 1024]⟩
abbrev S1024x5664 : Shape := ⟨2, ![1024, 5664]⟩
abbrev S5x1536 : Shape := ⟨2, ![5, 1536]⟩
abbrev S1536 : Shape := ⟨1, ![1536]⟩
abbrev S_ : Shape := ⟨0, ![]⟩
abbrev S8x8192x5664 : Shape := ⟨3, ![8, 8192, 5664]⟩
abbrev S8x8192x2592 : Shape := ⟨3, ![8, 8192, 2592]⟩
abbrev S8x8192x1536 : Shape := ⟨3, ![8, 8192, 1536]⟩
abbrev S8x8192x32 : Shape := ⟨3, ![8, 8192, 32]⟩
abbrev S8x8196x1536 : Shape := ⟨3, ![8, 8196, 1536]⟩
abbrev S1x1536 : Shape := ⟨2, ![1, 1536]⟩
abbrev S1x1x1536 : Shape := ⟨3, ![1, 1, 1536]⟩
abbrev S8x8192x112 : Shape := ⟨3, ![8, 8192, 112]⟩
abbrev S8x8192x16 : Shape := ⟨3, ![8, 8192, 16]⟩
abbrev S8x8192x256 : Shape := ⟨3, ![8, 8192, 256]⟩
abbrev S8x8192x4096 : Shape := ⟨3, ![8, 8192, 4096]⟩

abbrev nBuf : Space → Nat
  | .hbm => 77
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x1x1024, .f32⟩
  | .hbm, ⟨2, _⟩ => ⟨S8x1x1024, .f32⟩
  | .hbm, ⟨3, _⟩ => ⟨S1024x5664, .f32⟩
  | .hbm, ⟨4, _⟩ => ⟨S5x1536, .f32⟩
  | .hbm, ⟨5, _⟩ => ⟨S1536, .f32⟩
  | .hbm, ⟨6, _⟩ => ⟨S_, .f32⟩
  | .hbm, ⟨7, _⟩ => ⟨S8x1x1024, .f32⟩
  | .hbm, ⟨8, _⟩ => ⟨S8x1x1024, .f32⟩
  | .hbm, ⟨9, _⟩ => ⟨S8x8192x1024, .f32⟩
  | .hbm, ⟨10, _⟩ => ⟨S8x8192x1024, .f32⟩
  | .hbm, ⟨11, _⟩ => ⟨S8x8192x1024, .f32⟩
  | .hbm, ⟨12, _⟩ => ⟨S8x8192x1024, .f32⟩
  | .hbm, ⟨13, _⟩ => ⟨S8x8192x5664, .f32⟩
  | .hbm, ⟨14, _⟩ => ⟨S8x8192x2592, .f32⟩
  | .hbm, ⟨15, _⟩ => ⟨S8x8192x1536, .f32⟩
  | .hbm, ⟨16, _⟩ => ⟨S8x8192x1536, .f32⟩
  | .hbm, ⟨17, _⟩ => ⟨S8x8192x1024, .f32⟩
  | .hbm, ⟨18, _⟩ => ⟨S8x8192x1536, .f32⟩
  | .hbm, ⟨19, _⟩ => ⟨S8x8192x32, .f32⟩
  | .hbm, ⟨20, _⟩ => ⟨S_, .i32⟩
  | .hbm, ⟨21, _⟩ => ⟨S_, .f32⟩
  | .hbm, ⟨22, _⟩ => ⟨S8x8196x1536, .f32⟩
  | .hbm, ⟨23, _⟩ => ⟨S8x8192x1536, .f32⟩
  | .hbm, ⟨24, _⟩ => ⟨S1x1536, .f32⟩
  | .hbm, ⟨25, _⟩ => ⟨S1536, .f32⟩
  | .hbm, ⟨26, _⟩ => ⟨S1x1x1536, .f32⟩
  | .hbm, ⟨27, _⟩ => ⟨S8x8192x1536, .f32⟩
  | .hbm, ⟨28, _⟩ => ⟨S8x8192x1536, .f32⟩
  | .hbm, ⟨29, _⟩ => ⟨S8x8192x1536, .f32⟩
  | .hbm, ⟨30, _⟩ => ⟨S1x1536, .f32⟩
  | .hbm, ⟨31, _⟩ => ⟨S1536, .f32⟩
  | .hbm, ⟨32, _⟩ => ⟨S1x1x1536, .f32⟩
  | .hbm, ⟨33, _⟩ => ⟨S8x8192x1536, .f32⟩
  | .hbm, ⟨34, _⟩ => ⟨S8x8192x1536, .f32⟩
  | .hbm, ⟨35, _⟩ => ⟨S8x8192x1536, .f32⟩
  | .hbm, ⟨36, _⟩ => ⟨S8x8192x1536, .f32⟩
  | .hbm, ⟨37, _⟩ => ⟨S1x1536, .f32⟩
  | .hbm, ⟨38, _⟩ => ⟨S1536, .f32⟩
  | .hbm, ⟨39, _⟩ => ⟨S1x1x1536, .f32⟩
  | .hbm, ⟨40, _⟩ => ⟨S8x8192x1536, .f32⟩
  | .hbm, ⟨41, _⟩ => ⟨S8x8192x1536, .f32⟩
  | .hbm, ⟨42, _⟩ => ⟨S8x8192x1536, .f32⟩
  | .hbm, ⟨43, _⟩ => ⟨S8x8192x1536, .f32⟩
  | .hbm, ⟨44, _⟩ => ⟨S1x1536, .f32⟩
  | .hbm, ⟨45, _⟩ => ⟨S1536, .f32⟩
  | .hbm, ⟨46, _⟩ => ⟨S1x1x1536, .f32⟩
  | .hbm, ⟨47, _⟩ => ⟨S8x8192x1536, .f32⟩
  | .hbm, ⟨48, _⟩ => ⟨S8x8192x1536, .f32⟩
  | .hbm, ⟨49, _⟩ => ⟨S8x8192x1536, .f32⟩
  | .hbm, ⟨50, _⟩ => ⟨S8x8192x1536, .f32⟩
  | .hbm, ⟨51, _⟩ => ⟨S1x1536, .f32⟩
  | .hbm, ⟨52, _⟩ => ⟨S1536, .f32⟩
  | .hbm, ⟨53, _⟩ => ⟨S1x1x1536, .f32⟩
  | .hbm, ⟨54, _⟩ => ⟨S8x8192x1536, .f32⟩
  | .hbm, ⟨55, _⟩ => ⟨S8x8192x1536, .f32⟩
  | .hbm, ⟨56, _⟩ => ⟨S8x8192x1536, .f32⟩
  | .hbm, ⟨57, _⟩ => ⟨S1x1x1536, .f32⟩
  | .hbm, ⟨58, _⟩ => ⟨S8x8192x1536, .f32⟩
  | .hbm, ⟨59, _⟩ => ⟨S8x8192x1536, .f32⟩
  | .hbm, ⟨60, _⟩ => ⟨S8x8192x1536, .f32⟩
  | .hbm, ⟨61, _⟩ => ⟨S8x8192x1536, .f32⟩
  | .hbm, ⟨62, _⟩ => ⟨S_, .f32⟩
  | .hbm, ⟨63, _⟩ => ⟨S8x8192x1536, .f32⟩
  | .hbm, ⟨64, _⟩ => ⟨S8x8192x1536, .f32⟩
  | .hbm, ⟨65, _⟩ => ⟨S_, .f32⟩
  | .hbm, ⟨66, _⟩ => ⟨S8x8192x1536, .f32⟩
  | .hbm, ⟨67, _⟩ => ⟨S8x8192x1536, .f32⟩
  | .hbm, ⟨68, _⟩ => ⟨S8x8192x1536, .f32⟩
  | .hbm, ⟨69, _⟩ => ⟨S_, .f32⟩
  | .hbm, ⟨70, _⟩ => ⟨S8x8192x112, .f32⟩
  | .hbm, ⟨71, _⟩ => ⟨S8x8192x16, .f32⟩
  | .hbm, ⟨72, _⟩ => ⟨S8x8192x16, .f32⟩
  | .hbm, ⟨73, _⟩ => ⟨S8x8192x256, .f32⟩
  | .hbm, ⟨74, _⟩ => ⟨S8x8192x4096, .f32⟩
  | .hbm, ⟨75, _⟩ => ⟨S8x8192x4096, .bf16⟩
  | .hbm, ⟨76, _⟩ => ⟨S8x8192x1536, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_call0_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_call1_v0 : Ref sig .tc := ⟨.hbm, 60, rfl⟩
abbrev main_call1_v1 : Ref sig .tc := ⟨.hbm, 61, rfl⟩
abbrev main_call1_cst : Ref sig .tc := ⟨.hbm, 62, rfl⟩
abbrev main_call1_v2 : Ref sig .tc := ⟨.hbm, 63, rfl⟩
abbrev main_call1_v3 : Ref sig .tc := ⟨.hbm, 64, rfl⟩
abbrev main_call1_cst_0 : Ref sig .tc := ⟨.hbm, 65, rfl⟩
abbrev main_call1_v4 : Ref sig .tc := ⟨.hbm, 66, rfl⟩
abbrev main_call1_v5 : Ref sig .tc := ⟨.hbm, 67, rfl⟩
abbrev main_v51 : Ref sig .tc := ⟨.hbm, 68, rfl⟩
abbrev main_cst_0 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩

abbrev nD : Nat := 1
abbrev τ : Topo := Topo.v7x

variable {F : FTy → Type} [FloatOps F]
-- ==== Kernel4.lean ====
abbrev S8x8192x1024 : Shape := ⟨3, ![8, 8192, 1024]⟩
abbrev S8x8192x5664 : Shape := ⟨3, ![8, 8192, 5664]⟩
abbrev S8x8192x1536 : Shape := ⟨3, ![8, 8192, 1536]⟩
abbrev S8x8192x2x8x64 : Shape := ⟨5, ![8, 8192, 2, 8, 64]⟩
abbrev S8x8192x512 : Shape := ⟨3, ![8, 8192, 512]⟩
abbrev S8x8192x4x1x128 : Shape := ⟨5, ![8, 8192, 4, 1, 128]⟩
abbrev S16 : Shape := ⟨1, ![16]⟩
abbrev S1024 : Shape := ⟨1, ![1024]⟩
abbrev S128 : Shape := ⟨1, ![128]⟩
abbrev S2048x1024 : Shape := ⟨2, ![2048, 1024]⟩
abbrev S8x1x1024 : Shape := ⟨3, ![8, 1, 1024]⟩
abbrev S8x8192x3072 : Shape := ⟨3, ![8, 8192, 3072]⟩
abbrev S8x8192x4096 : Shape := ⟨3, ![8, 8192, 4096]⟩
abbrev S16x64 : Shape := ⟨2, ![16, 64]⟩
abbrev S1x1024 : Shape := ⟨2, ![1, 1024]⟩
abbrev S8x1x8192x1024 : Shape := ⟨4, ![8, 1, 8192, 1024]⟩
abbrev S8x2x8192x1024 : Shape := ⟨4, ![8, 2, 8192, 1024]⟩
abbrev S8x1x8192x512 : Shape := ⟨4, ![8, 1, 8192, 512]⟩
abbrev S8x2x8192x512 : Shape := ⟨4, ![8, 2, 8192, 512]⟩
abbrev S1x128 : Shape := ⟨2, ![1, 128]⟩
abbrev S1x512x1024 : Shape := ⟨3, ![1, 512, 1024]⟩
abbrev S1x1x512x1024 : Shape := ⟨4, ![1, 1, 512, 1024]⟩
abbrev S1x512x512 : Shape := ⟨3, ![1, 512, 512]⟩
abbrev S1x1x512x512 : Shape := ⟨4, ![1, 1, 512, 512]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S512x512 : Shape := ⟨2, ![512, 512]⟩
abbrev S512x128 : Shape := ⟨2, ![512, 128]⟩
abbrev S512x2048 : Shape := ⟨2, ![512, 2048]⟩

abbrev nBuf : Space → Nat
  | .hbm => 42
  | .vmem => 28
  | .smem => 0
  | _ => 0

abbrev bufTy : (tb : Table) → Fin (tcTables nBuf tb) → BufTy
  | .hbm, ⟨0, _⟩ => ⟨S8x8192x1024, .f32⟩
  | .hbm, ⟨1, _⟩ => ⟨S8x8192x5664, .f32⟩
  | .hbm, ⟨2, _⟩ => ⟨S8x8192x1536, .f32⟩
  | .hbm, ⟨3, _⟩ => ⟨S8x8192x2x8x64, .f32⟩
  | .hbm, ⟨4, _⟩ => ⟨S8x8192x2x8x64, .f32⟩
  | .hbm, ⟨5, _⟩ => ⟨S8x8192x512, .f32⟩
  | .hbm, ⟨6, _⟩ => ⟨S8x8192x4x1x128, .f32⟩
  | .hbm, ⟨7, _⟩ => ⟨S8x8192x4x1x128, .f32⟩
  | .hbm, ⟨8, _⟩ => ⟨S16, .f32⟩
  | .hbm, ⟨9, _⟩ => ⟨S1024, .f32⟩
  | .hbm, ⟨10, _⟩ => ⟨S128, .f32⟩
  | .hbm, ⟨11, _⟩ => ⟨S2048x1024, .f32⟩
  | .hbm, ⟨12, _⟩ => ⟨S8x1x1024, .f32⟩
  | .hbm, ⟨13, _⟩ => ⟨S1024, .f32⟩
  | .hbm, ⟨14, _⟩ => ⟨S1024, .f32⟩
  | .hbm, ⟨15, _⟩ => ⟨S8x8192x1024, .f32⟩
  | .hbm, ⟨16, _⟩ => ⟨S8x8192x3072, .f32⟩
  | .hbm, ⟨17, _⟩ => ⟨S8x8192x4096, .f32⟩
  | .hbm, ⟨18, _⟩ => ⟨S8x8192x4096, .bf16⟩
  | .hbm, ⟨19, _⟩ => ⟨S16x64, .f32⟩
  | .hbm, ⟨20, _⟩ => ⟨S1024, .f32⟩
  | .hbm, ⟨21, _⟩ => ⟨S1x1024, .f32⟩
  | .hbm, ⟨22, _⟩ => ⟨S8x8192x1024, .f32⟩
  | .hbm, ⟨23, _⟩ => ⟨S8x8192x1024, .f32⟩
  | .hbm, ⟨24, _⟩ => ⟨S8x1x8192x1024, .f32⟩
  | .hbm, ⟨25, _⟩ => ⟨S8x1x8192x1024, .f32⟩
  | .hbm, ⟨26, _⟩ => ⟨S8x2x8192x1024, .f32⟩
  | .hbm, ⟨27, _⟩ => ⟨S8x2x8192x1024, .bf16⟩
  | .hbm, ⟨28, _⟩ => ⟨S8x8192x1536, .bf16⟩
  | .hbm, ⟨29, _⟩ => ⟨S8x8192x512, .bf16⟩
  | .hbm, ⟨30, _⟩ => ⟨S8x8192x512, .f32⟩
  | .hbm, ⟨31, _⟩ => ⟨S8x8192x512, .f32⟩
  | .hbm, ⟨32, _⟩ => ⟨S8x1x8192x512, .f32⟩
  | .hbm, ⟨33, _⟩ => ⟨S8x1x8192x512, .f32⟩
  | .hbm, ⟨34, _⟩ => ⟨S8x2x8192x512, .f32⟩
  | .hbm, ⟨35, _⟩ => ⟨S8x2x8192x512, .bf16⟩
  | .hbm, ⟨36, _⟩ => ⟨S2048x1024, .bf16⟩
  | .hbm, ⟨37, _⟩ => ⟨S1x1024, .f32⟩
  | .hbm, ⟨38, _⟩ => ⟨S1x128, .f32⟩
  | .hbm, ⟨39, _⟩ => ⟨S1x1024, .f32⟩
  | .hbm, ⟨40, _⟩ => ⟨S1x1024, .f32⟩
  | .hbm, ⟨41, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x512x1024, .bf16⟩
  | .local _ .vmem, ⟨3, _⟩ => ⟨S1x1x512x1024, .bf16⟩
  | .local _ .vmem, ⟨4, _⟩ => ⟨S1x1x512x1024, .bf16⟩
  | .local _ .vmem, ⟨5, _⟩ => ⟨S1x1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x512, .bf16⟩
  | .local _ .vmem, ⟨11, _⟩ => ⟨S1x512x512, .bf16⟩
  | .local _ .vmem, ⟨12, _⟩ => ⟨S1x1x512x512, .bf16⟩
  | .local _ .vmem, ⟨13, _⟩ => ⟨S1x1x512x512, .bf16⟩
  | .local _ .vmem, ⟨14, _⟩ => ⟨S1x1x512x512, .bf16⟩
  | .local _ .vmem, ⟨15, _⟩ => ⟨S1x1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x1024, .f32⟩
  | .local _ .vmem, ⟨19, _⟩ => ⟨S1x1024, .f32⟩
  | .local _ .vmem, ⟨20, _⟩ => ⟨S1x128, .f32⟩
  | .local _ .vmem, ⟨21, _⟩ => ⟨S2048x1024, .bf16⟩
  | .local _ .vmem, ⟨22, _⟩ => ⟨S1x1x1024, .f32⟩
  | .local _ .vmem, ⟨23, _⟩ => ⟨S1x1x1024, .f32⟩
  | .local _ .vmem, ⟨24, _⟩ => ⟨S1x1024, .f32⟩
  | .local _ .vmem, ⟨25, _⟩ => ⟨S1x1024, .f32⟩
  | .local _ .vmem, ⟨26, _⟩ => ⟨S1x512x1024, .f32⟩
  | .local _ .vmem, ⟨27, _⟩ => ⟨S1x512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem15_0 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2048x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference4Ideal.lean ====
abbrev S8x8192x1024 : Shape := ⟨3, ![8, 8192, 1024]⟩
abbrev S8x8192x5664 : Shape := ⟨3, ![8, 8192, 5664]⟩
abbrev S8x8192x1536 : Shape := ⟨3, ![8, 8192, 1536]⟩
abbrev S8x8192x2x8x64 : Shape := ⟨5, ![8, 8192, 2, 8, 64]⟩
abbrev S8x8192x512 : Shape := ⟨3, ![8, 8192, 512]⟩
abbrev S8x8192x4x1x128 : Shape := ⟨5, ![8, 8192, 4, 1, 128]⟩
abbrev S16 : Shape := ⟨1, ![16]⟩
abbrev S1024 : Shape := ⟨1, ![1024]⟩
abbrev S128 : Shape := ⟨1, ![128]⟩
abbrev S2048x1024 : Shape := ⟨2, ![2048, 1024]⟩
abbrev S8x1x1024 : Shape := ⟨3, ![8, 1, 1024]⟩
abbrev S8x8192x2592 : Shape := ⟨3, ![8, 8192, 2592]⟩
abbrev S8x8192x32 : Shape := ⟨3, ![8, 8192, 32]⟩
abbrev S8x8192x256 : Shape := ⟨3, ![8, 8192, 256]⟩
abbrev S2x8x1 : Shape := ⟨3, ![2, 8, 1]⟩
abbrev S1x1x2x8x1 : Shape := ⟨5, ![1, 1, 2, 8, 1]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x4x128 : Shape := ⟨4, ![8, 8192, 4, 128]⟩
abbrev S8x8192x4 : Shape := ⟨3, ![8, 8192, 4]⟩
abbrev S8x8192x4x1 : Shape := ⟨4, ![8, 8192, 4, 1]⟩
abbrev S1x1x1x128 : Shape := ⟨4, ![1, 1, 1, 128]⟩
abbrev S8x8192x2048 : Shape := ⟨3, ![8, 8192, 2048]⟩

abbrev nBuf : Space → Nat
  | .hbm => 138
  | .vmem => 0
  | .smem => 0
  | _ => 0

abbrev hbmTy0_0 (i : Nat) : BufTy := match i % 128 with
  | 0 => ⟨S8x8192x1024, .f32⟩
  | 1 => ⟨S8x8192x5664, .f32⟩
  | 2 => ⟨S8x8192x1536, .f32⟩
  | 3 => ⟨S8x8192x2x8x64, .f32⟩
  | 4 => ⟨S8x8192x2x8x64, .f32⟩
  | 5 => ⟨S8x8192x512, .f32⟩
  | 6 => ⟨S8x8192x4x1x128, .f32⟩
  | 7 => ⟨S8x8192x4x1x128, .f32⟩
  | 8 => ⟨S16, .f32⟩
  | 9 => ⟨S1024, .f32⟩
  | 10 => ⟨S128, .f32⟩
  | 11 => ⟨S2048x1024, .f32⟩
  | 12 => ⟨S8x1x1024, .f32⟩
  | 13 => ⟨S1024, .f32⟩
  | 14 => ⟨S1024, .f32⟩
  | 15 => ⟨S8x8192x2592, .f32⟩
  | 16 => ⟨S8x8192x1536, .f32⟩
  | 17 => ⟨S8x8192x1536, .f32⟩
  | 18 => ⟨S8x8192x1024, .f32⟩
  | 19 => ⟨S8x8192x1536, .f32⟩
  | 20 => ⟨S8x8192x32, .f32⟩
  | 21 => ⟨S8x8192x1024, .f32⟩
  | 22 => ⟨S8x8192x256, .f32⟩
  | 23 => ⟨S8x8192x256, .f32⟩
  | 24 => ⟨S8x8192x2x8x64, .f32⟩
  | 25 => ⟨S8x8192x2x8x64, .f32⟩
  | 26 => ⟨S2x8x1, .f32⟩
  | 27 => ⟨S1x1x2x8x1, .f32⟩
  | 28 => ⟨S8x8192x2x8x64, .f32⟩
  | 29 => ⟨S8x8192x2x8x64, .f32⟩
  | 30 => ⟨S8x8192x2x8x64, .f32⟩
  | 31 => ⟨S8x8192x1024, .f32⟩
  | 32 => ⟨S8x8192x1024, .f32⟩
  | 33 => ⟨S8x8192x1024, .f32⟩
  | 34 => ⟨S_, .f32⟩
  | 35 => ⟨S8x8192x1024, .f32⟩
  | 36 => ⟨S8x8192x1024, .f32⟩
  | 37 => ⟨S_, .f32⟩
  | 38 => ⟨S8x8192x1024, .f32⟩
  | 39 => ⟨S8x8192x1024, .f32⟩
  | 40 => ⟨S8x8192x1024, .f32⟩
  | 41 => ⟨S8x8192x1024, .f32⟩
  | 42 => ⟨S8x8192x1024, .f32⟩
  | 43 => ⟨S_, .f32⟩
  | 44 => ⟨S8x8192, .f32⟩
  | 45 => ⟨S8x8192x1, .f32⟩
  | 46 => ⟨S_, .f32⟩
  | 47 => ⟨S8x8192x1, .f32⟩
  | 48 => ⟨S8x8192x1, .f32⟩
  | 49 => ⟨S_, .f32⟩
  | 50 => ⟨S8x8192x1, .f32⟩
  | 51 => ⟨S8x8192x1, .f32⟩
  | 52 => ⟨S8x8192x1, .f32⟩
  | 53 => ⟨S8x8192x1024, .f32⟩
  | 54 => ⟨S8x8192x1024, .f32⟩
  | 55 => ⟨S1x1x1024, .f32⟩
  | 56 => ⟨S8x8192x1024, .f32⟩
  | 57 => ⟨S8x8192x1024, .f32⟩
  | 58 => ⟨S8x8192x256, .f32⟩
  | 59 => ⟨S8x8192x256, .f32⟩
  | 60 => ⟨S8x8192x512, .f32⟩
  | 61 => ⟨S8x8192x512, .f32⟩
  | 62 => ⟨S8x8192x4x1x128, .f32⟩
  | 63 => ⟨S8x8192x4x128, .f32⟩
  | 64 => ⟨S_, .f32⟩
  | 65 => ⟨S8x8192x4, .f32⟩
  | 66 => ⟨S8x8192x4x1, .f32⟩
  | 67 => ⟨S_, .f32⟩
  | 68 => ⟨S8x8192x4x1, .f32⟩
  | 69 => ⟨S8x8192x4x1, .f32⟩
  | 70 => ⟨S8x8192x4x128, .f32⟩
  | 71 => ⟨S8x8192x4x128, .f32⟩
  | 72 => ⟨S8x8192x4x128, .f32⟩
  | 73 => ⟨S_, .f32⟩
  | 74 => ⟨S8x8192x4, .f32⟩
  | 75 => ⟨S8x8192x4x1, .f32⟩
  | 76 => ⟨S_, .f32⟩
  | 77 => ⟨S8x8192x4x1, .f32⟩
  | 78 => ⟨S8x8192x4x1, .f32⟩
  | 79 => ⟨S8x8192x4x128, .f32⟩
  | 80 => ⟨S8x8192x4x128, .f32⟩
  | 81 => ⟨S_, .f32⟩
  | 82 => ⟨S8x8192x4x1, .f32⟩
  | 83 => ⟨S8x8192x4x1, .f32⟩
  | 84 => ⟨S8x8192x4x1, .f32⟩
  | 85 => ⟨S8x8192x4x128, .f32⟩
  | 86 => ⟨S8x8192x4x128, .f32⟩
  | 87 => ⟨S1x1x1x128, .f32⟩
  | 88 => ⟨S8x8192x4x128, .f32⟩
  | 89 => ⟨S8x8192x4x128, .f32⟩
  | 90 => ⟨S8x8192x512, .f32⟩
  | 91 => ⟨S8x8192x512, .f32⟩
  | 92 => ⟨S8x8192x512, .f32⟩
  | 93 => ⟨S_, .f32⟩
  | 94 => ⟨S8x8192x512, .f32⟩
  | 95 => ⟨S8x8192x512, .f32⟩
  | 96 => ⟨S_, .f32⟩
  | 97 => ⟨S8x8192x512, .f32⟩
  | 98 => ⟨S8x8192x512, .f32⟩
  | 99 => ⟨S8x8192x512, .f32⟩
  | 100 => ⟨S8x8192x512, .f32⟩
  | 101 => ⟨S8x8192x2048, .f32⟩
  | 102 => ⟨S8x8192x1024, .f32⟩
  | 103 => ⟨S_, .f32⟩
  | 104 => ⟨S8x8192x1024, .f32⟩
  | 105 => ⟨S8x8192x1024, .f32⟩
  | 106 => ⟨S8x8192x1024, .f32⟩
  | 107 => ⟨S8x8192x1024, .f32⟩
  | 108 => ⟨S8x8192x1024, .f32⟩
  | 109 => ⟨S_, .f32⟩
  | 110 => ⟨S8x8192, .f32⟩
  | 111 => ⟨S8x8192x1, .f32⟩
  | 112 => ⟨S_, .f32⟩
  | 113 => ⟨S8x8192x1, .f32⟩
  | 114 => ⟨S8x8192x1, .f32⟩
  | 115 => ⟨S8x8192x1024, .f32⟩
  | 116 => ⟨S8x8192x1024, .f32⟩
  | 117 => ⟨S8x8192x1024, .f32⟩
  | 118 => ⟨S_, .f32⟩
  | 119 => ⟨S8x8192, .f32⟩
  | 120 => ⟨S8x8192x1, .f32⟩
  | 121 => ⟨S_, .f32⟩
  | 122 => ⟨S8x8192x1, .f32⟩
  | 123 => ⟨S8x8192x1, .f32⟩
  | 124 => ⟨S8x8192x1024, .f32⟩
  | 125 => ⟨S8x8192x1024, .f32⟩
  | 126 => ⟨S_, .f32⟩
  | 127 => ⟨S8x8192x1, .f32⟩
  | _ => ⟨S8x8192x1024, .f32⟩

abbrev hbmTy0_1 (i : Nat) : BufTy := match i % 128 with
  | 0 => ⟨S8x8192x1, .f32⟩
  | 1 => ⟨S8x8192x1, .f32⟩
  | 2 => ⟨S8x8192x1024, .f32⟩
  | 3 => ⟨S8x8192x1024, .f32⟩
  | 4 => ⟨S1x1x1024, .f32⟩
  | 5 => ⟨S8x8192x1024, .f32⟩
  | 6 => ⟨S8x8192x1024, .f32⟩
  | 7 => ⟨S1x1x1024, .f32⟩
  | 8 => ⟨S8x8192x1024, .f32⟩
  | 9 => ⟨S8x8192x1024, .f32⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst : Ref sig .tc := ⟨.hbm, 43, rfl⟩
abbrev main_v20 : Ref sig .tc := ⟨.hbm, 44, rfl⟩
abbrev main_v21 : Ref sig .tc := ⟨.hbm, 45, rfl⟩
abbrev main_cst_0 : Ref sig .tc := ⟨.hbm, 46, rfl⟩
abbrev main_v22 : Ref sig .tc := ⟨.hbm, 47, rfl⟩
abbrev main_v23 : Ref sig .tc := ⟨.hbm, 48, rfl⟩
abbrev main_cst_1 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_2 : Ref sig .tc := ⟨.hbm, 64, rfl⟩
abbrev main_v38 : Ref sig .tc := ⟨.hbm, 65, rfl⟩
abbrev main_v39 : Ref sig .tc := ⟨.hbm, 66, rfl⟩
abbrev main_cst_3 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_4 : Ref sig .tc := ⟨.hbm, 73, rfl⟩
abbrev main_v45 : Ref sig .tc := ⟨.hbm, 74, rfl⟩
abbrev main_v46 : Ref sig .tc := ⟨.hbm, 75, rfl⟩
abbrev main_cst_5 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_6 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_call1_v0 : Ref sig .tc := ⟨.hbm, 91, rfl⟩
abbrev main_call1_v1 : Ref sig .tc := ⟨.hbm, 92, rfl⟩
abbrev main_call1_cst : Ref sig .tc := ⟨.hbm, 93, rfl⟩
abbrev main_call1_v2 : Ref sig .tc := ⟨.hbm, 94, rfl⟩
abbrev main_call1_v3 : Ref sig .tc := ⟨.hbm, 95, rfl⟩
abbrev main_call1_cst_0 : Ref sig .tc := ⟨.hbm, 96, rfl⟩
abbrev main_call1_v4 : Ref sig .tc := ⟨.hbm, 97, rfl⟩
abbrev main_call1_v5 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_cst_7 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_cst_8 : Ref sig .tc := ⟨.hbm, 109, rfl⟩
abbrev main_v69 : Ref sig .tc := ⟨.hbm, 110, rfl⟩
abbrev main_v70 : Ref sig .tc := ⟨.hbm, 111, rfl⟩
abbrev main_cst_9 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_cst_10 : Ref sig .tc := ⟨.hbm, 118, rfl⟩
abbrev main_v76 : Ref sig .tc := ⟨.hbm, 119, rfl⟩
abbrev main_v77 : Ref sig .tc := ⟨.hbm, 120, rfl⟩
abbrev main_cst_11 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_cst_12 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩

abbrev nD : Nat := 1
abbrev τ : Topo := Topo.v7x

variable {F : FTy → Type} [FloatOps F]
-- ==== Proof.Body.lean ====
/-
  The attention kernel's body, run once at arbitrary operands: the input blocks come back as they were, the output block holds the
  pieces `L` the run stored (as a function of the score rings found, which the loop's first pass reads only to overwrite), the
  scratch buffers hold something. Everything is over any float instance.
-/
module

public import proofs.«01_k».proof.Proof.Gen.KernelIdeal.Frame
public import proofs.«01_k».proof.Proof.Gen.KernelIdeal.Loops
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option sl_exec.parts true in
/-- The body run once, from the inputs at `f3 … f9` and everything else at anything. -/
def bodyRun (𝒱 : Variants) (c : Dev nD) (bd : Option 𝒱.V) (i : grid0.Coords)
    (arg3 : Memref sig .tc .vmem S1x1x128x1024 .bf16) (harg3 : arg3.IsWhole)
    (arg4 : Memref sig .tc .vmem S1x8192x128 .bf16) (harg4 : arg4.IsWhole)
    (arg5 : Memref sig .tc .vmem S1x1x144x8192 .bf16) (harg5 : arg5.IsWhole)
    (arg6 : Memref sig .tc .vmem S1x256x128 .bf16) (harg6 : arg6.IsWhole)
    (arg7 : Memref sig .tc .vmem S1x1x144x256 .bf16) (harg7 : arg7.IsWhole)
    (arg8 : Memref sig .tc .vmem S4x64 .f32) (harg8 : arg8.IsWhole)
    (arg9 : Memref sig .tc .vmem S1x128 .f32) (harg9 : arg9.IsWhole)
    (arg10 : Memref sig .tc .vmem S1x1024x128 .bf16) (harg10 : arg10.IsWhole)
    (arg11 : Memref sig .tc .vmem S2x4x128x256 .bf16) (harg11 : arg11.IsWhole)
    (arg12 : Memref sig .tc .vmem S2x4x1x256 .f32) (harg12 : arg12.IsWhole)
    (arg13 : Memref sig .tc .vmem S2x4x144x256 .f32) (harg13 : arg13.IsWhole)
    (arg14 : Memref sig .tc .vmem S2x2x4x768x256 .f32) (harg14 : arg14.IsWhole)
    (arg15 : Memref sig .tc .vmem S2x2x4x1x256 .f32) (harg15 : arg15.IsWhole)
    (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) :
    Σ' (L : BufTy.Contents (Elt F) arg14.view.ty → BufTy.Contents (Elt F) arg15.view.ty → List (View.Piece (Elt F) S1x1024x128 .bf16)),
      ∀ (E : Set ℕ) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty),
      (iprop((arg3.view.loc (c : Thread nD τ) ↦[arg3.view.set]{fullShare} f3)
        ∗ (arg4.view.loc (c : Thread nD τ) ↦[arg4.view.set]{fullShare} f4)
        ∗ (arg5.view.loc (c : Thread nD τ) ↦[arg5.view.set]{fullShare} f5)
        ∗ (arg6.view.loc (c : Thread nD τ) ↦[arg6.view.set]{fullShare} f6)
        ∗ (arg7.view.loc (c : Thread nD τ) ↦[arg7.view.set]{fullShare} f7)
        ∗ (arg8.view.loc (c : Thread nD τ) ↦[arg8.view.set]{fullShare} f8)
        ∗ (arg9.view.loc (c : Thread nD τ) ↦[arg9.view.set]{fullShare} f9)
        ∗ (arg10.view.loc (c : Thread nD τ) ↦[arg10.view.set]{fullShare} f10)
        ∗ (arg11.view.loc (c : Thread nD τ) ↦[arg11.view.set]{fullShare} f11)
        ∗ (arg12.view.loc (c : Thread nD τ) ↦[arg12.view.set]{fullShare} f12)
        ∗ (arg13.view.loc (c : Thread nD τ) ↦[arg13.view.set]{fullShare} f13)
        ∗ (arg14.view.loc (c : Thread nD τ) ↦[arg14.view.set]{fullShare} f14)
        ∗ (arg15.view.loc (c : Thread nD τ) ↦[arg15.view.set]{fullShare} f15)) : sProp 𝕄)
      ⊢ wp frame (wpE (defs₀ (F := F)) 𝒱 (c : Thread nD τ) bd) E (cc0_diff_attn (F := F) i arg3 harg3 arg4 harg4 arg5 harg5 arg6 harg6 arg7 harg7 arg8 harg8 arg9 harg9 arg10 harg10 arg11 harg11 arg12 harg12 arg13 harg13 arg14 harg14 arg15 harg15)
          (fun _ => iprop((arg3.view.loc (c : Thread nD τ) ↦[arg3.view.set]{fullShare} f3)
          ∗ (arg4.view.loc (c : Thread nD τ) ↦[arg4.view.set]{fullShare} f4)
          ∗ (arg5.view.loc (c : Thread nD τ) ↦[arg5.view.set]{fullShare} f5)
          ∗ (arg6.view.loc (c : Thread nD τ) ↦[arg6.view.set]{fullShare} f6)
          ∗ (arg7.view.loc (c : Thread nD τ) ↦[arg7.view.set]{fullShare} f7)
          ∗ (arg8.view.loc (c : Thread nD τ) ↦[arg8.view.set]{fullShare} f8)
          ∗ (arg9.view.loc (c : Thread nD τ) ↦[arg9.view.set]{fullShare} f9)
          ∗ (arg10.view.loc (c : Thread nD τ) ↦[arg10.view.set]{fullShare} (arg10.view.writes (Elt F) f10 (L f14 f15)))
          ∗ (∃ f, arg11.view.loc (c : Thread nD τ) ↦[arg11.view.set]{fullShare} f)
          ∗ (∃ f, arg12.view.loc (c : Thread nD τ) ↦[arg12.view.set]{fullShare} f)
          ∗ (∃ f, arg13.view.loc (c : Thread nD τ) ↦[arg13.view.set]{fullShare} f)
          ∗ (∃ f, arg14.view.loc (c : Thread nD τ) ↦[arg14.view.set]{fullShare} f)
          ∗ (∃ f, arg15.view.loc (c : Thread nD τ) ↦[arg15.view.set]{fullShare} f))) := by
  refine ⟨?_, fun E f10 f11 f12 f13 f14 f15 => ?run⟩
  case run =>
    simp only [cc0_diff_attn_eq_skeleton]; unfold cc0_diff_attn_skel
    iintro ⟨H3, H4, H5, H6, H7, H8, H9, H10, H11, H12, H13, H14, H15⟩
    sl_exec
    sl_step
    sl_close

end Cert.KernelIdeal.Attn

end
-- ==== Proof.Pick.lean ====
/-
  Reading back one cell of a buffer filled by a list of stores: the newest store into the cell is at a known place of the list and
  every newer store misses the cell.
-/
module

public import Idealize.ShloMosaic.Lib.Exec
public import Idealize.ShloMosaic.Lib.Pipeline.ReadBack

@[expose] public section

namespace Cert.Pick

open Idealize.ShloMosaic

variable {sig : RefSig} {κ : Kind} {sp : Space} {s : Shape} {e : EltTy} {Val : EltTy → Type}

/-- A load of exactly the newest store's rectangle reads its payload. -/
theorem readAt_hit (v : View sig κ sp s e) (f : v.ty.Contents Val) (r : Rect s) (w : r.shape.Idx → Val e)
    (L : List (View.Piece Val s e)) : v.readAt Val r.toLoadRect (v.writes Val f (⟨r, w⟩ :: L)) = w :=
  funext fun x => View.read_writes_cons_emb v f r w L x

/-- A load separated from the newest store reads the earlier ones. -/
theorem readAt_miss (v : View sig κ sp s e) (f : v.ty.Contents Val) (p : View.Piece Val s e) (L : List (View.Piece Val s e))
    (B : LoadRect s) (h : LoadRect.disj p.1 B = true) : v.readAt Val B (v.writes Val f (p :: L)) = v.readAt Val B (v.writes Val f L) :=
  funext fun x => View.read_writes_cons_miss v f p L _ (LoadRect.idx_not_mem_of_disj h x)

/-- The cell's newest store is the `n`-th of the list, those before it miss the cell. -/
theorem readAt_pick (v : View sig κ sp s e) (f : v.ty.Contents Val) (r : Rect s) (w : r.shape.Idx → Val e) (n : ℕ) :
    ∀ L : List (View.Piece Val s e), L[n]? = some ⟨r, w⟩ → (L.take n).all (fun p => LoadRect.disj p.1 r.toLoadRect) = true →
      v.readAt Val r.toLoadRect (v.writes Val f L) = w := by
  induction n with
  | zero =>
    rintro (_ | ⟨p, L⟩) h _
    · simp at h
    · simp only [List.getElem?_cons_zero, Option.some.injEq] at h
      subst h; exact readAt_hit v f r w L
  | succ n ih =>
    rintro (_ | ⟨p, L⟩) h hd
    · simp at h
    · simp only [List.take_succ_cons, List.all_cons, Bool.and_eq_true] at hd
      rw [readAt_miss v f p L _ hd.1]
      exact ih L (by simpa using h) hd.2

/-- The same through the executor's name for a covered load. -/
theorem readCov_pick [∀ e, Nonempty (Val e)] (v : View sig κ sp s e) (L : List (View.Piece Val s e)) (r : Rect s)
    (w : r.shape.Idx → Val e) (n : ℕ) (h : L[n]? = some ⟨r, w⟩)
    (hd : (L.take n).all (fun p => LoadRect.disj p.1 r.toLoadRect) = true) : v.readCov L r.toLoadRect = w :=
  readAt_pick v _ r w n L h hd

/-- No store touches the cell. -/
theorem readAt_base (v : View sig κ sp s e) (f : v.ty.Contents Val) (B : LoadRect s) (L : List (View.Piece Val s e))
    (hd : L.all (fun p => LoadRect.disj p.1 B) = true) : v.readAt Val B (v.writes Val f L) = v.readAt Val B f :=
  View.readAt_writes_of_forall_not_mem v f L B fun j p hp => LoadRect.idx_not_mem_of_disj (List.all_eq_true.mp hd p hp) j

/-- The stores of a later stretch miss the cell: the earlier stretch's are read. -/
theorem readAt_append_miss (v : View sig κ sp s e) (f : v.ty.Contents Val) (B : LoadRect s) (L L' : List (View.Piece Val s e))
    (hd : L.all (fun p => LoadRect.disj p.1 B) = true) : v.readAt Val B (v.writes Val f (L ++ L')) = v.readAt Val B (v.writes Val f L') := by
  rw [View.writes_append]; exact readAt_base v _ B L hd

/-- A covered load that the newest stores miss. -/
theorem readCov_drop [∀ e, Nonempty (Val e)] (v : View sig κ sp s e) (B : LoadRect s) (n : ℕ) (L : List (View.Piece Val s e))
    (hd : (L.take n).all (fun p => LoadRect.disj p.1 B) = true) : v.readCov L B = v.readCov (L.drop n) B := by
  induction n generalizing L with
  | zero => rfl
  | succ n ih =>
    cases L with
    | nil => rfl
    | cons p L =>
      simp only [List.take_succ_cons, List.all_cons, Bool.and_eq_true] at hd
      exact (readAt_miss v _ p L B hd.1).trans (ih L hd.2)

/-- A cell that one of the older stores fills is read the same over whatever lay below. -/
theorem readAt_writes_cov [∀ e, Nonempty (Val e)] (v : View sig κ sp s e) (f : v.ty.Contents Val) (r : Rect s)
    (L M : List (View.Piece Val s e)) (n : ℕ) (w : r.shape.Idx → Val e) (h : M[n]? = some ⟨r, w⟩) :
    v.readAt Val r.toLoadRect (v.writes Val f (L ++ M)) = v.readCov (L ++ M) r.toLoadRect :=
  View.readAt_writes_of_cover v f _ _ fun j => ⟨⟨r, w⟩, List.mem_append_right _ (List.mem_of_getElem? h), by
    rw [← r.map_emb_univ]; exact Finset.mem_map_of_mem _ (Finset.mem_univ j)⟩

end Cert.Pick

end
-- ==== Proof.Chain.lean ====
/-
  The online softmax of one query cell (one of the two softmaxes, 256 queries), as plain functions of vectors: the state held between
  chunks of keys, and the step from one chunk to the next. Over any float instance.
-/
module

public import proofs.«01_k».proof.Proof.Body
public import proofs.«01_k».proof.Proof.Pick

@[expose] public section

noncomputable section

namespace Cert.KernelIdeal.Attn

open Cert.KernelIdeal Cert.KernelIdeal.Gen
open Idealize.ShloMosaic Idealize.ShloMosaic.TcCoe

variable {F : FTy → Type} [FloatOps F] [Named F]

/-- What the scratch holds of one cell between two chunks: the running maximum, the weighted sums (row 128 the sum of the weights),
    the scores of the next chunk and their maximum over its keys. -/
@[ext] structure St (F : FTy → Type) where
  m : S1x1x1x256.Idx → Elt F (.f32)
  a : S1x1x144x256.Idx → Elt F (.f32)
  s : S1x1x1x768x256.Idx → Elt F (.f32)
  x : S1x1x1x1x256.Idx → Elt F (.f32)

/-- The scores of one chunk of 768 keys. -/
def scoreOf (kc : Vec F S768x128 .bf16) (q : Vec F S1x1x128x256 .bf16) : FVec F S768x256 .f32 :=
  matmul dot_S768x128_S128x256_S768x256_1_0_0_1_n_n none kc
    (shapeCast S128x256 q shapeCasts_S1x1x128x256_S128x256) (constant S768x256 .f32 0x00000000#32)

/-- The scores, as stored. -/
def scoreSt (kc : Vec F S768x128 .bf16) (q : Vec F S1x1x128x256 .bf16) : FVec F S1x1x1x768x256 .f32 :=
  shapeCast S1x1x1x768x256 (scoreOf kc q) shapeCasts_S768x256_S1x1x1x768x256

/-- The largest score of each query, as stored. -/
def colMaxSt (kc : Vec F S768x128 .bf16) (q : Vec F S1x1x128x256 .bf16) : FVec F S1x1x1x1x256 .f32 :=
  shapeCast S1x1x1x1x256
    (shapeCast S1x256 (multiReduction .maximumf [0] S256 (scoreOf kc q) 0xFF800000#32 reduces_S768x256_S256 (.inl rfl) rfl)
      shapeCasts_S256_S1x256) shapeCasts_S1x256_S1x1x1x1x256

/-- The running maximum as a row. -/
def St.mRow (t : St F) : FVec F S1x256 .f32 := shapeCast S1x256 t.m shapeCasts_S1x1x1x256_S1x256

/-- The new running maximum as a row. -/
def St.mNext (t : St F) : FVec F S1x256 .f32 :=
  maximumf t.mRow (shapeCast S1x256 t.x shapeCasts_S1x1x1x1x256_S1x256)

/-- The weights of the chunk at the new maximum. -/
def St.wgt (t : St F) : FVec F S768x256 .bf16 :=
  truncf .bf16 (exp2 (subf (shapeCast S768x256 t.s shapeCasts_S1x1x1x768x256_S768x256)
    (broadcastTo S768x256 t.mNext broadcasts_S1x256_S768x256))) bitsLt_bf16_f32

/-- The weighted sums after the chunk with values `vt`. -/
def St.aNext (vt : Vec F S144x768 .bf16) (t : St F) : FVec F S144x256 .f32 :=
  addf (mulf (broadcastTo S144x256 (exp2 (subf t.mRow t.mNext)) broadcasts_S1x256_S144x256)
      (shapeCast S144x256 t.a shapeCasts_S1x1x144x256_S144x256))
    (matmul dot_S144x768_S768x256_S144x256_1_0_0_1_n_n none vt
      t.wgt (constant S144x256 .f32 0x00000000#32))

/-- One step: the chunk whose scores are held is folded in, the scores of the next chunk are formed. -/
def St.step (kc : Vec F S768x128 .bf16) (q : Vec F S1x1x128x256 .bf16) (vt : Vec F S144x768 .bf16) (t : St F) : St F where
  m := shapeCast S1x1x1x256 t.mNext shapeCasts_S1x256_S1x1x1x256
  a := shapeCast S1x1x144x256 (t.aNext vt) shapeCasts_S144x256_S1x1x144x256
  s := scoreSt kc q
  x := colMaxSt kc q

/-- Chunks as loaded. -/
def kch (kc : Vec F S1x768x128 .bf16) : Vec F S768x128 .bf16 := shapeCast S768x128 kc shapeCasts_S1x768x128_S768x128
def vch (vt : Vec F S1x1x144x768 .bf16) : Vec F S144x768 .bf16 := shapeCast S144x768 vt shapeCasts_S1x1x144x768_S144x768

/-! Chunks of the keys' and values' blocks: ten of 768 latents, the last of 512 latents and the 256 context tokens. -/

abbrev kRect (n : Fin 10) : Rect S1x8192x128 := Rect.unit (s := S1x8192x128) ![0, 768 * n.val, 0] S1x768x128.size (by revert n; decide +kernel)
abbrev vRect (n : Fin 10) : Rect S1x1x144x8192 :=
  Rect.unit (s := S1x1x144x8192) ![0, 0, 0, 768 * n.val] S1x1x144x768.size (by revert n; decide +kernel)

/-- The keys of chunk `n`. -/
def blkK (B4 : Vec F S1x8192x128 .bf16) (B6 : Vec F S1x256x128 .bf16) (n : ℕ) : Vec F S768x128 .bf16 :=
  if h : n < 10 then kch fun x => B4 ((kRect ⟨n, h⟩).toLoadRect.idx x)
  else concatenate S768x128 0 [⟨S512x128, shapeCast S512x128
      (fun x => B4 ((Rect.unit (s := S1x8192x128) ![0, 7680, 0] S1x512x128.size inb_S1x8192x128_S1x512x128_0_7680_0).toLoadRect.idx x))
      shapeCasts_S1x512x128_S512x128⟩, ⟨S256x128, shapeCast S256x128
      (fun x => B6 ((Rect.unit (s := S1x256x128) ![0, 0, 0] S1x256x128.size inb_S1x256x128_S1x256x128_0_0_0).toLoadRect.idx x))
      shapeCasts_S1x256x128_S256x128⟩] concatenates_S512x128_S256x128_S768x128_d0

/-- The values of chunk `n`. -/
def blkV (B5 : Vec F S1x1x144x8192 .bf16) (B7 : Vec F S1x1x144x256 .bf16) (n : ℕ) : Vec F S144x768 .bf16 :=
  if h : n < 10 then vch fun x => B5 ((vRect ⟨n, h⟩).toLoadRect.idx x)
  else concatenate S144x768 1 [⟨S144x512, shapeCast S144x512
      (fun x => B5 ((Rect.unit (s := S1x1x144x8192) ![0, 0, 0, 7680] S1x1x144x512.size inb_S1x1x144x8192_S1x1x144x512_0_0_0_7680).toLoadRect.idx x))
      shapeCasts_S1x1x144x512_S144x512⟩, ⟨S144x256, shapeCast S144x256
      (fun x => B7 ((Rect.unit (s := S1x1x144x256) ![0, 0, 0, 0] S1x1x144x256.size inb_S1x1x144x256_S1x1x144x256_0_0_0_0).toLoadRect.idx x))
      shapeCasts_S1x1x144x256_S144x256⟩] concatenates_S144x512_S144x256_S144x768_d1

/-- The state after `n` steps from `t`. -/
def St.run (K : ℕ → Vec F S768x128 .bf16) (V : ℕ → Vec F S144x768 .bf16) (q : Vec F S1x1x128x256 .bf16) (t : St F) : ℕ → St F
  | 0 => t
  | n + 1 => (St.run K V q t n).step (K (n + 1)) q (V n)

/-! The cells of the scratch buffers. -/

def c11 (mi : Fin 2) (sb : Fin 4) : Rect S2x4x128x256 := Rect.unit (s := S2x4x128x256) ![mi.val, sb.val, 0, 0] S1x1x128x256.size (by revert mi sb; decide)
def c12 (mi : Fin 2) (sb : Fin 4) : Rect S2x4x1x256 := Rect.unit (s := S2x4x1x256) ![mi.val, sb.val, 0, 0] S1x1x1x256.size (by revert mi sb; decide)
def c13 (mi : Fin 2) (sb : Fin 4) : Rect S2x4x144x256 := Rect.unit (s := S2x4x144x256) ![mi.val, sb.val, 0, 0] S1x1x144x256.size (by revert mi sb; decide)
def c14 (sl mi : Fin 2) (sb : Fin 4) : Rect S2x2x4x768x256 :=
  Rect.unit (s := S2x2x4x768x256) ![sl.val, mi.val, sb.val, 0, 0] S1x1x1x768x256.size (by revert sl mi sb; decide)
def c15 (sl mi : Fin 2) (sb : Fin 4) : Rect S2x2x4x1x256 :=
  Rect.unit (s := S2x2x4x1x256) ![sl.val, mi.val, sb.val, 0, 0] S1x1x1x1x256.size (by revert sl mi sb; decide)

/-- The state of a cell as the scratch holds it. -/
def stRead {arg12 : Memref sig .tc .vmem S2x4x1x256 .f32} {arg13 : Memref sig .tc .vmem S2x4x144x256 .f32}
    {arg14 : Memref sig .tc .vmem S2x2x4x768x256 .f32} {arg15 : Memref sig .tc .vmem S2x2x4x1x256 .f32}
    (f12 : BufTy.Contents (Elt F) arg12.view.ty) (f13 : BufTy.Contents (Elt F) arg13.view.ty)
    (f14 : BufTy.Contents (Elt F) arg14.view.ty) (f15 : BufTy.Contents (Elt F) arg15.view.ty)
    (sl mi : Fin 2) (sb : Fin 4) : St F where
  m := arg12.view.readAt (Elt F) (c12 mi sb).toLoadRect f12
  a := arg13.view.readAt (Elt F) (c13 mi sb).toLoadRect f13
  s := arg14.view.readAt (Elt F) (c14 sl mi sb).toLoadRect f14
  x := arg15.view.readAt (Elt F) (c15 sl mi sb).toLoadRect f15

end Cert.KernelIdeal.Attn
end
-- ==== Proof.Trip.lean ====
/-
  One pass of the loop over the keys: every cell's state goes two steps on.
-/
module

public import proofs.«01_k».proof.Proof.Chain
public import proofs.«01_k».proof.Proof.Pick
public import Idealize.ShloMosaic.Lib.Tactic.RunNames
public import Idealize.ShloMosaic.Lib.Tactic.Stretches

@[expose] public section

set_option maxRecDepth 8192

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open Idealize.SL.Sem

set_option maxHeartbeats 4000000

variable {F : FTy → Type} [FloatOps F] [Named F]

/-- One pass, at one cell: two steps, with the chunks the pass loads. -/
theorem trip_cell (𝒱 : Variants) (c : Dev nD) (bd : Option 𝒱.V) (i : grid0.Coords)
    (arg3 : Memref sig .tc .vmem S1x1x128x1024 .bf16) (harg3 : arg3.IsWhole)
    (arg4 : Memref sig .tc .vmem S1x8192x128 .bf16) (harg4 : arg4.IsWhole)
    (arg5 : Memref sig .tc .vmem S1x1x144x8192 .bf16) (harg5 : arg5.IsWhole)
    (arg6 : Memref sig .tc .vmem S1x256x128 .bf16) (harg6 : arg6.IsWhole)
    (arg7 : Memref sig .tc .vmem S1x1x144x256 .bf16) (harg7 : arg7.IsWhole)
    (arg8 : Memref sig .tc .vmem S4x64 .f32) (harg8 : arg8.IsWhole)
    (arg9 : Memref sig .tc .vmem S1x128 .f32) (harg9 : arg9.IsWhole)
    (arg10 : Memref sig .tc .vmem S1x1024x128 .bf16) (harg10 : arg10.IsWhole)
    (arg11 : Memref sig .tc .vmem S2x4x128x256 .bf16) (harg11 : arg11.IsWhole)
    (arg12 : Memref sig .tc .vmem S2x4x1x256 .f32) (harg12 : arg12.IsWhole)
    (arg13 : Memref sig .tc .vmem S2x4x144x256 .f32) (harg13 : arg13.IsWhole)
    (arg14 : Memref sig .tc .vmem S2x2x4x768x256 .f32) (harg14 : arg14.IsWhole)
    (arg15 : Memref sig .tc .vmem S2x2x4x1x256 .f32) (harg15 : arg15.IsWhole)
    (cz : BitVec 32) (f4 : BufTy.Contents (Elt F) arg4.view.ty) (f5 : BufTy.Contents (Elt F) arg5.view.ty) (f11 : BufTy.Contents (Elt F) arg11.view.ty) (k : Fin k0_t1_loop.trips)
    (f12 : BufTy.Contents (Elt F) arg12.view.ty) (f13 : BufTy.Contents (Elt F) arg13.view.ty) (f14 : BufTy.Contents (Elt F) arg14.view.ty) (f15 : BufTy.Contents (Elt F) arg15.view.ty) (mi : Fin 2) (sb : Fin 4) :
    stRead (arg12.view.writes (Elt F) f12 ((trip_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 cz f4 f5 f11 k).1 f12 f13 f14 f15))
      (arg13.view.writes (Elt F) f13 ((trip_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 cz f4 f5 f11 k).2.1 f12 f13 f14 f15))
      (arg14.view.writes (Elt F) f14 ((trip_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 cz f4 f5 f11 k).2.2.1 f12 f13 f14 f15))
      (arg15.view.writes (Elt F) f15 ((trip_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 cz f4 f5 f11 k).2.2.2.1 f12 f13 f14 f15)) 0 mi sb
    = (((stRead f12 f13 f14 f15 0 mi sb).step
        (kch (arg4.view.readAt (Elt F) (Rect.unit (s := S1x8192x128) (k0_off1 k 0#32) S1x768x128.size (k0_off1_inb k 0)).toLoadRect f4))
        (arg11.view.readAt (Elt F) (c11 mi sb).toLoadRect f11)
        (vch (arg5.view.readAt (Elt F) (Rect.unit (s := S1x1x144x8192) (k0_off2 k 0#32) S1x1x144x768.size (k0_off2_inb k 0)).toLoadRect f5))).step
        (kch (arg4.view.readAt (Elt F) (Rect.unit (s := S1x8192x128) (k0_off1 k 1#32) S1x768x128.size (k0_off1_inb k 1)).toLoadRect f4))
        (arg11.view.readAt (Elt F) (c11 mi sb).toLoadRect f11)
        (vch (arg5.view.readAt (Elt F) (Rect.unit (s := S1x1x144x8192) (k0_off2 k 1#32) S1x1x144x768.size (k0_off2_inb k 1)).toLoadRect f5))) := by
  unfold trip_k0_t1
  dsimp only
  apply St.ext <;> dsimp only [stRead]
  · fin_cases mi <;> fin_cases sb
    all_goals
      first
      | refine (Cert.Pick.readAt_pick _ _ _ _ 0 _ rfl (by sl_kernel_rfl)).trans ?_
      | refine (Cert.Pick.readAt_pick _ _ _ _ 1 _ rfl (by sl_kernel_rfl)).trans ?_
      | refine (Cert.Pick.readAt_pick _ _ _ _ 2 _ rfl (by sl_kernel_rfl)).trans ?_
      | refine (Cert.Pick.readAt_pick _ _ _ _ 3 _ rfl (by sl_kernel_rfl)).trans ?_
      | refine (Cert.Pick.readAt_pick _ _ _ _ 4 _ rfl (by sl_kernel_rfl)).trans ?_
      | refine (Cert.Pick.readAt_pick _ _ _ _ 5 _ rfl (by sl_kernel_rfl)).trans ?_
      | refine (Cert.Pick.readAt_pick _ _ _ _ 6 _ rfl (by sl_kernel_rfl)).trans ?_
      | refine (Cert.Pick.readAt_pick _ _ _ _ 7 _ rfl (by sl_kernel_rfl)).trans ?_
      sl_unfold_run_values
      sl_open_pay
      rw [Cert.Pick.readCov_pick arg12.view (n := 7) (h := rfl) (hd := by sl_kernel_rfl)]
      rw [Cert.Pick.readCov_pick arg15.view (n := 8) (h := rfl) (hd := by sl_kernel_rfl)]
      sl_unfold_run_values
      sl_open_pay
      sl_kernel_rfl
  · fin_cases mi <;> fin_cases sb
    all_goals
      first
      | refine (Cert.Pick.readAt_pick _ _ _ _ 0 _ rfl (by sl_kernel_rfl)).trans ?_
      | refine (Cert.Pick.readAt_pick _ _ _ _ 1 _ rfl (by sl_kernel_rfl)).trans ?_
      | refine (Cert.Pick.readAt_pick _ _ _ _ 2 _ rfl (by sl_kernel_rfl)).trans ?_
      | refine (Cert.Pick.readAt_pick _ _ _ _ 3 _ rfl (by sl_kernel_rfl)).trans ?_
      | refine (Cert.Pick.readAt_pick _ _ _ _ 4 _ rfl (by sl_kernel_rfl)).trans ?_
      | refine (Cert.Pick.readAt_pick _ _ _ _ 5 _ rfl (by sl_kernel_rfl)).trans ?_
      | refine (Cert.Pick.readAt_pick _ _ _ _ 6 _ rfl (by sl_kernel_rfl)).trans ?_
      | refine (Cert.Pick.readAt_pick _ _ _ _ 7 _ rfl (by sl_kernel_rfl)).trans ?_
      sl_unfold_run_values
      sl_open_pay
      rw [Cert.Pick.readCov_pick arg12.view (n := 7) (h := rfl) (hd := by sl_kernel_rfl)]
      rw [Cert.Pick.readCov_pick arg13.view (n := 7) (h := rfl) (hd := by sl_kernel_rfl)]
      rw [Cert.Pick.readCov_pick arg14.view (n := 8) (h := rfl) (hd := by sl_kernel_rfl)]
      rw [Cert.Pick.readCov_pick arg15.view (n := 8) (h := rfl) (hd := by sl_kernel_rfl)]
      sl_unfold_run_values
      sl_open_pay
      sl_kernel_rfl
  · fin_cases mi <;> fin_cases sb
    all_goals
      first
      | refine (Cert.Pick.readAt_pick _ _ _ _ 0 _ rfl (by sl_kernel_rfl)).trans ?_
      | refine (Cert.Pick.readAt_pick _ _ _ _ 1 _ rfl (by sl_kernel_rfl)).trans ?_
      | refine (Cert.Pick.readAt_pick _ _ _ _ 2 _ rfl (by sl_kernel_rfl)).trans ?_
      | refine (Cert.Pick.readAt_pick _ _ _ _ 3 _ rfl (by sl_kernel_rfl)).trans ?_
      | refine (Cert.Pick.readAt_pick _ _ _ _ 4 _ rfl (by sl_kernel_rfl)).trans ?_
      | refine (Cert.Pick.readAt_pick _ _ _ _ 5 _ rfl (by sl_kernel_rfl)).trans ?_
      | refine (Cert.Pick.readAt_pick _ _ _ _ 6 _ rfl (by sl_kernel_rfl)).trans ?_
      | refine (Cert.Pick.readAt_pick _ _ _ _ 7 _ rfl (by sl_kernel_rfl)).trans ?_
      sl_unfold_run_values
      sl_open_pay
      sl_kernel_rfl
  · fin_cases mi <;> fin_cases sb
    all_goals
      first
      | refine (Cert.Pick.readAt_pick _ _ _ _ 0 _ rfl (by sl_kernel_rfl)).trans ?_
      | refine (Cert.Pick.readAt_pick _ _ _ _ 1 _ rfl (by sl_kernel_rfl)).trans ?_
      | refine (Cert.Pick.readAt_pick _ _ _ _ 2 _ rfl (by sl_kernel_rfl)).trans ?_
      | refine (Cert.Pick.readAt_pick _ _ _ _ 3 _ rfl (by sl_kernel_rfl)).trans ?_
      | refine (Cert.Pick.readAt_pick _ _ _ _ 4 _ rfl (by sl_kernel_rfl)).trans ?_
      | refine (Cert.Pick.readAt_pick _ _ _ _ 5 _ rfl (by sl_kernel_rfl)).trans ?_
      | refine (Cert.Pick.readAt_pick _ _ _ _ 6 _ rfl (by sl_kernel_rfl)).trans ?_
      | refine (Cert.Pick.readAt_pick _ _ _ _ 7 _ rfl (by sl_kernel_rfl)).trans ?_
      sl_unfold_run_values
      sl_open_pay
      sl_kernel_rfl

end Cert.KernelIdeal.Attn
end
-- ==== Proof.Loop.lean ====
/-
  The loop over the keys: after `n` passes every cell's state is `2 n` steps on.
-/
module

public import proofs.«01_k».proof.Proof.Trip
public import proofs.«01_k».proof.Proof.Pick
public import Idealize.ShloMosaic.Lib.Tactic.RunNames
public import Idealize.ShloMosaic.Lib.Tactic.Stretches

@[expose] public section

set_option maxRecDepth 8192

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open Idealize.SL.Sem

variable {F : FTy → Type} [FloatOps F] [Named F]

/-- The chunks as the loop loads them. -/
theorem k0_off1_eq (k : Fin k0_t1_loop.trips) (r : Fin 2) :
    k0_off1 k (BitVec.ofNat 32 r.val) = ![0, 768 * (2 * k.val + r.val + 1), 0] := by
  revert k r; decide +kernel

theorem k0_off2_eq (k : Fin k0_t1_loop.trips) (r : Fin 2) :
    k0_off2 k (BitVec.ofNat 32 r.val) = ![0, 0, 0, 768 * (2 * k.val + r.val)] := by
  revert k r; decide +kernel

theorem trips_eq : k0_t1_loop.trips = 4 := by decide +kernel

/-- The keys the loop's pass `k` loads in its half `r`. -/
theorem kload (arg4 : Memref sig .tc .vmem S1x8192x128 .bf16) (f4 : BufTy.Contents (Elt F) arg4.view.ty)
    (B6 : Vec F S1x256x128 .bf16) (k : Fin k0_t1_loop.trips) (r : Fin 2) :
    kch (arg4.view.readAt (Elt F) (Rect.unit (s := S1x8192x128) (k0_off1 k (BitVec.ofNat 32 r.val)) S1x768x128.size (k0_off1_inb k r)).toLoadRect f4)
      = blkK (arg4.view.read (Elt F) f4) B6 (2 * k.val + r.val + 1) := by
  have hk : k.val < 4 := trips_eq ▸ k.isLt
  unfold blkK
  rw [dif_pos (show 2 * k.val + r.val + 1 < 10 by omega)]
  have gen : ∀ (off : Fin 3 → ℕ) (h : ∀ a, off a + S1x768x128.size a ≤ S1x8192x128.size a),
      off = ![0, 768 * (2 * k.val + r.val + 1), 0] →
      kch (arg4.view.readAt (Elt F) (Rect.unit (s := S1x8192x128) off S1x768x128.size h).toLoadRect f4)
        = kch fun x => arg4.view.read (Elt F) f4 ((kRect ⟨2 * k.val + r.val + 1, by omega⟩).toLoadRect.idx x) := by
    rintro _ h rfl; rfl
  exact gen _ _ (k0_off1_eq k r)

/-- The values the loop's pass `k` loads in its half `r`. -/
theorem vload (arg5 : Memref sig .tc .vmem S1x1x144x8192 .bf16) (f5 : BufTy.Contents (Elt F) arg5.view.ty)
    (B7 : Vec F S1x1x144x256 .bf16) (k : Fin k0_t1_loop.trips) (r : Fin 2) :
    vch (arg5.view.readAt (Elt F) (Rect.unit (s := S1x1x144x8192) (k0_off2 k (BitVec.ofNat 32 r.val)) S1x1x144x768.size (k0_off2_inb k r)).toLoadRect f5)
      = blkV (arg5.view.read (Elt F) f5) B7 (2 * k.val + r.val) := by
  have hk : k.val < 4 := trips_eq ▸ k.isLt
  unfold blkV
  rw [dif_pos (show 2 * k.val + r.val < 10 by omega)]
  have gen : ∀ (off : Fin 4 → ℕ) (h : ∀ a, off a + S1x1x144x768.size a ≤ S1x1x144x8192.size a),
      off = ![0, 0, 0, 768 * (2 * k.val + r.val)] →
      vch (arg5.view.readAt (Elt F) (Rect.unit (s := S1x1x144x8192) off S1x1x144x768.size h).toLoadRect f5)
        = vch fun x => arg5.view.read (Elt F) f5 ((vRect ⟨2 * k.val + r.val, by omega⟩).toLoadRect.idx x) := by
    rintro _ h rfl; rfl
  exact gen _ _ (k0_off2_eq k r)

/-- After `n` passes of the loop. -/
theorem loop_cell (𝒱 : Variants) (c : Dev nD) (bd : Option 𝒱.V) (i : grid0.Coords)
    (arg3 : Memref sig .tc .vmem S1x1x128x1024 .bf16) (harg3 : arg3.IsWhole)
    (arg4 : Memref sig .tc .vmem S1x8192x128 .bf16) (harg4 : arg4.IsWhole)
    (arg5 : Memref sig .tc .vmem S1x1x144x8192 .bf16) (harg5 : arg5.IsWhole)
    (arg6 : Memref sig .tc .vmem S1x256x128 .bf16) (harg6 : arg6.IsWhole)
    (arg7 : Memref sig .tc .vmem S1x1x144x256 .bf16) (harg7 : arg7.IsWhole)
    (arg8 : Memref sig .tc .vmem S4x64 .f32) (harg8 : arg8.IsWhole)
    (arg9 : Memref sig .tc .vmem S1x128 .f32) (harg9 : arg9.IsWhole)
    (arg10 : Memref sig .tc .vmem S1x1024x128 .bf16) (harg10 : arg10.IsWhole)
    (arg11 : Memref sig .tc .vmem S2x4x128x256 .bf16) (harg11 : arg11.IsWhole)
    (arg12 : Memref sig .tc .vmem S2x4x1x256 .f32) (harg12 : arg12.IsWhole)
    (arg13 : Memref sig .tc .vmem S2x4x144x256 .f32) (harg13 : arg13.IsWhole)
    (arg14 : Memref sig .tc .vmem S2x2x4x768x256 .f32) (harg14 : arg14.IsWhole)
    (arg15 : Memref sig .tc .vmem S2x2x4x1x256 .f32) (harg15 : arg15.IsWhole)
    (cz : BitVec 32) (f4 : BufTy.Contents (Elt F) arg4.view.ty) (f5 : BufTy.Contents (Elt F) arg5.view.ty) (f11 : BufTy.Contents (Elt F) arg11.view.ty) (G12 : BufTy.Contents (Elt F) arg12.view.ty) (G13 : BufTy.Contents (Elt F) arg13.view.ty) (G14 : BufTy.Contents (Elt F) arg14.view.ty) (G15 : BufTy.Contents (Elt F) arg15.view.ty) (B6 : Vec F S1x256x128 .bf16) (B7 : Vec F S1x1x144x256 .bf16)
    (mi : Fin 2) (sb : Fin 4) : ∀ n : ℕ, n ≤ 4 →
    stRead (arg12.view.writes (Elt F) G12 (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 cz f4 f5 f11 G12 G13 G14 G15 n).1) (arg13.view.writes (Elt F) G13 (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 cz f4 f5 f11 G12 G13 G14 G15 n).2.1)
      (arg14.view.writes (Elt F) G14 (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 cz f4 f5 f11 G12 G13 G14 G15 n).2.2.1) (arg15.view.writes (Elt F) G15 (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 cz f4 f5 f11 G12 G13 G14 G15 n).2.2.2) 0 mi sb
    = (stRead G12 G13 G14 G15 0 mi sb).run (blkK (arg4.view.read (Elt F) f4) B6) (blkV (arg5.view.read (Elt F) f5) B7)
        (arg11.view.readAt (Elt F) (c11 mi sb).toLoadRect f11) (2 * n) := by
  intro n
  induction n with
  | zero => intro _; rfl
  | succ n ih =>
    intro hn
    have hlt : n < k0_t1_loop.trips := by rw [trips_eq]; omega
    rw [pb_k0_t1_succ 𝒱 c bd i arg3 harg3 arg4 harg4 arg5 harg5 arg6 harg6 arg7 harg7 arg8 harg8 arg9 harg9 arg10 harg10 arg11 harg11 arg12 harg12 arg13 harg13 arg14 harg14 arg15 harg15 cz f4 f5 f11 G12 G13 G14 G15 ⟨n, hlt⟩]
    dsimp only
    rw [View.writes_append, View.writes_append, View.writes_append, View.writes_append, trip_cell, ih (by omega)]
    have e1 := kload arg4 f4 B6 ⟨n, hlt⟩ 0
    have e2 := kload arg4 f4 B6 ⟨n, hlt⟩ 1
    have e3 := vload arg5 f5 B7 ⟨n, hlt⟩ 0
    have e4 := vload arg5 f5 B7 ⟨n, hlt⟩ 1
    refine Eq.trans (congr (congrArg₂ _ e2 rfl) e4 |> fun h => congrFun h _) ?_
    refine congrArg (St.step _ _ _) ?_
    exact congr (congrArg₂ _ e1 rfl) e3 |> fun h => congrFun h _

end Cert.KernelIdeal.Attn
end
-- ==== Proof.Tail.lean ====
/-
  After the loop: three more steps, without the last one's scores, lead to the sums the body reads back.
-/
module

public import proofs.«01_k».proof.Proof.Loop
public import proofs.«01_k».proof.Proof.Pick
public import Idealize.ShloMosaic.Lib.Tactic.RunNames
public import Idealize.ShloMosaic.Lib.Tactic.Stretches

@[expose] public section

set_option maxRecDepth 8192

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open Idealize.SL.Sem

variable {F : FTy → Type} [FloatOps F] [Named F]

set_option maxHeartbeats 4000000

/-- The sums the body reads back, at one cell. -/
theorem tail_cell (𝒱 : Variants) (c : Dev nD) (bd : Option 𝒱.V) (i : grid0.Coords)
    (arg3 : Memref sig .tc .vmem S1x1x128x1024 .bf16) (harg3 : arg3.IsWhole)
    (arg4 : Memref sig .tc .vmem S1x8192x128 .bf16) (harg4 : arg4.IsWhole)
    (arg5 : Memref sig .tc .vmem S1x1x144x8192 .bf16) (harg5 : arg5.IsWhole)
    (arg6 : Memref sig .tc .vmem S1x256x128 .bf16) (harg6 : arg6.IsWhole)
    (arg7 : Memref sig .tc .vmem S1x1x144x256 .bf16) (harg7 : arg7.IsWhole)
    (arg8 : Memref sig .tc .vmem S4x64 .f32) (harg8 : arg8.IsWhole)
    (arg9 : Memref sig .tc .vmem S1x128 .f32) (harg9 : arg9.IsWhole)
    (arg10 : Memref sig .tc .vmem S1x1024x128 .bf16) (harg10 : arg10.IsWhole)
    (arg11 : Memref sig .tc .vmem S2x4x128x256 .bf16) (harg11 : arg11.IsWhole)
    (arg12 : Memref sig .tc .vmem S2x4x1x256 .f32) (harg12 : arg12.IsWhole)
    (arg13 : Memref sig .tc .vmem S2x4x144x256 .f32) (harg13 : arg13.IsWhole)
    (arg14 : Memref sig .tc .vmem S2x2x4x768x256 .f32) (harg14 : arg14.IsWhole)
    (arg15 : Memref sig .tc .vmem S2x2x4x1x256 .f32) (harg15 : arg15.IsWhole)
    (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f14 : BufTy.Contents (Elt F) arg14.view.ty) (f15 : BufTy.Contents (Elt F) arg15.view.ty) (mi : Fin 2) (sb : Fin 4) :
    arg13.view.readCov (bodyRun.sl.H13_24 𝒱 c bd i arg3 harg3 arg4 harg4 arg5 harg5 arg6 harg6 arg7 harg7 arg8 harg8 arg9 harg9 arg10 harg10 arg11 harg11 arg12 harg12 arg13 harg13 arg14 harg14 arg15 harg15 f3 f4 f5 f6 f7 f14 f15) (c13 mi sb).toLoadRect
    = ((((stRead (arg12.view.writes (Elt F) arg12.view.junk ((pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 0#32 f4 f5 (arg11.view.writes (Elt F) arg11.view.junk (bodyRun.sl.H11_8 arg3 f3)) (arg12.view.writes (Elt F) arg12.view.junk bodyRun.sl.H12_1) (arg13.view.writes (Elt F) arg13.view.junk bodyRun.sl.H13_1) (arg14.view.writes (Elt F) f14 (bodyRun.sl.H14_8 arg3 arg4 arg11 f3 f4)) (arg15.view.writes (Elt F) f15 (bodyRun.sl.H15_8 arg3 arg4 arg11 f3 f4)) (Scf.trips k0_t1_loop.lb k0_t1_loop.ub k0_t1_loop.st)).1 ++ bodyRun.sl.H12_1))
      (arg13.view.writes (Elt F) arg13.view.junk ((pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 0#32 f4 f5 (arg11.view.writes (Elt F) arg11.view.junk (bodyRun.sl.H11_8 arg3 f3)) (arg12.view.writes (Elt F) arg12.view.junk bodyRun.sl.H12_1) (arg13.view.writes (Elt F) arg13.view.junk bodyRun.sl.H13_1) (arg14.view.writes (Elt F) f14 (bodyRun.sl.H14_8 arg3 arg4 arg11 f3 f4)) (arg15.view.writes (Elt F) f15 (bodyRun.sl.H15_8 arg3 arg4 arg11 f3 f4)) (Scf.trips k0_t1_loop.lb k0_t1_loop.ub k0_t1_loop.st)).2.1 ++ bodyRun.sl.H13_1))
      (arg14.view.writes (Elt F) arg14.view.junk ((pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 0#32 f4 f5 (arg11.view.writes (Elt F) arg11.view.junk (bodyRun.sl.H11_8 arg3 f3)) (arg12.view.writes (Elt F) arg12.view.junk bodyRun.sl.H12_1) (arg13.view.writes (Elt F) arg13.view.junk bodyRun.sl.H13_1) (arg14.view.writes (Elt F) f14 (bodyRun.sl.H14_8 arg3 arg4 arg11 f3 f4)) (arg15.view.writes (Elt F) f15 (bodyRun.sl.H15_8 arg3 arg4 arg11 f3 f4)) (Scf.trips k0_t1_loop.lb k0_t1_loop.ub k0_t1_loop.st)).2.2.1 ++ bodyRun.sl.H14_8 arg3 arg4 arg11 f3 f4))
      (arg15.view.writes (Elt F) arg15.view.junk ((pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 0#32 f4 f5 (arg11.view.writes (Elt F) arg11.view.junk (bodyRun.sl.H11_8 arg3 f3)) (arg12.view.writes (Elt F) arg12.view.junk bodyRun.sl.H12_1) (arg13.view.writes (Elt F) arg13.view.junk bodyRun.sl.H13_1) (arg14.view.writes (Elt F) f14 (bodyRun.sl.H14_8 arg3 arg4 arg11 f3 f4)) (arg15.view.writes (Elt F) f15 (bodyRun.sl.H15_8 arg3 arg4 arg11 f3 f4)) (Scf.trips k0_t1_loop.lb k0_t1_loop.ub k0_t1_loop.st)).2.2.2 ++ bodyRun.sl.H15_8 arg3 arg4 arg11 f3 f4)) 0 mi sb).step (blkK (arg4.view.read (Elt F) f4) (arg6.view.read (Elt F) f6) 9) (arg11.view.readAt (Elt F) (c11 mi sb).toLoadRect (arg11.view.writes (Elt F) arg11.view.junk (bodyRun.sl.H11_8 arg3 f3))) (blkV (arg5.view.read (Elt F) f5) (arg7.view.read (Elt F) f7) 8)).step (blkK (arg4.view.read (Elt F) f4) (arg6.view.read (Elt F) f6) 10) (arg11.view.readAt (Elt F) (c11 mi sb).toLoadRect (arg11.view.writes (Elt F) arg11.view.junk (bodyRun.sl.H11_8 arg3 f3))) (blkV (arg5.view.read (Elt F) f5) (arg7.view.read (Elt F) f7) 9)).step (blkK (arg4.view.read (Elt F) f4) (arg6.view.read (Elt F) f6) 11) (arg11.view.readAt (Elt F) (c11 mi sb).toLoadRect (arg11.view.writes (Elt F) arg11.view.junk (bodyRun.sl.H11_8 arg3 f3))) (blkV (arg5.view.read (Elt F) f5) (arg7.view.read (Elt F) f7) 10)).a := by
  fin_cases mi <;> fin_cases sb
  all_goals
      first
      | refine (Cert.Pick.readCov_pick _ _ _ _ 0 rfl (by sl_kernel_rfl)).trans ?_
      | refine (Cert.Pick.readCov_pick _ _ _ _ 1 rfl (by sl_kernel_rfl)).trans ?_
      | refine (Cert.Pick.readCov_pick _ _ _ _ 2 rfl (by sl_kernel_rfl)).trans ?_
      | refine (Cert.Pick.readCov_pick _ _ _ _ 3 rfl (by sl_kernel_rfl)).trans ?_
      | refine (Cert.Pick.readCov_pick _ _ _ _ 4 rfl (by sl_kernel_rfl)).trans ?_
      | refine (Cert.Pick.readCov_pick _ _ _ _ 5 rfl (by sl_kernel_rfl)).trans ?_
      | refine (Cert.Pick.readCov_pick _ _ _ _ 6 rfl (by sl_kernel_rfl)).trans ?_
      | refine (Cert.Pick.readCov_pick _ _ _ _ 7 rfl (by sl_kernel_rfl)).trans ?_
      sl_unfold_run_values
      sl_open_pay
      rw [Cert.Pick.readCov_pick arg12.view (n := 7) (h := rfl) (hd := by sl_kernel_rfl)]
      rw [Cert.Pick.readCov_pick arg13.view (n := 7) (h := rfl) (hd := by sl_kernel_rfl)]
      first
      | rw [Cert.Pick.readCov_pick arg14.view (n := 0) (h := rfl) (hd := by sl_kernel_rfl)]
      | rw [Cert.Pick.readCov_pick arg14.view (n := 1) (h := rfl) (hd := by sl_kernel_rfl)]
      | rw [Cert.Pick.readCov_pick arg14.view (n := 2) (h := rfl) (hd := by sl_kernel_rfl)]
      | rw [Cert.Pick.readCov_pick arg14.view (n := 3) (h := rfl) (hd := by sl_kernel_rfl)]
      | rw [Cert.Pick.readCov_pick arg14.view (n := 4) (h := rfl) (hd := by sl_kernel_rfl)]
      | rw [Cert.Pick.readCov_pick arg14.view (n := 5) (h := rfl) (hd := by sl_kernel_rfl)]
      | rw [Cert.Pick.readCov_pick arg14.view (n := 6) (h := rfl) (hd := by sl_kernel_rfl)]
      | rw [Cert.Pick.readCov_pick arg14.view (n := 7) (h := rfl) (hd := by sl_kernel_rfl)]
      first
      | rw [Cert.Pick.readCov_pick arg15.view (n := 0) (h := rfl) (hd := by sl_kernel_rfl)]
      | rw [Cert.Pick.readCov_pick arg15.view (n := 1) (h := rfl) (hd := by sl_kernel_rfl)]
      | rw [Cert.Pick.readCov_pick arg15.view (n := 2) (h := rfl) (hd := by sl_kernel_rfl)]
      | rw [Cert.Pick.readCov_pick arg15.view (n := 3) (h := rfl) (hd := by sl_kernel_rfl)]
      | rw [Cert.Pick.readCov_pick arg15.view (n := 4) (h := rfl) (hd := by sl_kernel_rfl)]
      | rw [Cert.Pick.readCov_pick arg15.view (n := 5) (h := rfl) (hd := by sl_kernel_rfl)]
      | rw [Cert.Pick.readCov_pick arg15.view (n := 6) (h := rfl) (hd := by sl_kernel_rfl)]
      | rw [Cert.Pick.readCov_pick arg15.view (n := 7) (h := rfl) (hd := by sl_kernel_rfl)]
      sl_unfold_run_values
      sl_open_pay
      rw [Cert.Pick.readCov_pick arg12.view (n := 7) (h := rfl) (hd := by sl_kernel_rfl)]
      rw [Cert.Pick.readCov_pick arg13.view (n := 7) (h := rfl) (hd := by sl_kernel_rfl)]
      rw [Cert.Pick.readCov_pick arg14.view (n := 8) (h := rfl) (hd := by sl_kernel_rfl)]
      rw [Cert.Pick.readCov_pick arg15.view (n := 8) (h := rfl) (hd := by sl_kernel_rfl)]
      sl_unfold_run_values
      sl_open_pay
      first
      | rw [Cert.Pick.readCov_drop arg12.view (n := 8) (hd := rfl)]
      | rw [Cert.Pick.readCov_drop arg12.view (n := 7) (hd := rfl)]
      | rw [Cert.Pick.readCov_drop arg12.view (n := 6) (hd := rfl)]
      | rw [Cert.Pick.readCov_drop arg12.view (n := 5) (hd := rfl)]
      | rw [Cert.Pick.readCov_drop arg12.view (n := 4) (hd := rfl)]
      | rw [Cert.Pick.readCov_drop arg12.view (n := 3) (hd := rfl)]
      | rw [Cert.Pick.readCov_drop arg12.view (n := 2) (hd := rfl)]
      | rw [Cert.Pick.readCov_drop arg12.view (n := 1) (hd := rfl)]
      | rw [Cert.Pick.readCov_drop arg12.view (n := 0) (hd := rfl)]
      first
      | rw [Cert.Pick.readCov_drop arg13.view (n := 8) (hd := rfl)]
      | rw [Cert.Pick.readCov_drop arg13.view (n := 7) (hd := rfl)]
      | rw [Cert.Pick.readCov_drop arg13.view (n := 6) (hd := rfl)]
      | rw [Cert.Pick.readCov_drop arg13.view (n := 5) (hd := rfl)]
      | rw [Cert.Pick.readCov_drop arg13.view (n := 4) (hd := rfl)]
      | rw [Cert.Pick.readCov_drop arg13.view (n := 3) (hd := rfl)]
      | rw [Cert.Pick.readCov_drop arg13.view (n := 2) (hd := rfl)]
      | rw [Cert.Pick.readCov_drop arg13.view (n := 1) (hd := rfl)]
      | rw [Cert.Pick.readCov_drop arg13.view (n := 0) (hd := rfl)]
      first
      | rw [Cert.Pick.readCov_drop arg14.view (n := 8) (hd := rfl)]
      | rw [Cert.Pick.readCov_drop arg14.view (n := 7) (hd := rfl)]
      | rw [Cert.Pick.readCov_drop arg14.view (n := 6) (hd := rfl)]
      | rw [Cert.Pick.readCov_drop arg14.view (n := 5) (hd := rfl)]
      | rw [Cert.Pick.readCov_drop arg14.view (n := 4) (hd := rfl)]
      | rw [Cert.Pick.readCov_drop arg14.view (n := 3) (hd := rfl)]
      | rw [Cert.Pick.readCov_drop arg14.view (n := 2) (hd := rfl)]
      | rw [Cert.Pick.readCov_drop arg14.view (n := 1) (hd := rfl)]
      | rw [Cert.Pick.readCov_drop arg14.view (n := 0) (hd := rfl)]
      first
      | rw [Cert.Pick.readCov_drop arg15.view (n := 8) (hd := rfl)]
      | rw [Cert.Pick.readCov_drop arg15.view (n := 7) (hd := rfl)]
      | rw [Cert.Pick.readCov_drop arg15.view (n := 6) (hd := rfl)]
      | rw [Cert.Pick.readCov_drop arg15.view (n := 5) (hd := rfl)]
      | rw [Cert.Pick.readCov_drop arg15.view (n := 4) (hd := rfl)]
      | rw [Cert.Pick.readCov_drop arg15.view (n := 3) (hd := rfl)]
      | rw [Cert.Pick.readCov_drop arg15.view (n := 2) (hd := rfl)]
      | rw [Cert.Pick.readCov_drop arg15.view (n := 1) (hd := rfl)]
      | rw [Cert.Pick.readCov_drop arg15.view (n := 0) (hd := rfl)]
      sl_kernel_rfl

end Cert.KernelIdeal.Attn
end
-- ==== Proof.OutDef.lean ====
/-
  What one grid point's body computes, as a function of its input blocks: the masked and scaled queries, the first state, the eleven
  chunks of keys, and the normalised difference of the two quotients. Over any float instance.
-/
module

public import proofs.«01_k».proof.Proof.Chain
public import Idealize.ShloMosaic.Lib.Pointwise.Index

@[expose] public section

noncomputable section

namespace Cert.KernelIdeal.Attn

open Cert.KernelIdeal Cert.KernelIdeal.Gen
open Idealize.ShloMosaic Idealize.ShloMosaic.TcCoe

variable {F : FTy → Type} [FloatOps F] [Named F]

/-- The columns of the query block that the `sb`-th quarter takes. -/
abbrev qRect (sb : Fin 4) : Rect S1x1x128x1024 :=
  Rect.unit (s := S1x1x128x1024) ![0, 0, 0, 256 * sb.val] S1x1x128x256.size (by revert sb; decide)

/-- A quarter's queries, scaled. -/
def qScaled (B3 : Vec F S1x1x128x1024 .bf16) (sb : Fin 4) : FVec F S128x256 .bf16 :=
  truncf .bf16 (mulf (extf .f32 (shapeCast S128x256 (fun x => B3 ((qRect sb).toLoadRect.idx x)) shapeCasts_S1x1x128x256_S128x256) bitsLt_bf16_f32)
    (broadcast S128x256 (Named.named κ "scale" 0x3E38AA3B#32))) bitsLt_bf16_f32

/-- Which rows belong to the first softmax. -/
def firstHalf : IVec S128x256 1 := cmpi .slt (iota .tc S128x256 32 [0] iota_S128x256_d0_w32) (broadcast S128x256 64#32)

/-- The queries of softmax `mi`: the other one's rows are zero. -/
def qCell (B3 : Vec F S1x1x128x1024 .bf16) (mi : Fin 2) (sb : Fin 4) : FVec F S1x1x128x256 .bf16 :=
  shapeCast S1x1x128x256
    (if mi = 0 then select firstHalf (qScaled B3 sb) (broadcast S128x256 (Scalar.ofBits .bf16 0x0000#16))
      else select firstHalf (broadcast S128x256 (Scalar.ofBits .bf16 0x0000#16)) (qScaled B3 sb))
    shapeCasts_S128x256_S1x1x128x256

/-- The state before the first chunk. -/
def initSt (K0 : Vec F S768x128 .bf16) (q : Vec F S1x1x128x256 .bf16) : St F where
  m := fun _ => Scalar.ofBits .f32 0xF149F2CA#32
  a := fun _ => Scalar.ofBits .f32 0x00000000#32
  s := scoreSt K0 q
  x := colMaxSt K0 q

/-- The sums after all eleven chunks. -/
def finalA (B3 : Vec F S1x1x128x1024 .bf16) (B4 : Vec F S1x8192x128 .bf16) (B5 : Vec F S1x1x144x8192 .bf16)
    (B6 : Vec F S1x256x128 .bf16) (B7 : Vec F S1x1x144x256 .bf16) (mi : Fin 2) (sb : Fin 4) : Vec F S1x1x144x256 .f32 :=
  ((initSt (blkK B4 B6 0) (qCell B3 mi sb)).run (blkK B4 B6) (blkV B5 B7) (qCell B3 mi sb) 11).a

/-- The weighted sums of the values, and the sum of the weights, out of a cell's sums. -/
def numOf (A : Vec F S1x1x144x256 .f32) : Vec F S1x1x128x256 .f32 := fun x =>
  A ((Rect.unit (s := S1x1x144x256) ![0, 0, 0, 0] S1x1x128x256.size (by decide)).toLoadRect.idx x)
def denOf (A : Vec F S1x1x144x256 .f32) : Vec F S1x1x1x256 .f32 := fun x =>
  A ((Rect.unit (s := S1x1x144x256) ![0, 0, 128, 0] S1x1x1x256.size (by decide)).toLoadRect.idx x)

/-- One softmax's average of the values. -/
def quot (n : Vec F S1x1x128x256 .f32) (d : Vec F S1x1x1x256 .f32) : FVec F S128x256 .f32 :=
  divf (shapeCast S128x256 n shapeCasts_S1x1x128x256_S128x256)
    (broadcastTo S128x256 (shapeCast S1x256 d shapeCasts_S1x1x1x256_S1x256) broadcasts_S1x256_S128x256)

/-- The learned weight of the second softmax. -/
def lamOf (l : Vec F S4x64 .f32) : FVec F S1x1 .f32 :=
  addf (subf
      (exp (shapeCast S1x1 (multiReduction .add [1] S1 (mulf (extractStridedSlice S1x64 ![0, 0] l slices_S4x64_o0_0_S1x64)
        (extractStridedSlice S1x64 ![1, 0] l slices_S4x64_o1_0_S1x64)) 0x00000000#32 reduces_S1x64_S1 (.inl rfl) rfl) shapeCasts_S1_S1x1))
      (exp (shapeCast S1x1 (multiReduction .add [1] S1 (mulf (extractStridedSlice S1x64 ![2, 0] l slices_S4x64_o2_0_S1x64)
        (extractStridedSlice S1x64 ![3, 0] l slices_S4x64_o3_0_S1x64)) 0x00000000#32 reduces_S1x64_S1 (.inl rfl) rfl) shapeCasts_S1_S1x1)))
    (broadcast S1x1 (Scalar.ofBits .f32 0x3EB60549#32))

/-- The difference of the two averages, one row per query. -/
def diffOf (l : Vec F S4x64 .f32) (n0 : Vec F S1x1x128x256 .f32) (d0 : Vec F S1x1x1x256 .f32) (n1 : Vec F S1x1x128x256 .f32)
    (d1 : Vec F S1x1x1x256 .f32) : FVec F S256x128 .f32 :=
  transpose S256x128 [1, 0] (subf (quot n0 d0) (mulf (broadcastTo S128x256 (lamOf l) broadcasts_S1x1_S128x256) (quot n1 d1)))
    transposes_S128x256_p1_0_S256x128

/-- A row scaled by the root of its mean square, by the norm's weights and by one minus the initial weight. -/
def normOf (w : Vec F S1x128 .f32) (o : FVec F S256x128 .f32) : FVec F S1x256x128 .bf16 :=
  shapeCast S1x256x128 (truncf .bf16 (mulf (mulf (mulf o
      (broadcastTo S256x128 (rsqrt (addf (divf
        (shapeCast S256x1 (multiReduction .add [1] S256 (mulf o o) 0x00000000#32 reduces_S256x128_S256 (.inl rfl) rfl) shapeCasts_S256_S256x1)
        (broadcast S256x1 (Scalar.ofBits .f32 0x43000000#32))) (broadcast S256x1 (Scalar.ofBits .f32 0x3727C5AC#32))))
        broadcasts_S256x1_S256x128))
      (broadcastTo S256x128 (shapeCast S1x128 w shapeCasts_S1x128_S1x128) broadcasts_S1x128_S256x128))
      (broadcast S256x128 (Scalar.ofBits .f32 0x3F24FD5C#32))) bitsLt_bf16_f32) shapeCasts_S256x128_S1x256x128

/-- The rows of the output block that the `sb`-th quarter fills. -/
abbrev oRect (sb : Fin 4) : Rect S1x1024x128 :=
  Rect.unit (s := S1x1024x128) ![0, 256 * sb.val, 0] S1x256x128.size (by revert sb; decide)

/-- What the body leaves in the `sb`-th quarter of its output block. -/
def outOf (B3 : Vec F S1x1x128x1024 .bf16) (B4 : Vec F S1x8192x128 .bf16) (B5 : Vec F S1x1x144x8192 .bf16)
    (B6 : Vec F S1x256x128 .bf16) (B7 : Vec F S1x1x144x256 .bf16) (B8 : Vec F S4x64 .f32) (B9 : Vec F S1x128 .f32)
    (sb : Fin 4) : FVec F S1x256x128 .bf16 :=
  normOf (fun x => B9 ((Rect.unit (s := S1x128) ![0, 0] S1x128.size inb_S1x128_S1x128_0_0).toLoadRect.idx x))
    (diffOf (fun x => B8 ((Rect.unit (s := S4x64) ![0, 0] S4x64.size inb_S4x64_S4x64_0_0).toLoadRect.idx x))
      (numOf (finalA B3 B4 B5 B6 B7 0 sb)) (denOf (finalA B3 B4 B5 B6 B7 0 sb))
      (numOf (finalA B3 B4 B5 B6 B7 1 sb)) (denOf (finalA B3 B4 B5 B6 B7 1 sb)))

/-- What the body leaves in its output block. -/
def outBlk (B3 : Vec F S1x1x128x1024 .bf16) (B4 : Vec F S1x8192x128 .bf16) (B5 : Vec F S1x1x144x8192 .bf16)
    (B6 : Vec F S1x256x128 .bf16) (B7 : Vec F S1x1x144x256 .bf16) (B8 : Vec F S4x64 .f32) (B9 : Vec F S1x128 .f32) :
    FVec F S1x1024x128 .bf16 := fun x =>
  outOf B3 B4 B5 B6 B7 B8 B9 ⟨(x 1).val / 256, by have h : (x 1).val < 1024 := (x 1).isLt; omega⟩
    (ix3 (n0 := 1) (n1 := 256) (n2 := 128) 0 ⟨(x 1).val % 256, Nat.mod_lt _ (by decide)⟩ (x 2))

end Cert.KernelIdeal.Attn
end
-- ==== Proof.Out.lean ====
/-
  What the body leaves in its output block: the opening stores read back, the loop and the three last chunks, the closing arithmetic.
-/
module

public import proofs.«01_k».proof.Proof.Tail
public import proofs.«01_k».proof.Proof.OutDef
public import proofs.«01_k».proof.Proof.Pick
public import Idealize.ShloMosaic.Lib.VecWindow
public import Idealize.ShloMosaic.Lib.Tactic.RunNames
public import Idealize.ShloMosaic.Lib.Tactic.Stretches

@[expose] public section

set_option maxRecDepth 8192

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open Idealize.SL.Sem

variable {F : FTy → Type} [FloatOps F] [Named F]

set_option maxHeartbeats 1000000

/-- The first state and the queries of a cell, as the body's opening stores leave them. -/
theorem init_m (arg12 : Memref sig .tc .vmem S2x4x1x256 .f32) (f12 : BufTy.Contents (Elt F) arg12.view.ty) (mi : Fin 2) (sb : Fin 4) :
    arg12.view.readAt (Elt F) (c12 mi sb).toLoadRect (arg12.view.writes (Elt F) f12 bodyRun.sl.H12_1)
      = fun _ => Scalar.ofBits .f32 0xF149F2CA#32 :=
  funext fun x => congrFun (View.read_writes_full arg12.view f12 inb_S2x4x1x256_S2x4x1x256_0_0_0_0 (k0_pay144 (F := F)) []) _

theorem init_a (arg13 : Memref sig .tc .vmem S2x4x144x256 .f32) (f13 : BufTy.Contents (Elt F) arg13.view.ty) (mi : Fin 2) (sb : Fin 4) :
    arg13.view.readAt (Elt F) (c13 mi sb).toLoadRect (arg13.view.writes (Elt F) f13 bodyRun.sl.H13_1)
      = fun _ => Scalar.ofBits .f32 0x00000000#32 :=
  funext fun x => congrFun (View.read_writes_full arg13.view f13 inb_S2x4x144x256_S2x4x144x256_0_0_0_0 (k0_pay145 (F := F)) []) _

theorem init_q (arg3 : Memref sig .tc .vmem S1x1x128x1024 .bf16) (arg11 : Memref sig .tc .vmem S2x4x128x256 .bf16)
    (f3 : BufTy.Contents (Elt F) arg3.view.ty) (f11 : BufTy.Contents (Elt F) arg11.view.ty) (mi : Fin 2) (sb : Fin 4) :
    arg11.view.readAt (Elt F) (c11 mi sb).toLoadRect (arg11.view.writes (Elt F) f11 (bodyRun.sl.H11_8 arg3 f3))
      = qCell (arg3.view.read (Elt F) f3) mi sb := by
  fin_cases mi <;> fin_cases sb
  all_goals
      first
      | refine (Cert.Pick.readAt_pick _ _ _ _ 0 _ rfl (by sl_kernel_rfl)).trans ?_
      | refine (Cert.Pick.readAt_pick _ _ _ _ 1 _ rfl (by sl_kernel_rfl)).trans ?_
      | refine (Cert.Pick.readAt_pick _ _ _ _ 2 _ rfl (by sl_kernel_rfl)).trans ?_
      | refine (Cert.Pick.readAt_pick _ _ _ _ 3 _ rfl (by sl_kernel_rfl)).trans ?_
      | refine (Cert.Pick.readAt_pick _ _ _ _ 4 _ rfl (by sl_kernel_rfl)).trans ?_
      | refine (Cert.Pick.readAt_pick _ _ _ _ 5 _ rfl (by sl_kernel_rfl)).trans ?_
      | refine (Cert.Pick.readAt_pick _ _ _ _ 6 _ rfl (by sl_kernel_rfl)).trans ?_
      | refine (Cert.Pick.readAt_pick _ _ _ _ 7 _ rfl (by sl_kernel_rfl)).trans ?_
      sl_unfold_run_values
      sl_open_pay
      sl_kernel_rfl

theorem init_s (arg3 : Memref sig .tc .vmem S1x1x128x1024 .bf16) (arg4 : Memref sig .tc .vmem S1x8192x128 .bf16)
    (arg11 : Memref sig .tc .vmem S2x4x128x256 .bf16) (arg14 : Memref sig .tc .vmem S2x2x4x768x256 .f32)
    (f3 : BufTy.Contents (Elt F) arg3.view.ty) (f4 : BufTy.Contents (Elt F) arg4.view.ty)
    (B6 : Vec F S1x256x128 .bf16) (f14 : BufTy.Contents (Elt F) arg14.view.ty) (mi : Fin 2) (sb : Fin 4) :
    arg14.view.readAt (Elt F) (c14 0 mi sb).toLoadRect (arg14.view.writes (Elt F) f14 (bodyRun.sl.H14_8 arg3 arg4 arg11 f3 f4))
      = scoreSt (blkK (arg4.view.read (Elt F) f4) B6 0) (qCell (arg3.view.read (Elt F) f3) mi sb) := by
  rw [← init_q arg3 arg11 f3 arg11.view.junk mi sb]
  unfold blkK
  rw [dif_pos (by decide)]
  fin_cases mi <;> fin_cases sb
  all_goals
      first
      | refine (Cert.Pick.readAt_pick _ _ _ _ 0 _ rfl (by sl_kernel_rfl)).trans ?_
      | refine (Cert.Pick.readAt_pick _ _ _ _ 1 _ rfl (by sl_kernel_rfl)).trans ?_
      | refine (Cert.Pick.readAt_pick _ _ _ _ 2 _ rfl (by sl_kernel_rfl)).trans ?_
      | refine (Cert.Pick.readAt_pick _ _ _ _ 3 _ rfl (by sl_kernel_rfl)).trans ?_
      | refine (Cert.Pick.readAt_pick _ _ _ _ 4 _ rfl (by sl_kernel_rfl)).trans ?_
      | refine (Cert.Pick.readAt_pick _ _ _ _ 5 _ rfl (by sl_kernel_rfl)).trans ?_
      | refine (Cert.Pick.readAt_pick _ _ _ _ 6 _ rfl (by sl_kernel_rfl)).trans ?_
      | refine (Cert.Pick.readAt_pick _ _ _ _ 7 _ rfl (by sl_kernel_rfl)).trans ?_
      sl_unfold_run_values
      sl_open_pay
      sl_kernel_rfl

theorem init_x (arg3 : Memref sig .tc .vmem S1x1x128x1024 .bf16) (arg4 : Memref sig .tc .vmem S1x8192x128 .bf16)
    (arg11 : Memref sig .tc .vmem S2x4x128x256 .bf16) (arg15 : Memref sig .tc .vmem S2x2x4x1x256 .f32)
    (f3 : BufTy.Contents (Elt F) arg3.view.ty) (f4 : BufTy.Contents (Elt F) arg4.view.ty)
    (B6 : Vec F S1x256x128 .bf16) (f15 : BufTy.Contents (Elt F) arg15.view.ty) (mi : Fin 2) (sb : Fin 4) :
    arg15.view.readAt (Elt F) (c15 0 mi sb).toLoadRect (arg15.view.writes (Elt F) f15 (bodyRun.sl.H15_8 arg3 arg4 arg11 f3 f4))
      = colMaxSt (blkK (arg4.view.read (Elt F) f4) B6 0) (qCell (arg3.view.read (Elt F) f3) mi sb) := by
  rw [← init_q arg3 arg11 f3 arg11.view.junk mi sb]
  unfold blkK
  rw [dif_pos (by decide)]
  fin_cases mi <;> fin_cases sb
  all_goals
      first
      | refine (Cert.Pick.readAt_pick _ _ _ _ 0 _ rfl (by sl_kernel_rfl)).trans ?_
      | refine (Cert.Pick.readAt_pick _ _ _ _ 1 _ rfl (by sl_kernel_rfl)).trans ?_
      | refine (Cert.Pick.readAt_pick _ _ _ _ 2 _ rfl (by sl_kernel_rfl)).trans ?_
      | refine (Cert.Pick.readAt_pick _ _ _ _ 3 _ rfl (by sl_kernel_rfl)).trans ?_
      | refine (Cert.Pick.readAt_pick _ _ _ _ 4 _ rfl (by sl_kernel_rfl)).trans ?_
      | refine (Cert.Pick.readAt_pick _ _ _ _ 5 _ rfl (by sl_kernel_rfl)).trans ?_
      | refine (Cert.Pick.readAt_pick _ _ _ _ 6 _ rfl (by sl_kernel_rfl)).trans ?_
      | refine (Cert.Pick.readAt_pick _ _ _ _ 7 _ rfl (by sl_kernel_rfl)).trans ?_
      sl_unfold_run_values
      sl_open_pay
      sl_kernel_rfl

/-- What lay in a slot before the opening stores does not matter. -/
theorem base_s (arg3 : Memref sig .tc .vmem S1x1x128x1024 .bf16) (arg4 : Memref sig .tc .vmem S1x8192x128 .bf16)
    (arg11 : Memref sig .tc .vmem S2x4x128x256 .bf16) (arg14 : Memref sig .tc .vmem S2x2x4x768x256 .f32)
    (f3 : BufTy.Contents (Elt F) arg3.view.ty) (f4 : BufTy.Contents (Elt F) arg4.view.ty)
    (f14 : BufTy.Contents (Elt F) arg14.view.ty) (P : List (View.Piece (Elt F) S2x2x4x768x256 .f32)) (mi : Fin 2) (sb : Fin 4) :
    arg14.view.readAt (Elt F) (c14 0 mi sb).toLoadRect (arg14.view.writes (Elt F) arg14.view.junk (P ++ bodyRun.sl.H14_8 arg3 arg4 arg11 f3 f4))
      = arg14.view.readAt (Elt F) (c14 0 mi sb).toLoadRect (arg14.view.writes (Elt F) (arg14.view.writes (Elt F) f14 (bodyRun.sl.H14_8 arg3 arg4 arg11 f3 f4)) P) := by
  rw [← View.writes_append]
  fin_cases mi <;> fin_cases sb
  all_goals
      first
      | exact (Cert.Pick.readAt_writes_cov arg14.view f14 _ _ _ 0 _ rfl).symm
      | exact (Cert.Pick.readAt_writes_cov arg14.view f14 _ _ _ 1 _ rfl).symm
      | exact (Cert.Pick.readAt_writes_cov arg14.view f14 _ _ _ 2 _ rfl).symm
      | exact (Cert.Pick.readAt_writes_cov arg14.view f14 _ _ _ 3 _ rfl).symm
      | exact (Cert.Pick.readAt_writes_cov arg14.view f14 _ _ _ 4 _ rfl).symm
      | exact (Cert.Pick.readAt_writes_cov arg14.view f14 _ _ _ 5 _ rfl).symm
      | exact (Cert.Pick.readAt_writes_cov arg14.view f14 _ _ _ 6 _ rfl).symm
      | exact (Cert.Pick.readAt_writes_cov arg14.view f14 _ _ _ 7 _ rfl).symm

theorem base_x (arg3 : Memref sig .tc .vmem S1x1x128x1024 .bf16) (arg4 : Memref sig .tc .vmem S1x8192x128 .bf16)
    (arg11 : Memref sig .tc .vmem S2x4x128x256 .bf16) (arg15 : Memref sig .tc .vmem S2x2x4x1x256 .f32)
    (f3 : BufTy.Contents (Elt F) arg3.view.ty) (f4 : BufTy.Contents (Elt F) arg4.view.ty)
    (f15 : BufTy.Contents (Elt F) arg15.view.ty) (P : List (View.Piece (Elt F) S2x2x4x1x256 .f32)) (mi : Fin 2) (sb : Fin 4) :
    arg15.view.readAt (Elt F) (c15 0 mi sb).toLoadRect (arg15.view.writes (Elt F) arg15.view.junk (P ++ bodyRun.sl.H15_8 arg3 arg4 arg11 f3 f4))
      = arg15.view.readAt (Elt F) (c15 0 mi sb).toLoadRect (arg15.view.writes (Elt F) (arg15.view.writes (Elt F) f15 (bodyRun.sl.H15_8 arg3 arg4 arg11 f3 f4)) P) := by
  rw [← View.writes_append]
  fin_cases mi <;> fin_cases sb
  all_goals
      first
      | exact (Cert.Pick.readAt_writes_cov arg15.view f15 _ _ _ 0 _ rfl).symm
      | exact (Cert.Pick.readAt_writes_cov arg15.view f15 _ _ _ 1 _ rfl).symm
      | exact (Cert.Pick.readAt_writes_cov arg15.view f15 _ _ _ 2 _ rfl).symm
      | exact (Cert.Pick.readAt_writes_cov arg15.view f15 _ _ _ 3 _ rfl).symm
      | exact (Cert.Pick.readAt_writes_cov arg15.view f15 _ _ _ 4 _ rfl).symm
      | exact (Cert.Pick.readAt_writes_cov arg15.view f15 _ _ _ 5 _ rfl).symm
      | exact (Cert.Pick.readAt_writes_cov arg15.view f15 _ _ _ 6 _ rfl).symm
      | exact (Cert.Pick.readAt_writes_cov arg15.view f15 _ _ _ 7 _ rfl).symm

/-- The sums the body reads back at one cell are those of the eleven chunks. -/
theorem final_cell (𝒱 : Variants) (c : Dev nD) (bd : Option 𝒱.V) (i : grid0.Coords)
    (arg3 : Memref sig .tc .vmem S1x1x128x1024 .bf16) (harg3 : arg3.IsWhole)
    (arg4 : Memref sig .tc .vmem S1x8192x128 .bf16) (harg4 : arg4.IsWhole)
    (arg5 : Memref sig .tc .vmem S1x1x144x8192 .bf16) (harg5 : arg5.IsWhole)
    (arg6 : Memref sig .tc .vmem S1x256x128 .bf16) (harg6 : arg6.IsWhole)
    (arg7 : Memref sig .tc .vmem S1x1x144x256 .bf16) (harg7 : arg7.IsWhole)
    (arg8 : Memref sig .tc .vmem S4x64 .f32) (harg8 : arg8.IsWhole)
    (arg9 : Memref sig .tc .vmem S1x128 .f32) (harg9 : arg9.IsWhole)
    (arg10 : Memref sig .tc .vmem S1x1024x128 .bf16) (harg10 : arg10.IsWhole)
    (arg11 : Memref sig .tc .vmem S2x4x128x256 .bf16) (harg11 : arg11.IsWhole)
    (arg12 : Memref sig .tc .vmem S2x4x1x256 .f32) (harg12 : arg12.IsWhole)
    (arg13 : Memref sig .tc .vmem S2x4x144x256 .f32) (harg13 : arg13.IsWhole)
    (arg14 : Memref sig .tc .vmem S2x2x4x768x256 .f32) (harg14 : arg14.IsWhole)
    (arg15 : Memref sig .tc .vmem S2x2x4x1x256 .f32) (harg15 : arg15.IsWhole)
    (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f14 : BufTy.Contents (Elt F) arg14.view.ty) (f15 : BufTy.Contents (Elt F) arg15.view.ty) (mi : Fin 2) (sb : Fin 4) :
    arg13.view.readCov (bodyRun.sl.H13_24 𝒱 c bd i arg3 harg3 arg4 harg4 arg5 harg5 arg6 harg6 arg7 harg7 arg8 harg8 arg9 harg9 arg10 harg10 arg11 harg11 arg12 harg12 arg13 harg13 arg14 harg14 arg15 harg15 f3 f4 f5 f6 f7 f14 f15) (c13 mi sb).toLoadRect
      = finalA (arg3.view.read (Elt F) f3) (arg4.view.read (Elt F) f4) (arg5.view.read (Elt F) f5) (arg6.view.read (Elt F) f6) (arg7.view.read (Elt F) f7) mi sb := by
  rw [tail_cell]
  have h8 := loop_cell 𝒱 c bd i arg3 harg3 arg4 harg4 arg5 harg5 arg6 harg6 arg7 harg7 arg8 harg8 arg9 harg9 arg10 harg10 arg11 harg11 arg12 harg12 arg13 harg13 arg14 harg14 arg15 harg15 0#32 f4 f5 (arg11.view.writes (Elt F) arg11.view.junk (bodyRun.sl.H11_8 arg3 f3)) (arg12.view.writes (Elt F) arg12.view.junk bodyRun.sl.H12_1) (arg13.view.writes (Elt F) arg13.view.junk bodyRun.sl.H13_1) (arg14.view.writes (Elt F) f14 (bodyRun.sl.H14_8 arg3 arg4 arg11 f3 f4)) (arg15.view.writes (Elt F) f15 (bodyRun.sl.H15_8 arg3 arg4 arg11 f3 f4)) (arg6.view.read (Elt F) f6) (arg7.view.read (Elt F) f7) mi sb 4 le_rfl
  have hst : stRead (arg12.view.writes (Elt F) arg12.view.junk (bodyRun.sl.H12_1 (F := F))) (arg13.view.writes (Elt F) arg13.view.junk bodyRun.sl.H13_1) (arg14.view.writes (Elt F) f14 (bodyRun.sl.H14_8 arg3 arg4 arg11 f3 f4)) (arg15.view.writes (Elt F) f15 (bodyRun.sl.H15_8 arg3 arg4 arg11 f3 f4)) 0 mi sb
      = initSt (blkK (arg4.view.read (Elt F) f4) (arg6.view.read (Elt F) f6) 0) (qCell (arg3.view.read (Elt F) f3) mi sb) :=
    by
      refine St.ext ?_ ?_ ?_ ?_ <;> dsimp only [stRead, initSt]
      · exact init_m arg12 _ mi sb
      · exact init_a arg13 _ mi sb
      · rw [init_s arg3 arg4 arg11 arg14 f3 f4 (arg6.view.read (Elt F) f6) f14 mi sb]
      · rw [init_x arg3 arg4 arg11 arg15 f3 f4 (arg6.view.read (Elt F) f6) f15 mi sb]
  rw [hst, init_q] at h8
  have h8' : stRead (arg12.view.writes (Elt F) arg12.view.junk ((pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 0#32 f4 f5 (arg11.view.writes (Elt F) arg11.view.junk (bodyRun.sl.H11_8 arg3 f3)) (arg12.view.writes (Elt F) arg12.view.junk bodyRun.sl.H12_1) (arg13.view.writes (Elt F) arg13.view.junk bodyRun.sl.H13_1) (arg14.view.writes (Elt F) f14 (bodyRun.sl.H14_8 arg3 arg4 arg11 f3 f4)) (arg15.view.writes (Elt F) f15 (bodyRun.sl.H15_8 arg3 arg4 arg11 f3 f4)) (Scf.trips k0_t1_loop.lb k0_t1_loop.ub k0_t1_loop.st)).1 ++ bodyRun.sl.H12_1))
      (arg13.view.writes (Elt F) arg13.view.junk ((pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 0#32 f4 f5 (arg11.view.writes (Elt F) arg11.view.junk (bodyRun.sl.H11_8 arg3 f3)) (arg12.view.writes (Elt F) arg12.view.junk bodyRun.sl.H12_1) (arg13.view.writes (Elt F) arg13.view.junk bodyRun.sl.H13_1) (arg14.view.writes (Elt F) f14 (bodyRun.sl.H14_8 arg3 arg4 arg11 f3 f4)) (arg15.view.writes (Elt F) f15 (bodyRun.sl.H15_8 arg3 arg4 arg11 f3 f4)) (Scf.trips k0_t1_loop.lb k0_t1_loop.ub k0_t1_loop.st)).2.1 ++ bodyRun.sl.H13_1))
      (arg14.view.writes (Elt F) arg14.view.junk ((pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 0#32 f4 f5 (arg11.view.writes (Elt F) arg11.view.junk (bodyRun.sl.H11_8 arg3 f3)) (arg12.view.writes (Elt F) arg12.view.junk bodyRun.sl.H12_1) (arg13.view.writes (Elt F) arg13.view.junk bodyRun.sl.H13_1) (arg14.view.writes (Elt F) f14 (bodyRun.sl.H14_8 arg3 arg4 arg11 f3 f4)) (arg15.view.writes (Elt F) f15 (bodyRun.sl.H15_8 arg3 arg4 arg11 f3 f4)) (Scf.trips k0_t1_loop.lb k0_t1_loop.ub k0_t1_loop.st)).2.2.1 ++ bodyRun.sl.H14_8 arg3 arg4 arg11 f3 f4))
      (arg15.view.writes (Elt F) arg15.view.junk ((pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 0#32 f4 f5 (arg11.view.writes (Elt F) arg11.view.junk (bodyRun.sl.H11_8 arg3 f3)) (arg12.view.writes (Elt F) arg12.view.junk bodyRun.sl.H12_1) (arg13.view.writes (Elt F) arg13.view.junk bodyRun.sl.H13_1) (arg14.view.writes (Elt F) f14 (bodyRun.sl.H14_8 arg3 arg4 arg11 f3 f4)) (arg15.view.writes (Elt F) f15 (bodyRun.sl.H15_8 arg3 arg4 arg11 f3 f4)) (Scf.trips k0_t1_loop.lb k0_t1_loop.ub k0_t1_loop.st)).2.2.2 ++ bodyRun.sl.H15_8 arg3 arg4 arg11 f3 f4)) 0 mi sb
      = (initSt (blkK (arg4.view.read (Elt F) f4) (arg6.view.read (Elt F) f6) 0) (qCell (arg3.view.read (Elt F) f3) mi sb)).run
        (blkK (arg4.view.read (Elt F) f4) (arg6.view.read (Elt F) f6)) (blkV (arg5.view.read (Elt F) f5) (arg7.view.read (Elt F) f7)) (qCell (arg3.view.read (Elt F) f3) mi sb) (2 * 4) := by
    refine Eq.trans ?_ h8
    rw [show Scf.trips k0_t1_loop.lb k0_t1_loop.ub k0_t1_loop.st = 4 from trips_eq, View.writes_append, View.writes_append]
    refine St.ext ?_ ?_ ?_ ?_ <;> dsimp only [stRead]
    · rw [base_s arg3 arg4 arg11 arg14 f3 f4 f14]
    · rw [base_x arg3 arg4 arg11 arg15 f3 f4 f15]
  rw [h8', init_q]
  rfl

/-- The body reads a cell's sums in two parts. -/
theorem num_read (arg13 : Memref sig .tc .vmem S2x4x144x256 .f32) (L : List (View.Piece (Elt F) S2x4x144x256 .f32)) (mi : Fin 2) (sb : Fin 4)
    (h : ∀ a, (![mi.val, sb.val, 0, 0] : Fin 4 → ℕ) a + S1x1x128x256.size a ≤ S2x4x144x256.size a) :
    numOf (arg13.view.readCov L (c13 mi sb).toLoadRect)
      = arg13.view.readCov L (Rect.unit (s := S2x4x144x256) ![mi.val, sb.val, 0, 0] S1x1x128x256.size h).toLoadRect := by
  funext x
  refine congrArg (arg13.view.read (Elt F) _) (funext fun a => Fin.ext ?_)
  simp only [c13, LoadRect.idx, Rect.toLoadRect, Rect.unit]
  fin_cases a <;> simp

theorem den_read (arg13 : Memref sig .tc .vmem S2x4x144x256 .f32) (L : List (View.Piece (Elt F) S2x4x144x256 .f32)) (mi : Fin 2) (sb : Fin 4)
    (h : ∀ a, (![mi.val, sb.val, 128, 0] : Fin 4 → ℕ) a + S1x1x1x256.size a ≤ S2x4x144x256.size a) :
    denOf (arg13.view.readCov L (c13 mi sb).toLoadRect)
      = arg13.view.readCov L (Rect.unit (s := S2x4x144x256) ![mi.val, sb.val, 128, 0] S1x1x1x256.size h).toLoadRect := by
  funext x
  refine congrArg (arg13.view.read (Elt F) _) (funext fun a => Fin.ext ?_)
  simp only [c13, LoadRect.idx, Rect.toLoadRect, Rect.unit]
  fin_cases a <;> simp

/-- What the body leaves in a quarter of its output block. -/
theorem out_quarter (𝒱 : Variants) (c : Dev nD) (bd : Option 𝒱.V) (i : grid0.Coords)
    (arg3 : Memref sig .tc .vmem S1x1x128x1024 .bf16) (harg3 : arg3.IsWhole)
    (arg4 : Memref sig .tc .vmem S1x8192x128 .bf16) (harg4 : arg4.IsWhole)
    (arg5 : Memref sig .tc .vmem S1x1x144x8192 .bf16) (harg5 : arg5.IsWhole)
    (arg6 : Memref sig .tc .vmem S1x256x128 .bf16) (harg6 : arg6.IsWhole)
    (arg7 : Memref sig .tc .vmem S1x1x144x256 .bf16) (harg7 : arg7.IsWhole)
    (arg8 : Memref sig .tc .vmem S4x64 .f32) (harg8 : arg8.IsWhole)
    (arg9 : Memref sig .tc .vmem S1x128 .f32) (harg9 : arg9.IsWhole)
    (arg10 : Memref sig .tc .vmem S1x1024x128 .bf16) (harg10 : arg10.IsWhole)
    (arg11 : Memref sig .tc .vmem S2x4x128x256 .bf16) (harg11 : arg11.IsWhole)
    (arg12 : Memref sig .tc .vmem S2x4x1x256 .f32) (harg12 : arg12.IsWhole)
    (arg13 : Memref sig .tc .vmem S2x4x144x256 .f32) (harg13 : arg13.IsWhole)
    (arg14 : Memref sig .tc .vmem S2x2x4x768x256 .f32) (harg14 : arg14.IsWhole)
    (arg15 : Memref sig .tc .vmem S2x2x4x1x256 .f32) (harg15 : arg15.IsWhole)
    (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f14 : BufTy.Contents (Elt F) arg14.view.ty) (f15 : BufTy.Contents (Elt F) arg15.view.ty) (sb : Fin 4) :
    arg10.view.readAt (Elt F) (oRect sb).toLoadRect (arg10.view.writes (Elt F) f10 ((bodyRun (F := F) 𝒱 c bd i arg3 harg3 arg4 harg4 arg5 harg5 arg6 harg6 arg7 harg7 arg8 harg8 arg9 harg9 arg10 harg10 arg11 harg11 arg12 harg12 arg13 harg13 arg14 harg14 arg15 harg15 f3 f4 f5 f6 f7 f8 f9).1 f14 f15))
      = outOf (arg3.view.read (Elt F) f3) (arg4.view.read (Elt F) f4) (arg5.view.read (Elt F) f5) (arg6.view.read (Elt F) f6) (arg7.view.read (Elt F) f7) (arg8.view.read (Elt F) f8) (arg9.view.read (Elt F) f9) sb := by
  unfold outOf
  rw [← final_cell 𝒱 c bd i arg3 harg3 arg4 harg4 arg5 harg5 arg6 harg6 arg7 harg7 arg8 harg8 arg9 harg9 arg10 harg10 arg11 harg11 arg12 harg12 arg13 harg13 arg14 harg14 arg15 harg15 f3 f4 f5 f6 f7 f14 f15 0 sb, ← final_cell 𝒱 c bd i arg3 harg3 arg4 harg4 arg5 harg5 arg6 harg6 arg7 harg7 arg8 harg8 arg9 harg9 arg10 harg10 arg11 harg11 arg12 harg12 arg13 harg13 arg14 harg14 arg15 harg15 f3 f4 f5 f6 f7 f14 f15 1 sb]
  rw [num_read arg13 _ 0 sb (by revert sb; decide), num_read arg13 _ 1 sb (by revert sb; decide),
    den_read arg13 _ 0 sb (by revert sb; decide), den_read arg13 _ 1 sb (by revert sb; decide)]
  unfold bodyRun
  dsimp only
  fin_cases sb
  all_goals
      first
      | refine (Cert.Pick.readAt_pick _ _ _ _ 0 _ rfl (by sl_kernel_rfl)).trans ?_
      | refine (Cert.Pick.readAt_pick _ _ _ _ 1 _ rfl (by sl_kernel_rfl)).trans ?_
      | refine (Cert.Pick.readAt_pick _ _ _ _ 2 _ rfl (by sl_kernel_rfl)).trans ?_
      | refine (Cert.Pick.readAt_pick _ _ _ _ 3 _ rfl (by sl_kernel_rfl)).trans ?_
      sl_unfold_run_values
      sl_open_pay
      sl_kernel_rfl

/-- What the body leaves in its output block. -/
theorem out_block (𝒱 : Variants) (c : Dev nD) (bd : Option 𝒱.V) (i : grid0.Coords)
    (arg3 : Memref sig .tc .vmem S1x1x128x1024 .bf16) (harg3 : arg3.IsWhole)
    (arg4 : Memref sig .tc .vmem S1x8192x128 .bf16) (harg4 : arg4.IsWhole)
    (arg5 : Memref sig .tc .vmem S1x1x144x8192 .bf16) (harg5 : arg5.IsWhole)
    (arg6 : Memref sig .tc .vmem S1x256x128 .bf16) (harg6 : arg6.IsWhole)
    (arg7 : Memref sig .tc .vmem S1x1x144x256 .bf16) (harg7 : arg7.IsWhole)
    (arg8 : Memref sig .tc .vmem S4x64 .f32) (harg8 : arg8.IsWhole)
    (arg9 : Memref sig .tc .vmem S1x128 .f32) (harg9 : arg9.IsWhole)
    (arg10 : Memref sig .tc .vmem S1x1024x128 .bf16) (harg10 : arg10.IsWhole)
    (arg11 : Memref sig .tc .vmem S2x4x128x256 .bf16) (harg11 : arg11.IsWhole)
    (arg12 : Memref sig .tc .vmem S2x4x1x256 .f32) (harg12 : arg12.IsWhole)
    (arg13 : Memref sig .tc .vmem S2x4x144x256 .f32) (harg13 : arg13.IsWhole)
    (arg14 : Memref sig .tc .vmem S2x2x4x768x256 .f32) (harg14 : arg14.IsWhole)
    (arg15 : Memref sig .tc .vmem S2x2x4x1x256 .f32) (harg15 : arg15.IsWhole)
    (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f14 : BufTy.Contents (Elt F) arg14.view.ty) (f15 : BufTy.Contents (Elt F) arg15.view.ty) :
    arg10.view.read (Elt F) (arg10.view.writes (Elt F) f10 ((bodyRun (F := F) 𝒱 c bd i arg3 harg3 arg4 harg4 arg5 harg5 arg6 harg6 arg7 harg7 arg8 harg8 arg9 harg9 arg10 harg10 arg11 harg11 arg12 harg12 arg13 harg13 arg14 harg14 arg15 harg15 f3 f4 f5 f6 f7 f8 f9).1 f14 f15))
      = outBlk (arg3.view.read (Elt F) f3) (arg4.view.read (Elt F) f4) (arg5.view.read (Elt F) f5) (arg6.view.read (Elt F) f6) (arg7.view.read (Elt F) f7) (arg8.view.read (Elt F) f8) (arg9.view.read (Elt F) f9) := by
  funext x
  have h1 : (x 1).val < 1024 := (x 1).isLt
  have h0 : (x 0).val < 1 := (x 0).isLt
  have hq := congrFun (out_quarter 𝒱 c bd i arg3 harg3 arg4 harg4 arg5 harg5 arg6 harg6 arg7 harg7 arg8 harg8 arg9 harg9 arg10 harg10 arg11 harg11 arg12 harg12 arg13 harg13 arg14 harg14 arg15 harg15 f3 f4 f5 f6 f7 f8 f9 f10 f14 f15 ⟨(x 1).val / 256, by omega⟩)
    (ix3 (n0 := 1) (n1 := 256) (n2 := 128) 0 ⟨(x 1).val % 256, Nat.mod_lt _ (by decide)⟩ (x 2))
  refine Eq.trans ?_ hq
  refine congrArg (arg10.view.read (Elt F) _) (funext fun a => Fin.ext ?_)
  simp only [LoadRect.idx, Rect.toLoadRect, Rect.unit]
  fin_cases a
  · simp; omega
  · simp; omega
  · simp

end Cert.KernelIdeal.Attn
end
-- ==== Proof.Launch.lean ====
/-
  The attention program's run from its one body: the proof data, the body obligation at a grid point, and the whole program's
  termination with its result named and its arguments and semaphore counters as they were. Everything is over any float
  instance.
-/
module

public import proofs.«01_k».proof.Proof.Out
public import Idealize.ShloMosaic.Lib.Pipeline.Frame

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body leaves in each window: the input blocks; the output, computed from them. -/
def after0 (c : Dev nD) (w : Fin cfg0.W) (t : Fin cfg0.N) : ((cfg0.win w).block).Idx → Elt F (cfg0.win w).elt :=
  match w with
  | ⟨0, _⟩ => iblk m c 0 t
  | ⟨1, _⟩ => iblk m c 1 t
  | ⟨2, _⟩ => iblk m c 2 t
  | ⟨3, _⟩ => iblk m c 3 t
  | ⟨4, _⟩ => iblk m c 4 t
  | ⟨5, _⟩ => iblk m c 5 t
  | ⟨6, _⟩ => iblk m c 6 t
  | ⟨7, _⟩ => outBlk (iblk m c 0 t) (iblk m c 1 t) (iblk m c 2 t) (iblk m c 3 t) (iblk m c 4 t) (iblk m c 5 t) (iblk m c 6 t)
  | ⟨_ + 8, h⟩ => absurd h (Nat.not_lt.2 (Nat.le_add_left _ _))

/-- The proof data on core `c`. -/
def dats (_ : Fin 1) (c : Dev nD) : Dat τ (Elt F) Unit ℕ (UR sig nD τ) ℕ cfg0 c where
  A w := V m c (Pipeline.arrRef spec0 w)
  after := after0 m c
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]; rfl
theorem before_0 (c : Dev nD) (t : Fin cfg0.N) (d) : (dats m 0 c).before 0 t d = iblk m c 0 t :=
  before0_0_of m (dats m 0 c) rfl (after_0 m c) t d
theorem after_1 (c : Dev nD) (t : Fin cfg0.N) : (dats m 0 c).after 1 t = iblk m c 1 t := by dsimp only [dats]; rfl
theorem before_1 (c : Dev nD) (t : Fin cfg0.N) (d) : (dats m 0 c).before 1 t d = iblk m c 1 t :=
  before0_1_of m (dats m 0 c) rfl (after_1 m c) t d
theorem after_2 (c : Dev nD) (t : Fin cfg0.N) : (dats m 0 c).after 2 t = iblk m c 2 t := by dsimp only [dats]; rfl
theorem before_2 (c : Dev nD) (t : Fin cfg0.N) (d) : (dats m 0 c).before 2 t d = iblk m c 2 t :=
  before0_2_of m (dats m 0 c) rfl (after_2 m c) t d
theorem after_3 (c : Dev nD) (t : Fin cfg0.N) : (dats m 0 c).after 3 t = iblk m c 3 t := by dsimp only [dats]; rfl
theorem before_3 (c : Dev nD) (t : Fin cfg0.N) (d) : (dats m 0 c).before 3 t d = iblk m c 3 t :=
  before0_3_of m (dats m 0 c) rfl (after_3 m c) t d
theorem after_4 (c : Dev nD) (t : Fin cfg0.N) : (dats m 0 c).after 4 t = iblk m c 4 t := by dsimp only [dats]; rfl
theorem before_4 (c : Dev nD) (t : Fin cfg0.N) (d) : (dats m 0 c).before 4 t d = iblk m c 4 t :=
  before0_4_of m (dats m 0 c) rfl (after_4 m c) t d
theorem after_5 (c : Dev nD) (t : Fin cfg0.N) : (dats m 0 c).after 5 t = iblk m c 5 t := by dsimp only [dats]; rfl
theorem before_5 (c : Dev nD) (t : Fin cfg0.N) (d) : (dats m 0 c).before 5 t d = iblk m c 5 t :=
  before0_5_of m (dats m 0 c) rfl (after_5 m c) t d
theorem after_6 (c : Dev nD) (t : Fin cfg0.N) : (dats m 0 c).after 6 t = iblk m c 6 t := by dsimp only [dats]; rfl
theorem before_6 (c : Dev nD) (t : Fin cfg0.N) (d) : (dats m 0 c).before 6 t d = iblk m c 6 t :=
  before0_6_of m (dats m 0 c) rfl (after_6 m c) t d

theorem after_7 (c : Dev nD) (t : Fin cfg0.N) : (dats m 0 c).after 7 t
    = outBlk (iblk m c 0 t) (iblk m c 1 t) (iblk m c 2 t) (iblk m c 3 t) (iblk m c 4 t) (iblk m c 5 t) (iblk m c 6 t) := by dsimp only [dats]; rfl

/-- The scratch buffers as whole memrefs. -/
abbrev sc11 : Memref sig .tc .vmem S2x4x128x256 .bf16 := Memref.whole cc0_scratch0
abbrev sc12 : Memref sig .tc .vmem S2x4x1x256 .f32 := Memref.whole cc0_scratch1
abbrev sc13 : Memref sig .tc .vmem S2x4x144x256 .f32 := Memref.whole cc0_scratch2
abbrev sc14 : Memref sig .tc .vmem S2x2x4x768x256 .f32 := Memref.whole cc0_scratch3
abbrev sc15 : Memref sig .tc .vmem S2x2x4x1x256 .f32 := Memref.whole cc0_scratch4

/-- The invariant between points: the five scratch buffers at something, the generator register at some state. -/
theorem PhiA0_eq (c : Dev nD) :
    (Pipeline.ΦA spec0 c : sProp 𝕄)
      = iprop(iprop((∃ d, owns (c : Thread nD τ) sc11 fullShare d) ∗ (∃ d, owns (c : Thread nD τ) sc12 fullShare d) ∗ (∃ d, owns (c : Thread nD τ) sc13 fullShare d) ∗ (∃ d, owns (c : Thread nD τ) sc14 fullShare d) ∗ (∃ d, owns (c : Thread nD τ) sc15 fullShare d)) ∗ ∃ r, prngReg c r) := by
  unfold Pipeline.ΦA; rw [scopedRest0_eq]; simp only [sc11, sc12, sc13, sc14, sc15, owns_whole]; try rfl

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t)
    ∗ owns (c : Thread nD τ) (win0_7.stage (cfg0.slots t 7)) fullShare ((dats m 0 c).after 7 t))

/-- The body at a point: the invariant opened, the run, the invariant closed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq]
  simp only [before_0, after_0, before_1, after_1, before_2, after_2, before_3, after_3, before_4, after_4, before_5, after_5, before_6, after_6, after_7]
  unfold owns
  iintro ⟨⟨⟨⟨%d11, %f11, -, H11⟩, ⟨%d12, %f12, -, H12⟩, ⟨%d13, %f13, -, H13⟩, ⟨%d14, %f14, -, H14⟩, ⟨%d15, %f15, -, H15⟩⟩, Hg⟩, HO, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩, ⟨%d9, %f9, %h9, H9⟩, ⟨%d10, %f10, -, H10⟩⟩
  iapply (wp_wand_r Idealize.ShloMosaic.frame (wpE (defs₀ (F := F)) Variants.none (c : Thread nD τ) none) Set.univ)
  isplitl [H3 H4 H5 H6 H7 H8 H9 H10 H11 H12 H13 H14 H15]
  · iapply ((bodyRun Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) sc11 (Memref.isWhole_whole _) sc12 (Memref.isWhole_whole _) sc13 (Memref.isWhole_whole _) sc14 (Memref.isWhole_whole _) sc15 (Memref.isWhole_whole _) f3 f4 f5 f6 f7 f8 f9).2 Set.univ f10 f11 f12 f13 f14 f15)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  iintro %_ ⟨H3, H4, H5, H6, H7, H8, H9, H10, ⟨%g11, H11⟩, ⟨%g12, H12⟩, ⟨%g13, H13⟩, ⟨%g14, H14⟩, ⟨%g15, H15⟩⟩
  isplitl [H11 H12 H13 H14 H15 Hg]
  · isplitl [H11 H12 H13 H14 H15]
    · isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [H14]
      · iexists _, _; isplitr; swap; · iexact H14
        ipureintro; rfl
      iexists _, _; isplitr; swap; · iexact H15
      ipureintro; rfl
    iexact Hg
  isplitl [HO]; · iexact HO
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro; exact h5
  isplitl [H6]
  · iexists _; isplitr; swap; · iexact H6
    ipureintro; exact h6
  isplitl [H7]
  · iexists _; isplitr; swap; · iexact H7
    ipureintro; exact h7
  isplitl [H8]
  · iexists _; isplitr; swap; · iexact H8
    ipureintro; exact h8
  isplitl [H9]
  · iexists _; isplitr; swap; · iexact H9
    ipureintro; exact h9
  iexists _; isplitr; swap; · iexact H10
  ipureintro; rw [out_block, h3, h4, h5, h6, h7, h8, h9]

/-- The body table's row at the point is the body as the points file spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole program's run: it terminates with every window's array at the contents the proof data gives it, every other unscoped
    buffer as the region found it, the semaphore counters at zero. -/
theorem run_main :
    θ_run defs (onTc (τ := τ) (main (F := F))) (s₀ m ρ)
      (fun r => Pipeline.FramePost cfgs (dats m) (0 : Fin 1) (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The whole run: the result array is the one the last point leaves, the arguments end unchanged, the counters at zero. -/
theorem run_all : θ_run defs (onTc (τ := τ) (main (F := F))) ⟨m, fun _ => 0, ρ⟩ (fun r => (∀ c : Dev nD,
      r.2.mem ((c.tc : Thread nD τ).loc main_v18) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c).1 7, ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).1 5).trans (((dats m 0 c).arrAt_in 5 rfl _).trans <| (A_eq m c 5).trans (V_main_arg5 m c)),
      ((h.1 c).2 main_arg6 (Pipeline.mem_restRefs_of main_arg6 (by decide) (by decide))).trans (V_main_arg6 m c)⟩, h.2⟩) (run_main m ρ)

/-- The frame: the arguments end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => (h.1 c).2, h.2⟩) (run_all m ρ)

end Cert.KernelIdeal.Attn

end
-- ==== Proof.KernelFrame.lean ====
/-
  The bit-level program's frame, from the run over any float instance: the bit-level program is the named one with its named
  constant read as the bits it prints.
-/
module

public import proofs.«01_k».proof.Proof.Launch
public import proofs.«01_k».proof.Defs
public import proofs.«01_k».proof.Proof.Gen.Kernel
public import Idealize.ShloMosaic.Lib.Tactic

@[expose] public section
set_option maxRecDepth 16384
noncomputable section
namespace Cert.KernelIdeal.Attn
open Idealize.ShloMosaic Idealize.ShloMosaic.TcCoe Idealize.SL.Sem Idealize.ShloMosaic.Tactic

/-- At the bits a named constant is the constant the program prints. -/
@[reducible] def namedBits : Named Bits where
  named _ _ e w := Scalar.ofBits e w
/-- The bit-level program is the named one at those bits. -/
theorem main_eq : Cert.Kernel.main (F := Bits) = (letI := namedBits; Cert.KernelIdeal.main (F := Bits)) := by sl_kernel_rfl
theorem defs_eq : Cert.Kernel.defs (F := Bits) = (letI := namedBits; Cert.KernelIdeal.defs (F := Bits)) := by sl_kernel_rfl

theorem frame_kernel : Cert.quiescent_Kernel := fun m ρ _ => by
  rw [main_eq, defs_eq]
  letI := namedBits
  exact frame (F := Bits) m ρ
end Cert.KernelIdeal.Attn
end
-- ==== Proof.RefFrame.lean ====
/-
  The reference runs, leaves its arguments unchanged, and declares no semaphore.
-/
module

public import proofs.«01_k».proof.Proof.Gen.ReferenceIdeal.Run
public import proofs.«01_k».proof.Defs
public import Idealize.ShloMosaic.Lib.Quiescent

@[expose] public section

noncomputable section

namespace Cert.ReferenceIdeal

open Idealize.ShloMosaic Idealize.SL.Sem

attribute [local instance] Cert.ReferenceIdeal.Gen.facts

theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.ReferenceIdeal

end
-- ==== Proof.Finite.lean ====
/-
  The precondition read back: every element of the first six arguments is a real number.
-/
module

public import proofs.«01_k».proof.Pre_finite
public import Idealize.ShloMosaic.Lib.ReduceAll
public import Idealize.ShloMosaic.Lib.Pointwise
public import Idealize.ShloMosaic.PureOps.Ideal.Laws

@[expose] public section

noncomputable section

namespace Cert.Pre_finite

open Idealize.ShloMosaic

theorem facts : Cert.Pre_finite.Facts where
  bcast_S_S8x4x2x8192x64 := by decide
  reducesTo_S8x4x2x8192x64_S_d0_1_2_3_4 := by decide
  h_S_ := by decide
  bcast_S_S8x4x8192x128 := by decide
  reducesTo_S8x4x8192x128_S_d0_1_2_3 := by decide
  bcast_S_S8x4x2x256x64 := by decide
  reducesTo_S8x4x2x256x64_S_d0_1_2_3_4 := by decide
  bcast_S_S8x4x256x128 := by decide
  reducesTo_S8x4x256x128_S_d0_1_2_3 := by decide
  bcast_S_S4x64 := by decide
  reducesTo_S4x64_S_d0_1 := by decide

instance : Subsingleton S_.Idx := ⟨fun a b => funext fun i => i.elim0⟩

/-- A value whose magnitude is below infinity is a real number. -/
theorem real_of_lt (x : Ideal .f32) (h : FloatOps.cmpf .olt (FloatOps.absf x) (Ideal.ofBits .f32 0x7F800000#32) = 1#1) :
    x = ((EReal.toReal x : ℝ) : EReal) := by
  have e : Ideal.ofBits .f32 0x7F800000#32 = (⊤ : EReal) := by simp [Ideal.ofBits, Ideal.ieee]
  rw [e, Ideal.cmpf_def, Ideal.absf_def] at h
  have h' : max (x : EReal) (-x) < ⊤ := by
    by_contra hc
    simp [Ideal.cmp, hc] at h
  rw [max_lt_iff] at h'
  refine (EReal.coe_toReal h'.1.ne ?_).symm
  intro hb
  rw [hb] at h'
  exact absurd h'.2 (by simp)

/-- One argument's part of the precondition. -/
theorem leg {s : Shape} {axes : List (Fin s.rank)} (x : FVec Ideal s .f32) (hb : S_.BroadcastsInDim s (![] : Fin 0 → Fin s.rank))
    (hr : s.ReducesTo axes S_) (hu : 0 < S_.numel)
    (h : Host.reduce IntOp.andi (cmpf .olt (Host.absf x) (broadcastInDim s ![] hb (constant (F := Ideal) S_ .f32 0x7F800000#32)))
      (constantI S_ 1 1#1) hr hu ix0 = 1#1) (i : s.Idx) : x i = ((EReal.toReal (x i) : ℝ) : EReal) :=
  real_of_lt (x i) (Host.reduce_andi_all _ _ _ _ ix0 h i)

variable [Cert.Pre_finite.Facts]

theorem real_args (x0 x1 : FVec Ideal S8x4x2x8192x64 .f32) (x2 : FVec Ideal S8x4x8192x128 .f32) (x3 : FVec Ideal S8x4x2x256x64 .f32)
    (x4 : FVec Ideal S8x4x256x128 .f32) (x5 : FVec Ideal S4x64 .f32) (x6 : FVec Ideal S128 .f32)
    (h : fn (F := Ideal) x0 x1 x2 x3 x4 x5 x6 = fun _ => 1#1) :
    (∀ i, x0 i = ((EReal.toReal (x0 i) : ℝ) : EReal)) ∧ (∀ i, x1 i = ((EReal.toReal (x1 i) : ℝ) : EReal))
    ∧ (∀ i, x2 i = ((EReal.toReal (x2 i) : ℝ) : EReal)) ∧ (∀ i, x3 i = ((EReal.toReal (x3 i) : ℝ) : EReal))
    ∧ (∀ i, x4 i = ((EReal.toReal (x4 i) : ℝ) : EReal)) ∧ (∀ i, x5 i = ((EReal.toReal (x5 i) : ℝ) : EReal)) := by
  have h1 := congrFun h ix0
  dsimp only [fn, fn_part1] at h1
  obtain ⟨h1, h5⟩ := IntOp.andi_eq_one.1 h1
  obtain ⟨h1, h4⟩ := IntOp.andi_eq_one.1 h1
  obtain ⟨h1, h3⟩ := IntOp.andi_eq_one.1 h1
  obtain ⟨h1, h2⟩ := IntOp.andi_eq_one.1 h1
  obtain ⟨h0, h1⟩ := IntOp.andi_eq_one.1 h1
  exact ⟨leg x0 _ _ _ h0, leg x1 _ _ _ h1, leg x2 _ _ _ h2, leg x3 _ _ _ h3, leg x4 _ _ _ h4, leg x5 _ _ _ h5⟩

end Cert.Pre_finite
end
-- ==== Proof.Blocks.lean ====
/-
  From the grid's points to whole arrays: which part of its array each window's block is, and the result array the run ends with,
  block by block.
-/
module

public import proofs.«01_k».proof.Proof.Launch

@[expose] public section

noncomputable section

namespace Cert.KernelIdeal.Attn

open Cert.KernelIdeal Cert.KernelIdeal.Gen
open Idealize.ShloMosaic Idealize.ShloMosaic.TcCoe
open Idealize.SL.Sem

variable {F : FTy → Type} [FloatOps F] [Named F]
variable (m : (ℓ : Loc nD τ sig) → Buf (Elt F) ℓ) (ρ : Dev nD → PrngReg)

/-- The grid point of a batch element, a head and a block of queries. -/
def point (b : Fin 8) (h : Fin 4) (qi : Fin 8) : Fin cfg0.N := ⟨(b.val * 4 + h.val) * 8 + qi.val, by show _ < grid0.N; rw [N_0]; omega⟩

theorem idx0 : ∀ (b : Fin 8) (h : Fin 4) (qi : Fin 8), win0_0.index (point b h qi) (0 : Fin 4) = b.val ∧ win0_0.index (point b h qi) (1 : Fin 4) = h.val
    ∧ win0_0.index (point b h qi) (2 : Fin 4) = 0 ∧ win0_0.index (point b h qi) (3 : Fin 4) = qi.val := by decide +kernel
theorem idx1 : ∀ (b : Fin 8) (h : Fin 4) (qi : Fin 8), win0_1.index (point b h qi) (0 : Fin 3) = b.val ∧ win0_1.index (point b h qi) (1 : Fin 3) = 0
    ∧ win0_1.index (point b h qi) (2 : Fin 3) = h.val := by decide +kernel
theorem idx2 : ∀ (b : Fin 8) (h : Fin 4) (qi : Fin 8), win0_2.index (point b h qi) (0 : Fin 4) = b.val ∧ win0_2.index (point b h qi) (1 : Fin 4) = h.val
    ∧ win0_2.index (point b h qi) (2 : Fin 4) = 0 ∧ win0_2.index (point b h qi) (3 : Fin 4) = 0 := by decide +kernel
theorem idx3 : ∀ (b : Fin 8) (h : Fin 4) (qi : Fin 8), win0_3.index (point b h qi) (0 : Fin 3) = b.val ∧ win0_3.index (point b h qi) (1 : Fin 3) = 0
    ∧ win0_3.index (point b h qi) (2 : Fin 3) = h.val := by decide +kernel
theorem idx4 : ∀ (b : Fin 8) (h : Fin 4) (qi : Fin 8), win0_4.index (point b h qi) (0 : Fin 4) = b.val ∧ win0_4.index (point b h qi) (1 : Fin 4) = h.val
    ∧ win0_4.index (point b h qi) (2 : Fin 4) = 0 ∧ win0_4.index (point b h qi) (3 : Fin 4) = 0 := by decide +kernel
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 3) = t.val / 32 ∧ win0_7.index t (1 : Fin 3) = t.val % 8
    ∧ win0_7.index t (2 : Fin 3) = t.val / 8 % 4 := (by decide +kernel : ∀ t : Fin grid0.N, _)
theorem xsize7 : ∀ t : Fin cfg0.N, win0_7.xsize (grid0.coords t) (0 : Fin 3) = 1 ∧ win0_7.xsize (grid0.coords t) (1 : Fin 3) = 1024
    ∧ win0_7.xsize (grid0.coords t) (2 : Fin 3) = 128 := (by decide +kernel : ∀ t : Fin grid0.N, _)

/-! An input block at an index is its array at the block's corner plus the index. -/

theorem iblk0_at (c : Dev nD) (b : Fin 8) (h : Fin 4) (qi : Fin 8) (d : Fin 128) (n : Fin 1024) :
    iblk m c 0 (point b h qi) (ix4 (n0 := 1) (n1 := 1) (n2 := 128) (n3 := 1024) 0 0 d n) = V m c main_v2 (ix4 (n0 := 8) (n1 := 4) (n2 := 128) (n3 := 8192) b h d ⟨1024 * qi.val + n.val, by omega⟩) := by
  obtain ⟨e0, e1, e2, e3⟩ := idx0 b h qi
  refine congrArg (V m c main_v2) (funext fun a => Fin.ext ?_)
  match a with
  | ⟨0, _⟩ => show win0_0.index (point b h qi) (0 : Fin 4) * 1 + 1 * 0 = b.val; omega
  | ⟨1, _⟩ => show win0_0.index (point b h qi) (1 : Fin 4) * 1 + 1 * 0 = h.val; omega
  | ⟨2, _⟩ => show win0_0.index (point b h qi) (2 : Fin 4) * 128 + 1 * d.val = d.val; omega
  | ⟨3, _⟩ => show win0_0.index (point b h qi) (3 : Fin 4) * 1024 + 1 * n.val = 1024 * qi.val + n.val; omega

theorem iblk1_at (c : Dev nD) (b : Fin 8) (h : Fin 4) (qi : Fin 8) (j : Fin 8192) (d : Fin 128) :
    iblk m c 1 (point b h qi) (ix3 (n0 := 1) (n1 := 8192) (n2 := 128) 0 j d) = V m c main_v8 (ix3 (n0 := 8) (n1 := 8192) (n2 := 512) b j ⟨128 * h.val + d.val, by omega⟩) := by
  obtain ⟨e0, e1, e2⟩ := idx1 b h qi
  refine congrArg (V m c main_v8) (funext fun a => Fin.ext ?_)
  match a with
  | ⟨0, _⟩ => show win0_1.index (point b h qi) (0 : Fin 3) * 1 + 1 * 0 = b.val; omega
  | ⟨1, _⟩ => show win0_1.index (point b h qi) (1 : Fin 3) * 8192 + 1 * j.val = j.val; omega
  | ⟨2, _⟩ => show win0_1.index (point b h qi) (2 : Fin 3) * 128 + 1 * d.val = 128 * h.val + d.val; omega

theorem iblk2_at (c : Dev nD) (b : Fin 8) (h : Fin 4) (qi : Fin 8) (v : Fin 144) (j : Fin 8192) :
    iblk m c 2 (point b h qi) (ix4 (n0 := 1) (n1 := 1) (n2 := 144) (n3 := 8192) 0 0 v j) = V m c main_v9 (ix4 (n0 := 8) (n1 := 4) (n2 := 144) (n3 := 8192) b h v j) := by
  obtain ⟨e0, e1, e2, e3⟩ := idx2 b h qi
  refine congrArg (V m c main_v9) (funext fun a => Fin.ext ?_)
  match a with
  | ⟨0, _⟩ => show win0_2.index (point b h qi) (0 : Fin 4) * 1 + 1 * 0 = b.val; omega
  | ⟨1, _⟩ => show win0_2.index (point b h qi) (1 : Fin 4) * 1 + 1 * 0 = h.val; omega
  | ⟨2, _⟩ => show win0_2.index (point b h qi) (2 : Fin 4) * 144 + 1 * v.val = v.val; omega
  | ⟨3, _⟩ => show win0_2.index (point b h qi) (3 : Fin 4) * 8192 + 1 * j.val = j.val; omega

theorem iblk3_at (c : Dev nD) (b : Fin 8) (h : Fin 4) (qi : Fin 8) (j : Fin 256) (d : Fin 128) :
    iblk m c 3 (point b h qi) (ix3 (n0 := 1) (n1 := 256) (n2 := 128) 0 j d) = V m c main_v15 (ix3 (n0 := 8) (n1 := 256) (n2 := 512) b j ⟨128 * h.val + d.val, by omega⟩) := by
  obtain ⟨e0, e1, e2⟩ := idx3 b h qi
  refine congrArg (V m c main_v15) (funext fun a => Fin.ext ?_)
  match a with
  | ⟨0, _⟩ => show win0_3.index (point b h qi) (0 : Fin 3) * 1 + 1 * 0 = b.val; omega
  | ⟨1, _⟩ => show win0_3.index (point b h qi) (1 : Fin 3) * 256 + 1 * j.val = j.val; omega
  | ⟨2, _⟩ => show win0_3.index (point b h qi) (2 : Fin 3) * 128 + 1 * d.val = 128 * h.val + d.val; omega

theorem iblk4_at (c : Dev nD) (b : Fin 8) (h : Fin 4) (qi : Fin 8) (v : Fin 144) (j : Fin 256) :
    iblk m c 4 (point b h qi) (ix4 (n0 := 1) (n1 := 1) (n2 := 144) (n3 := 256) 0 0 v j) = V m c main_v16 (ix4 (n0 := 8) (n1 := 4) (n2 := 144) (n3 := 256) b h v j) := by
  obtain ⟨e0, e1, e2, e3⟩ := idx4 b h qi
  refine congrArg (V m c main_v16) (funext fun a => Fin.ext ?_)
  match a with
  | ⟨0, _⟩ => show win0_4.index (point b h qi) (0 : Fin 4) * 1 + 1 * 0 = b.val; omega
  | ⟨1, _⟩ => show win0_4.index (point b h qi) (1 : Fin 4) * 1 + 1 * 0 = h.val; omega
  | ⟨2, _⟩ => show win0_4.index (point b h qi) (2 : Fin 4) * 144 + 1 * v.val = v.val; omega
  | ⟨3, _⟩ => show win0_4.index (point b h qi) (3 : Fin 4) * 256 + 1 * j.val = j.val; omega

theorem iblk5_at (c : Dev nD) (t : Fin cfg0.N) (a : Fin 4) (e : Fin 64) :
    iblk m c 5 t (ix2 (n0 := 4) (n1 := 64) a e) = V m c main_arg5 (ix2 (n0 := 4) (n1 := 64) a e) := by
  obtain ⟨e0, e1⟩ := idx5 t
  refine congrArg (V m c main_arg5) (funext fun a' => Fin.ext ?_)
  match a' with
  | ⟨0, _⟩ => show win0_5.index t (0 : Fin 2) * 4 + 1 * a.val = a.val; omega
  | ⟨1, _⟩ => show win0_5.index t (1 : Fin 2) * 64 + 1 * e.val = e.val; omega

theorem iblk6_at (c : Dev nD) (t : Fin cfg0.N) (v : Fin 128) :
    iblk m c 6 t (ix2 (n0 := 1) (n1 := 128) 0 v) = V m c main_v17 (ix2 (n0 := 1) (n1 := 128) 0 v) := by
  obtain ⟨e0, e1⟩ := idx6 t
  refine congrArg (V m c main_v17) (funext fun a' => Fin.ext ?_)
  match a' with
  | ⟨0, _⟩ => show win0_6.index t (0 : Fin 2) * 1 + 1 * 0 = 0; omega
  | ⟨1, _⟩ => show win0_6.index t (1 : Fin 2) * 128 + 1 * v.val = v.val; omega

/-! The result array. -/

/-- The block of the result at a grid point. -/
def ptBlk (c : Dev nD) (t : Fin cfg0.N) : FVec F S1x1024x128 .bf16 :=
  outBlk (iblk m c 0 t) (iblk m c 1 t) (iblk m c 2 t) (iblk m c 3 t) (iblk m c 4 t) (iblk m c 5 t) (iblk m c 6 t)

/-- The result array: at each index, the block of its batch element, its head and its block of queries. -/
def result (c : Dev nD) : FVec F S8x8192x512 .bf16 := fun i =>
  ptBlk m c (point ⟨(i 0).val, (i 0).isLt⟩ ⟨(i 2).val / 128, by have h : (i 2).val < 512 := (i 2).isLt; omega⟩
      ⟨(i 1).val / 1024, by have h : (i 1).val < 8192 := (i 1).isLt; omega⟩)
    (ix3 (n0 := 1) (n1 := 1024) (n2 := 128) 0 ⟨(i 1).val % 1024, Nat.mod_lt _ (by decide)⟩ ⟨(i 2).val % 128, Nat.mod_lt _ (by decide)⟩)

theorem flushed_eq (c : Dev nD) (t : Fin cfg0.N) :
    (dats m 0 c).flushed 7 t = ((cfg0.win 7).blk t).view.read (Elt F) (result m c) := by
  show (cfg0.win 7).cut (grid0.coords t) ((dats m 0 c).after 7 t) = _
  rw [after_7]
  obtain ⟨e0, e1, e2⟩ := idx7 t
  have ht : t.val < 256 := t.isLt
  funext j
  have h0 : (j 0).val < 1 := (xsize7 t).1 ▸ (j 0).isLt
  have h1 : (j 1).val < 1024 := (xsize7 t).2.1 ▸ (j 1).isLt
  have h2 : (j 2).val < 128 := (xsize7 t).2.2 ▸ (j 2).isLt
  have a0 : ((((cfg0.win 7).blk t).view.emb j) 0).val = win0_7.index t (0 : Fin 3) * 1 + 1 * (j 0).val := rfl
  have a1 : ((((cfg0.win 7).blk t).view.emb j) 1).val = win0_7.index t (1 : Fin 3) * 1024 + 1 * (j 1).val := rfl
  have a2 : ((((cfg0.win 7).blk t).view.emb j) 2).val = win0_7.index t (2 : Fin 3) * 128 + 1 * (j 2).val := rfl
  show ptBlk m c t _ = ptBlk m c _ _
  refine congrArg₂ (fun t x => ptBlk m c t x) (Fin.ext ?_) (funext fun a => Fin.ext ?_)
  · show t.val = ((((((cfg0.win 7).blk t).view.emb j) 0).val) * 4 + ((((cfg0.win 7).blk t).view.emb j) 2).val / 128) * 8
      + ((((cfg0.win 7).blk t).view.emb j) 1).val / 1024
    omega
  · match a with
    | ⟨0, _⟩ => show (j 0).val = 0; omega
    | ⟨1, _⟩ => show (j 1).val = ((((cfg0.win 7).blk t).view.emb j) 1).val % 1024; omega
    | ⟨2, _⟩ => show (j 2).val = ((((cfg0.win 7).blk t).view.emb j) 2).val % 128; omega

theorem cover (i : S8x8192x512.Idx) : ∃ t : Fin cfg0.N, (cfg0.win 7).flush t = true ∧ i ∈ ((cfg0.win 7).blk t).view.set := by
  have i0 : (i 0).val < 8 := (i 0).isLt
  have i1 : (i 1).val < 8192 := (i 1).isLt
  have i2 : (i 2).val < 512 := (i 2).isLt
  have hp : (point ⟨(i 0).val, i0⟩ ⟨(i 2).val / 128, by omega⟩ ⟨(i 1).val / 1024, by omega⟩).val
      = ((i 0).val * 4 + (i 2).val / 128) * 8 + (i 1).val / 1024 := rfl
  generalize point ⟨(i 0).val, i0⟩ ⟨(i 2).val / 128, by omega⟩ ⟨(i 1).val / 1024, by omega⟩ = t at hp
  refine ⟨t, flush0_7 _, ?_⟩
  show i ∈ ((View.whole main_v18).slice (win0_7.rect t)).set
  rw [View.set_slice_whole, Rect.mem_set_unit]
  obtain ⟨e0, e1, e2⟩ := idx7 t
  obtain ⟨x0, x1, x2⟩ := xsize7 t
  intro a
  match a with
  | ⟨0, _⟩ =>
    show win0_7.index t (0 : Fin 3) * 1 ≤ (i 0).val ∧ (i 0).val < win0_7.index t (0 : Fin 3) * 1 + win0_7.xsize (grid0.coords t) (0 : Fin 3)
    rw [x0]; omega
  | ⟨1, _⟩ =>
    show win0_7.index t (1 : Fin 3) * 1024 ≤ (i 1).val ∧ (i 1).val < win0_7.index t (1 : Fin 3) * 1024 + win0_7.xsize (grid0.coords t) (1 : Fin 3)
    rw [x1]; omega
  | ⟨2, _⟩ =>
    show win0_7.index t (2 : Fin 3) * 128 ≤ (i 2).val ∧ (i 2).val < win0_7.index t (2 : Fin 3) * 128 + win0_7.xsize (grid0.coords t) (2 : Fin 3)
    rw [x2]; omega

theorem final_result (c : Dev nD) : (dats m 0 c).arrAt 7 cfg0.N = result m c :=
  (dats m 0 c).arrAt_eq_of_cover 7 (result m c) (fun t _ => flushed_eq m c t) cover

end Cert.KernelIdeal.Attn
end
-- ==== Proof.Elem.lean ====
/-
  The online softmax on real numbers: the chain of eleven steps read element by element over the extended reals, and what it leaves
  for one query, the sums of the values weighted by powers of two of the scores against some common offset.
-/
module

public import proofs.«01_k».proof.Proof.OutDef
public import Idealize.ShloMosaic.Lib.Pointwise

@[expose] public section

noncomputable section

namespace Cert.KernelIdeal.Attn

open Cert.KernelIdeal Cert.KernelIdeal.Gen
open Idealize.ShloMosaic Idealize.ShloMosaic.TcCoe

/-! Each piece at an index. -/

theorem scoreSt_apply (kc : Vec Ideal S768x128 .bf16) (q : Vec Ideal S1x1x128x256 .bf16) (j : Fin 768) (n : Fin 256) :
    scoreSt kc q (ix5 0 0 0 j n) = ∑ d : Fin 128, kc (ix2 j d) * q (ix4 0 0 d n) := by
  pointwise [scoreSt, scoreOf]

theorem colMaxSt_apply (kc : Vec Ideal S768x128 .bf16) (q : Vec Ideal S1x1x128x256 .bf16) (n : Fin 256) :
    colMaxSt kc q (ix5 0 0 0 0 n)
      = Finset.univ.fold max (Ideal.ofBits .f32 0xFF800000#32) fun j : Fin 768 => ∑ d : Fin 128, kc (ix2 j d) * q (ix4 0 0 d n) := by
  pointwise [colMaxSt, scoreOf]

theorem mNext_apply (t : St Ideal) (n : Fin 256) :
    t.mNext (ix2 0 n) = max (t.m (ix4 0 0 0 n)) (t.x (ix5 0 0 0 0 n)) := by
  pointwise [St.mNext, St.mRow]

theorem wgt_apply (t : St Ideal) (j : Fin 768) (n : Fin 256) :
    t.wgt (ix2 j n) = Ideal.exp2 (t.s (ix5 0 0 0 j n) - t.mNext (ix2 0 n)) := by
  pointwise [St.wgt]
  rfl

theorem aNext_apply (vt : Vec Ideal S144x768 .bf16) (t : St Ideal) (v : Fin 144) (n : Fin 256) :
    t.aNext vt (ix2 v n)
      = Ideal.exp2 (t.m (ix4 0 0 0 n) - t.mNext (ix2 0 n)) * t.a (ix4 0 0 v n) + ∑ j : Fin 768, vt (ix2 v j) * t.wgt (ix2 j n) := by
  pointwise [St.aNext, St.mRow]
  rfl

theorem step_m (kc : Vec Ideal S768x128 .bf16) (q : Vec Ideal S1x1x128x256 .bf16) (vt : Vec Ideal S144x768 .bf16) (t : St Ideal) (n : Fin 256) :
    (t.step kc q vt).m (ix4 0 0 0 n) = t.mNext (ix2 0 n) := by
  pointwise [St.step]

theorem step_a (kc : Vec Ideal S768x128 .bf16) (q : Vec Ideal S1x1x128x256 .bf16) (vt : Vec Ideal S144x768 .bf16) (t : St Ideal)
    (v : Fin 144) (n : Fin 256) : (t.step kc q vt).a (ix4 0 0 v n) = t.aNext vt (ix2 v n) := by
  pointwise [St.step]

theorem firstHalf_apply (d : Fin 128) (n : Fin 256) : firstHalf (ix2 d n) = if d.val < 64 then 1#1 else 0#1 := by
  have h : firstHalf (ix2 d n) = Scalar.cmpi .slt (BitVec.ofNat 32 d.val) 64#32 := by
    pointwise [firstHalf]
    rfl
  rw [h]; clear h n; revert d; decide +kernel

theorem scale_eq : (Named.named κ "scale" 0x3E38AA3B#32 : Ideal .f32) = (((1 / 8) * (Real.log 2)⁻¹ : ℝ) : EReal) :=
  IdealRules.named_const.ideal_named_scalar _ _ _ _ rfl

theorem qRead_apply (B3 : Vec Ideal S1x1x128x1024 .bf16) (sb : Fin 4) (d : Fin 128) (n : Fin 256) :
    B3 ((qRect sb).toLoadRect.idx (ix4 0 0 d n)) = B3 (ix4 0 0 d ⟨256 * sb.val + n.val, by omega⟩) := by
  refine congrArg B3 (funext fun a => Fin.ext ?_)
  fin_cases a <;> simp [Rect.unit, LoadRect.idx, Rect.toLoadRect, Rect.emb]

theorem scaled_apply (y : Vec Ideal S1x1x128x256 .bf16) (c : Ideal .f32) (d : Fin 128) (n : Fin 256) :
    (truncf .bf16 (mulf (extf .f32 (shapeCast S128x256 y shapeCasts_S1x1x128x256_S128x256) bitsLt_bf16_f32)
      (broadcast S128x256 c)) bitsLt_bf16_f32 : FVec Ideal S128x256 .bf16) (ix2 d n) = y (ix4 0 0 d n) * c := by
  pointwise

theorem qScaled_apply (B3 : Vec Ideal S1x1x128x1024 .bf16) (sb : Fin 4) (d : Fin 128) (n : Fin 256) :
    qScaled B3 sb (ix2 d n) = B3 (ix4 0 0 d ⟨256 * sb.val + n.val, by omega⟩) * (((1 / 8) * (Real.log 2)⁻¹ : ℝ) : EReal) := by
  have h := scaled_apply (fun x => B3 ((qRect sb).toLoadRect.idx x)) (Named.named κ "scale" 0x3E38AA3B#32) d n
  exact (show qScaled B3 sb (ix2 d n) = _ from h).trans (by rw [scale_eq]; exact congrArg (· * _) (qRead_apply B3 sb d n))

theorem qCell_apply (B3 : Vec Ideal S1x1x128x1024 .bf16) (mi : Fin 2) (sb : Fin 4) (d : Fin 128) (n : Fin 256) :
    qCell B3 mi sb (ix4 0 0 d n)
      = if d.val / 64 = mi.val then B3 (ix4 0 0 d ⟨256 * sb.val + n.val, by omega⟩) * (((1 / 8) * (Real.log 2)⁻¹ : ℝ) : EReal) else 0 := by
  have hd := d.isLt
  have sel : ∀ x y : Vec Ideal S128x256 .bf16,
      shapeCast S1x1x128x256 (select firstHalf x y) shapeCasts_S128x256_S1x1x128x256 (ix4 0 0 d n)
        = if d.val < 64 then x (ix2 d n) else y (ix2 d n) := by
    intro x y
    pointwise [firstHalf_apply]
    split <;> rfl
  have hz : (broadcast S128x256 (Scalar.ofBits .bf16 0x0000#16) : FVec Ideal S128x256 .bf16) (ix2 d n) = 0 := by pointwise
  unfold qCell
  obtain rfl | rfl : mi = 0 ∨ mi = 1 := by revert mi; decide
  · rw [if_pos rfl, sel, hz, qScaled_apply]
    by_cases h : d.val < 64
    · rw [if_pos h, if_pos (by simp; omega)]
    · rw [if_neg h, if_neg (by simp; omega)]
  · rw [if_neg (by decide), sel, hz, qScaled_apply]
    by_cases h : d.val < 64
    · rw [if_pos h, if_neg (by simp; omega)]
    · rw [if_neg h, if_pos (by simp; omega)]

theorem blkK_lt (B4 : Vec Ideal S1x8192x128 .bf16) (B6 : Vec Ideal S1x256x128 .bf16) (n : ℕ) (h : n < 10) (j : Fin 768) (d : Fin 128) :
    blkK B4 B6 n (ix2 j d) = B4 (ix3 0 ⟨768 * n + j.val, by omega⟩ d) := by
  unfold blkK; rw [dif_pos h]
  pointwise [kch]

theorem blkK_ge (B4 : Vec Ideal S1x8192x128 .bf16) (B6 : Vec Ideal S1x256x128 .bf16) (n : ℕ) (h : ¬ n < 10) (j : Fin 768) (d : Fin 128) :
    blkK B4 B6 n (ix2 j d)
      = if h' : j.val < 512 then B4 (ix3 0 ⟨7680 + j.val, by omega⟩ d) else B6 (ix3 0 ⟨j.val - 512, by omega⟩ d) := by
  unfold blkK; rw [dif_neg h]
  pointwise

theorem blkV_lt (B5 : Vec Ideal S1x1x144x8192 .bf16) (B7 : Vec Ideal S1x1x144x256 .bf16) (n : ℕ) (h : n < 10) (v : Fin 144) (j : Fin 768) :
    blkV B5 B7 n (ix2 v j) = B5 (ix4 0 0 v ⟨768 * n + j.val, by omega⟩) := by
  unfold blkV; rw [dif_pos h]
  pointwise [vch]

theorem blkV_ge (B5 : Vec Ideal S1x1x144x8192 .bf16) (B7 : Vec Ideal S1x1x144x256 .bf16) (n : ℕ) (h : ¬ n < 10) (v : Fin 144) (j : Fin 768) :
    blkV B5 B7 n (ix2 v j)
      = if h' : j.val < 512 then B5 (ix4 0 0 v ⟨7680 + j.val, by omega⟩) else B7 (ix4 0 0 v ⟨j.val - 512, by omega⟩) := by
  unfold blkV; rw [dif_neg h]
  pointwise

theorem diffOf_apply (l : Vec Ideal S4x64 .f32) (n0 : Vec Ideal S1x1x128x256 .f32) (d0 : Vec Ideal S1x1x1x256 .f32)
    (n1 : Vec Ideal S1x1x128x256 .f32) (d1 : Vec Ideal S1x1x1x256 .f32) (r : Fin 256) (v : Fin 128) :
    diffOf l n0 d0 n1 d1 (ix2 r v)
      = Ideal.div (n0 (ix4 0 0 v r)) (d0 (ix4 0 0 0 r)) - lamOf l (ix2 0 0) * Ideal.div (n1 (ix4 0 0 v r)) (d1 (ix4 0 0 0 r)) := by
  pointwise [diffOf, quot]

theorem lamOf_apply (l : Vec Ideal S4x64 .f32) :
    lamOf l (ix2 0 0) = Ideal.exp (∑ x : Fin 64, l (ix2 0 x) * l (ix2 1 x)) - Ideal.exp (∑ x : Fin 64, l (ix2 2 x) * l (ix2 3 x))
      + Ideal.ofBits .f32 0x3EB60549#32 := by
  pointwise [lamOf]

theorem normOf_apply (w : Vec Ideal S1x128 .f32) (o : FVec Ideal S256x128 .f32) (r : Fin 256) (v : Fin 128) :
    normOf w o (ix3 0 r v)
      = o (ix2 r v) * Ideal.rsqrt (Ideal.div (∑ x : Fin 128, o (ix2 r x) * o (ix2 r x)) (Ideal.ofBits .f32 0x43000000#32)
          + Ideal.ofBits .f32 0x3727C5AC#32) * w (ix2 0 v) * Ideal.ofBits .f32 0x3F24FD5C#32 := by
  pointwise [normOf]

theorem numOf_apply (A : Vec Ideal S1x1x144x256 .f32) (v : Fin 128) (n : Fin 256) :
    numOf A (ix4 0 0 v n) = A (ix4 0 0 ⟨v.val, by omega⟩ n) := by
  pointwise [numOf]

theorem denOf_apply (A : Vec Ideal S1x1x144x256 .f32) (n : Fin 256) :
    denOf A (ix4 0 0 0 n) = A (ix4 0 0 128 n) := by
  pointwise [denOf]

end Cert.KernelIdeal.Attn
end
-- ==== Proof.Softmax.lean ====
/-
  The online softmax on finite inputs: after `n` chunks the running maximum is some real number, and the sums are the values of the
  chunks so far, each weighted by two to the power of its score less that number. So the quotient of two of them does not see it.
-/
module

public import proofs.«01_k».proof.Proof.Elem

@[expose] public section

noncomputable section

namespace Cert.KernelIdeal.Attn

open Cert.KernelIdeal Cert.KernelIdeal.Gen
open Idealize.ShloMosaic Idealize.ShloMosaic.TcCoe

/-- The maximum of finitely many real numbers is one of the real numbers, whatever below the top it starts from. -/
theorem fold_max_real {ι : Type} [Fintype ι] [Nonempty ι] (b : EReal) (hb : b < ⊤) (f : ι → EReal) (g : ι → ℝ) (h : ∀ i, f i = g i) :
    ∃ r : ℝ, Finset.univ.fold max b f = r := by
  have lo : ⊥ < Finset.univ.fold max b f := by
    obtain ⟨i⟩ := ‹Nonempty ι›
    exact (Finset.lt_fold_max _).mpr (Or.inr ⟨i, Finset.mem_univ i, by rw [h]; exact EReal.bot_lt_coe _⟩)
  have hi : Finset.univ.fold max b f < ⊤ :=
    (Finset.fold_max_lt _).mpr ⟨hb, fun i _ => by rw [h]; exact EReal.coe_lt_top _⟩
  exact ⟨_, (EReal.coe_toReal hi.ne lo.ne').symm⟩

theorem coe_sum {ι : Type} (s : Finset ι) (f : ι → ℝ) : ((∑ i ∈ s, f i : ℝ) : EReal) = ∑ i ∈ s, (f i : EReal) :=
  map_sum (⟨⟨fun x : ℝ => (x : EReal), EReal.coe_zero⟩, EReal.coe_add⟩ : ℝ →+ EReal) f s

theorem exp2_real (r : ℝ) : Ideal.exp2 (r : EReal) = (((2 : ℝ) ^ r : ℝ) : EReal) := rfl

theorem negInf_lt : Ideal.ofBits .f32 0xFF800000#32 < ⊤ := by
  simp [Ideal.ofBits, Ideal.ieee]

theorem start_real : ∃ r : ℝ, Ideal.ofBits .f32 0xF149F2CA#32 = r := by
  simp only [Ideal.ofBits, Ideal.ieee]
  exact ⟨_, rfl⟩

section
variable {n : Fin 256} {q : Vec Ideal S1x1x128x256 .bf16} {qr : Fin 128 → ℝ}

/-- A score, as a real number. -/
def sc (kr : Fin 768 → Fin 128 → ℝ) (qr : Fin 128 → ℝ) (j : Fin 768) : ℝ := ∑ d, kr j d * qr d

theorem score_real {kc : Vec Ideal S768x128 .bf16} {kr : Fin 768 → Fin 128 → ℝ} (hk : ∀ j d, kc (ix2 j d) = kr j d)
    (hq : ∀ d, q (ix4 0 0 d n) = qr d) (j : Fin 768) : ∑ d : Fin 128, kc (ix2 j d) * q (ix4 0 0 d n) = (sc kr qr j : EReal) := by
  rw [sc, coe_sum]
  exact Finset.sum_congr rfl fun d _ => by rw [hk, hq, EReal.coe_mul]

/-- What holds of the state for one query before a chunk. -/
structure Inv (t : St Ideal) (n : Fin 256) (S : Fin 768 → ℝ) (A : ℝ → Fin 144 → ℝ) : Prop where
  m : ∃ M : ℝ, t.m (ix4 0 0 0 n) = M ∧ ∀ v, t.a (ix4 0 0 v n) = (A M v : EReal)
  x : ∃ X : ℝ, t.x (ix5 0 0 0 0 n) = X
  s : ∀ j, t.s (ix5 0 0 0 j n) = S j

theorem init_inv {K0 : Vec Ideal S768x128 .bf16} {kr : Fin 768 → Fin 128 → ℝ} (hk : ∀ j d, K0 (ix2 j d) = kr j d)
    (hq : ∀ d, q (ix4 0 0 d n) = qr d) : Inv (initSt K0 q) n (sc kr qr) fun _ _ => 0 where
  m := by
    obtain ⟨M, hM⟩ := start_real
    exact ⟨M, hM, fun v => by show Ideal.ofBits .f32 0x00000000#32 = _; simp [Ideal.ofBits, Ideal.ieee]⟩
  x := by
    dsimp only [initSt]
    rw [colMaxSt_apply]
    exact fold_max_real _ negInf_lt _ _ (score_real hk hq)
  s j := by
    dsimp only [initSt]
    rw [scoreSt_apply, score_real hk hq]

theorem step_inv {kc : Vec Ideal S768x128 .bf16} {kr : Fin 768 → Fin 128 → ℝ} (hk : ∀ j d, kc (ix2 j d) = kr j d)
    (hq : ∀ d, q (ix4 0 0 d n) = qr d) {vt : Vec Ideal S144x768 .bf16} {vr : Fin 144 → Fin 768 → ℝ} (hv : ∀ v j, vt (ix2 v j) = vr v j)
    {t : St Ideal} {S : Fin 768 → ℝ} {A : ℝ → Fin 144 → ℝ} (h : Inv t n S A) (hA : ∀ M M' v, (2 : ℝ) ^ (M - M') * A M v = A M' v) :
    Inv (t.step kc q vt) n (sc kr qr) fun M v => A M v + ∑ j, vr v j * (2 : ℝ) ^ (S j - M) where
  m := by
    obtain ⟨M, hM, ha⟩ := h.m
    obtain ⟨X, hX⟩ := h.x
    have hN : t.mNext (ix2 0 n) = ((max M X : ℝ) : EReal) := by
      rw [mNext_apply, hM, hX]; exact (EReal.coe_strictMono.monotone.map_max).symm
    refine ⟨max M X, by rw [step_m, hN], fun v => ?_⟩
    rw [step_a, aNext_apply, hM, hN, ha, ← EReal.coe_sub, exp2_real, ← EReal.coe_mul, hA, EReal.coe_add, coe_sum]
    refine congrArg _ (Finset.sum_congr rfl fun j _ => ?_)
    rw [wgt_apply, h.s, hN, ← EReal.coe_sub, exp2_real, hv, EReal.coe_mul]
  x := by
    dsimp only [St.step]
    rw [colMaxSt_apply]
    exact fold_max_real _ negInf_lt _ _ (score_real hk hq)
  s j := by
    dsimp only [St.step]
    rw [scoreSt_apply, score_real hk hq]

/-- The sums over the first `t` chunks, against the offset `M`. -/
def part (kr : ℕ → Fin 768 → Fin 128 → ℝ) (qr : Fin 128 → ℝ) (vr : ℕ → Fin 144 → Fin 768 → ℝ) (t : ℕ) (M : ℝ) (v : Fin 144) : ℝ :=
  ∑ m ∈ Finset.range t, ∑ j, vr m v j * (2 : ℝ) ^ (sc (kr m) qr j - M)

theorem part_shift (kr : ℕ → Fin 768 → Fin 128 → ℝ) (qr : Fin 128 → ℝ) (vr : ℕ → Fin 144 → Fin 768 → ℝ) (t : ℕ) (M M' : ℝ) (v : Fin 144) :
    (2 : ℝ) ^ (M - M') * part kr qr vr t M v = part kr qr vr t M' v := by
  simp only [part, Finset.mul_sum]
  refine Finset.sum_congr rfl fun m _ => Finset.sum_congr rfl fun j _ => ?_
  rw [mul_left_comm, ← Real.rpow_add two_pos]
  congr 2; ring

theorem run_inv {K : ℕ → Vec Ideal S768x128 .bf16} {kr : ℕ → Fin 768 → Fin 128 → ℝ} (hk : ∀ m j d, K m (ix2 j d) = kr m j d)
    (hq : ∀ d, q (ix4 0 0 d n) = qr d) {V : ℕ → Vec Ideal S144x768 .bf16} {vr : ℕ → Fin 144 → Fin 768 → ℝ}
    (hv : ∀ m v j, V m (ix2 v j) = vr m v j) (t : ℕ) :
    Inv ((initSt (K 0) q).run K V q t) n (sc (kr t) qr) (part kr qr vr t) := by
  induction t with
  | zero =>
    have e : part kr qr vr 0 = fun _ _ => 0 := by funext M v; simp [part]
    rw [e]
    exact init_inv (hk 0) hq
  | succ t ih =>
    have e : part kr qr vr (t + 1) = fun M v => part kr qr vr t M v + ∑ j, vr t v j * (2 : ℝ) ^ (sc (kr t) qr j - M) := by
      funext M v; exact Finset.sum_range_succ _ t
    rw [e]
    exact step_inv (hk (t + 1)) hq (hv t) ih fun M M' v => part_shift kr qr vr t M M' v
end

end Cert.KernelIdeal.Attn
end
-- ==== Proof.Cell.lean ====
/-
  A block of the output on finite inputs: with the queries, keys and values of one batch element and head as real numbers, the
  kernel's two quotients are the two softmax averages of the values.
-/
module

public import proofs.«01_k».proof.Proof.Softmax

@[expose] public section

noncomputable section

namespace Cert.KernelIdeal.Attn

open Cert.KernelIdeal Cert.KernelIdeal.Gen
open Idealize.ShloMosaic Idealize.ShloMosaic.TcCoe

/-- The score of one query against a key: their product over the head's 64 entries, scaled. -/
def score (kk : Fin 8448 → Fin 64 → ℝ) (qq : Fin 64 → ℝ) (x : Fin 8448) : ℝ := (∑ e, qq e * kk x e) * (1 / 8)

/-- The softmax average: the entries `w`, weighted by the exponentials of `s`. -/
def avg (s w : Fin 8448 → ℝ) : ℝ := (∑ x, w x * Real.exp (s x)) / ∑ x, Real.exp (s x)

/-- The difference of the two averages. -/
def mix (lam : ℝ) (s0 s1 w : Fin 8448 → ℝ) : ℝ := avg s0 w - lam * avg s1 w

/-- A row scaled by the root of its mean square. -/
def normed (o : Fin 128 → EReal) (w : EReal) (v : Fin 128) : EReal :=
  o v * Ideal.rsqrt (Ideal.div (∑ x : Fin 128, o x * o x) (Ideal.ofBits .f32 0x43000000#32) + Ideal.ofBits .f32 0x3727C5AC#32)
    * w * Ideal.ofBits .f32 0x3F24FD5C#32

/-- The key that is row `j` of chunk `m`. -/
def keyIx (m : ℕ) (j : Fin 768) : Fin 8448 := ⟨768 * min m 10 + j.val, by omega⟩

/-- Which head half an entry lies in, and where in it. -/
def half (d : Fin 128) : Fin 2 := ⟨d.val / 64, by omega⟩
def inHalf (d : Fin 128) : Fin 64 := ⟨d.val % 64, by omega⟩

/-- The values with the row of ones below them. -/
def ext (vv : Fin 8448 → Fin 128 → ℝ) (x : Fin 8448) (v : Fin 144) : ℝ := if h : v.val < 128 then vv x ⟨v.val, h⟩ else 1

theorem sum_split {a b : ℕ} (f : Fin (a * b) → ℝ) : ∑ x, f x = ∑ i : Fin a, ∑ j : Fin b, f (finProdFinEquiv (i, j)) := by
  rw [← Equiv.sum_comp finProdFinEquiv, Fintype.sum_prod_type]

theorem sum_keys (f : Fin 8448 → ℝ) : ∑ m ∈ Finset.range 11, ∑ j, f (keyIx m j) = ∑ x, f x := by
  rw [Finset.sum_range]
  refine ((sum_split (a := 11) (b := 768) f).trans ?_).symm
  refine Finset.sum_congr rfl fun m _ => Finset.sum_congr rfl fun j _ => congrArg f (Fin.ext ?_)
  have hm := m.isLt
  show j.val + 768 * m.val = 768 * min m.val 10 + j.val
  omega

/-- The masked queries pick out one half of the keys. -/
theorem sc_half (K : Fin 2 → Fin 64 → ℝ) (Q : Fin 2 → Fin 64 → ℝ) (mi : Fin 2) (c : ℝ) :
    ∑ d : Fin 128, K (half d) (inHalf d) * (if d.val / 64 = mi.val then Q (half d) (inHalf d) * c else 0) = (∑ e, Q mi e * K mi e) * c := by
  refine (sum_split (a := 2) (b := 64) _).trans ?_
  have hh : ∀ (i : Fin 2) (e : Fin 64), half (finProdFinEquiv (i, e)) = i ∧ inHalf (finProdFinEquiv (i, e)) = e ∧
      (finProdFinEquiv (i, e)).val / 64 = i.val := by decide +kernel
  rw [Finset.sum_mul, Finset.sum_eq_single mi]
  · refine Finset.sum_congr rfl fun e _ => ?_
    obtain ⟨h1, h2, h3⟩ := hh mi e
    rw [if_pos h3, h1, h2]; ring
  · intro i _ hi
    refine Finset.sum_eq_zero fun e _ => ?_
    rw [if_neg (by rw [(hh i e).2.2]; exact fun h => hi (Fin.ext h)), mul_zero]
  · exact fun h => absurd (Finset.mem_univ _) h

theorem rpow_score (x M : ℝ) : (2 : ℝ) ^ (x * (Real.log 2)⁻¹ - M) = Real.exp x * (2 : ℝ) ^ (-M) := by
  rw [sub_eq_add_neg, Real.rpow_add two_pos, Real.rpow_def_of_pos two_pos (x * (Real.log 2)⁻¹)]
  congr 2
  have : Real.log 2 ≠ 0 := (Real.log_pos one_lt_two).ne'
  field_simp

theorem quot_eq (a d c : ℝ) (hd : d ≠ 0) (hc : c ≠ 0) : a * c * (1 / (d * c)) = a / d := by
  field_simp

section
variable {B3 : Vec Ideal S1x1x128x1024 .bf16} {B4 : Vec Ideal S1x8192x128 .bf16} {B5 : Vec Ideal S1x1x144x8192 .bf16}
  {B6 : Vec Ideal S1x256x128 .bf16} {B7 : Vec Ideal S1x1x144x256 .bf16}
  {qq : Fin 1024 → Fin 2 → Fin 64 → ℝ} {kk : Fin 2 → Fin 8448 → Fin 64 → ℝ} {vv : Fin 8448 → Fin 128 → ℝ}

theorem blkK_real (h4 : ∀ (j : Fin 8192) (d : Fin 128), B4 (ix3 0 j d) = kk (half d) ⟨j.val, by omega⟩ (inHalf d))
    (h6 : ∀ (j : Fin 256) (d : Fin 128), B6 (ix3 0 j d) = kk (half d) ⟨8192 + j.val, by omega⟩ (inHalf d))
    (m : ℕ) (j : Fin 768) (d : Fin 128) : blkK B4 B6 m (ix2 j d) = kk (half d) (keyIx m j) (inHalf d) := by
  have hj := j.isLt
  by_cases h : m < 10
  · rw [blkK_lt _ _ _ h, h4]
    refine congrArg (fun x => ((kk (half d) x (inHalf d) : ℝ) : EReal)) (Fin.ext ?_)
    show 768 * m + j.val = 768 * min m 10 + j.val
    omega
  · rw [blkK_ge _ _ _ h]
    split
    · rw [h4]
      refine congrArg (fun x => ((kk (half d) x (inHalf d) : ℝ) : EReal)) (Fin.ext ?_)
      show 7680 + j.val = 768 * min m 10 + j.val
      omega
    · rw [h6]
      refine congrArg (fun x => ((kk (half d) x (inHalf d) : ℝ) : EReal)) (Fin.ext ?_)
      show 8192 + (j.val - 512) = 768 * min m 10 + j.val
      omega

theorem blkV_real (h5 : ∀ (v : Fin 144) (j : Fin 8192), B5 (ix4 0 0 v j) = ext vv ⟨j.val, by omega⟩ v)
    (h7 : ∀ (v : Fin 144) (j : Fin 256), B7 (ix4 0 0 v j) = ext vv ⟨8192 + j.val, by omega⟩ v)
    (m : ℕ) (v : Fin 144) (j : Fin 768) : blkV B5 B7 m (ix2 v j) = ext vv (keyIx m j) v := by
  have hj := j.isLt
  by_cases h : m < 10
  · rw [blkV_lt _ _ _ h, h5]
    refine congrArg (fun x => ((ext vv x v : ℝ) : EReal)) (Fin.ext ?_)
    show 768 * m + j.val = 768 * min m 10 + j.val
    omega
  · rw [blkV_ge _ _ _ h]
    split
    · rw [h5]
      refine congrArg (fun x => ((ext vv x v : ℝ) : EReal)) (Fin.ext ?_)
      show 7680 + j.val = 768 * min m 10 + j.val
      omega
    · rw [h7]
      refine congrArg (fun x => ((ext vv x v : ℝ) : EReal)) (Fin.ext ?_)
      show 8192 + (j.val - 512) = 768 * min m 10 + j.val
      omega

/-- The row of a block that is row `r` of its `sb`-th quarter. -/
def rowIx (sb : Fin 4) (r : Fin 256) : Fin 1024 := ⟨256 * sb.val + r.val, by omega⟩

theorem finalA_real (h3 : ∀ (d : Fin 128) (r : Fin 1024), B3 (ix4 0 0 d r) = qq r (half d) (inHalf d))
    (h4 : ∀ (j : Fin 8192) (d : Fin 128), B4 (ix3 0 j d) = kk (half d) ⟨j.val, by omega⟩ (inHalf d))
    (h6 : ∀ (j : Fin 256) (d : Fin 128), B6 (ix3 0 j d) = kk (half d) ⟨8192 + j.val, by omega⟩ (inHalf d))
    (h5 : ∀ (v : Fin 144) (j : Fin 8192), B5 (ix4 0 0 v j) = ext vv ⟨j.val, by omega⟩ v)
    (h7 : ∀ (v : Fin 144) (j : Fin 256), B7 (ix4 0 0 v j) = ext vv ⟨8192 + j.val, by omega⟩ v)
    (mi : Fin 2) (sb : Fin 4) (r : Fin 256) :
    ∃ C : ℝ, 0 < C ∧ ∀ v, finalA B3 B4 B5 B6 B7 mi sb (ix4 0 0 v r)
      = (((∑ x, ext vv x v * Real.exp (score (kk mi) (qq (rowIx sb r) mi) x)) * C : ℝ) : EReal) := by
  have hq : ∀ d, qCell B3 mi sb (ix4 0 0 d r) = ((if d.val / 64 = mi.val then qq (rowIx sb r) (half d) (inHalf d) * ((1 / 8) * (Real.log 2)⁻¹)
      else 0 : ℝ) : EReal) := by
    intro d
    rw [qCell_apply, h3]
    split
    · rw [← EReal.coe_mul]; rfl
    · rfl
  obtain ⟨M, -, ha⟩ := (run_inv (blkK_real h4 h6) hq (blkV_real h5 h7) 11).m
  refine ⟨(2 : ℝ) ^ (-M), Real.rpow_pos_of_pos two_pos _, fun v => ?_⟩
  unfold finalA
  rw [ha v]
  refine congrArg _ ?_
  rw [← sum_keys, Finset.sum_mul]
  refine Finset.sum_congr rfl fun m _ => ?_
  rw [Finset.sum_mul]
  refine Finset.sum_congr rfl fun j _ => ?_
  have e : ∀ m, sc (fun j d => kk (half d) (keyIx m j) (inHalf d))
      (fun d => if d.val / 64 = mi.val then qq (rowIx sb r) (half d) (inHalf d) * ((1 / 8) * (Real.log 2)⁻¹) else 0) j
      = score (kk mi) (qq (rowIx sb r) mi) (keyIx m j) * (Real.log 2)⁻¹ := by
    intro m
    rw [sc, sc_half (fun a => kk a (keyIx m j)) (qq (rowIx sb r)) mi, score]
    ring
  rw [e, rpow_score]; ring

theorem cell_avg (h3 : ∀ (d : Fin 128) (r : Fin 1024), B3 (ix4 0 0 d r) = qq r (half d) (inHalf d))
    (h4 : ∀ (j : Fin 8192) (d : Fin 128), B4 (ix3 0 j d) = kk (half d) ⟨j.val, by omega⟩ (inHalf d))
    (h6 : ∀ (j : Fin 256) (d : Fin 128), B6 (ix3 0 j d) = kk (half d) ⟨8192 + j.val, by omega⟩ (inHalf d))
    (h5 : ∀ (v : Fin 144) (j : Fin 8192), B5 (ix4 0 0 v j) = ext vv ⟨j.val, by omega⟩ v)
    (h7 : ∀ (v : Fin 144) (j : Fin 256), B7 (ix4 0 0 v j) = ext vv ⟨8192 + j.val, by omega⟩ v)
    (mi : Fin 2) (sb : Fin 4) (r : Fin 256) (v : Fin 128) :
    Ideal.div (numOf (finalA B3 B4 B5 B6 B7 mi sb) (ix4 0 0 v r)) (denOf (finalA B3 B4 B5 B6 B7 mi sb) (ix4 0 0 0 r))
      = ((avg (score (kk mi) (qq (rowIx sb r) mi)) (fun x => vv x v) : ℝ) : EReal) := by
  obtain ⟨C, hC, h⟩ := finalA_real h3 h4 h6 h5 h7 mi sb r
  have hv : ∀ x, ext vv x ⟨v.val, by omega⟩ = vv x v := fun x => dif_pos v.isLt
  have h1 : ∀ x, ext vv x 128 = 1 := fun x => dif_neg (by decide)
  have hD : 0 < ∑ x : Fin 8448, Real.exp (score (kk mi) (qq (rowIx sb r) mi) x) :=
    Finset.sum_pos (fun x _ => Real.exp_pos _) ⟨0, Finset.mem_univ _⟩
  rw [numOf_apply, denOf_apply, h, h]
  simp only [hv, h1, one_mul]
  rw [Ideal.div_coe (mul_pos hD hC).ne', ← EReal.coe_mul, avg]
  exact congrArg (fun x : ℝ => (x : EReal)) (quot_eq _ _ _ hD.ne' hC.ne')

theorem outBlk_real {B8 : Vec Ideal S4x64 .f32} {B9 : Vec Ideal S1x128 .f32} {lam : ℝ}
    (h3 : ∀ (d : Fin 128) (r : Fin 1024), B3 (ix4 0 0 d r) = qq r (half d) (inHalf d))
    (h4 : ∀ (j : Fin 8192) (d : Fin 128), B4 (ix3 0 j d) = kk (half d) ⟨j.val, by omega⟩ (inHalf d))
    (h6 : ∀ (j : Fin 256) (d : Fin 128), B6 (ix3 0 j d) = kk (half d) ⟨8192 + j.val, by omega⟩ (inHalf d))
    (h5 : ∀ (v : Fin 144) (j : Fin 8192), B5 (ix4 0 0 v j) = ext vv ⟨j.val, by omega⟩ v)
    (h7 : ∀ (v : Fin 144) (j : Fin 256), B7 (ix4 0 0 v j) = ext vv ⟨8192 + j.val, by omega⟩ v)
    (h8 : lamOf B8 (ix2 0 0) = lam) (r : Fin 1024) (v : Fin 128) :
    outBlk B3 B4 B5 B6 B7 B8 B9 (ix3 0 r v)
      = normed (fun c => ((mix lam (score (kk 0) (qq r 0)) (score (kk 1) (qq r 1)) (fun x => vv x c) : ℝ) : EReal)) (B9 (ix2 0 v)) v := by
  have hr : rowIx ⟨r.val / 256, by omega⟩ ⟨r.val % 256, Nat.mod_lt _ (by decide)⟩ = r := Fin.ext (Nat.div_add_mod r.val 256)
  have e8 : (fun x => B8 ((Rect.unit (s := S4x64) ![0, 0] S4x64.size inb_S4x64_S4x64_0_0).toLoadRect.idx x) : Vec Ideal S4x64 .f32) = B8 :=
    funext fun x => congrArg B8 (funext fun a => Fin.ext (by fin_cases a <;> simp [Rect.unit, LoadRect.idx, Rect.toLoadRect, Rect.emb]))
  have e9 : (fun x => B9 ((Rect.unit (s := S1x128) ![0, 0] S1x128.size inb_S1x128_S1x128_0_0).toLoadRect.idx x) : Vec Ideal S1x128 .f32) = B9 :=
    funext fun x => congrArg B9 (funext fun a => Fin.ext (by fin_cases a <;> simp [Rect.unit, LoadRect.idx, Rect.toLoadRect, Rect.emb]))
  have hd : ∀ c : Fin 128, diffOf B8 (numOf (finalA B3 B4 B5 B6 B7 0 ⟨r.val / 256, by omega⟩)) (denOf (finalA B3 B4 B5 B6 B7 0 ⟨r.val / 256, by omega⟩))
      (numOf (finalA B3 B4 B5 B6 B7 1 ⟨r.val / 256, by omega⟩)) (denOf (finalA B3 B4 B5 B6 B7 1 ⟨r.val / 256, by omega⟩))
      (ix2 ⟨r.val % 256, Nat.mod_lt _ (by decide)⟩ c)
      = ((mix lam (score (kk 0) (qq r 0)) (score (kk 1) (qq r 1)) (fun x => vv x c) : ℝ) : EReal) := by
    intro c
    rw [diffOf_apply, cell_avg h3 h4 h6 h5 h7, cell_avg h3 h4 h6 h5 h7, h8, hr, ← EReal.coe_mul, ← EReal.coe_sub]
    rfl
  show outOf B3 B4 B5 B6 B7 B8 B9 ⟨r.val / 256, _⟩ (ix3 0 ⟨r.val % 256, _⟩ v) = _
  rw [outOf, e8, e9, normOf_apply]
  simp only [hd]
  rfl
end

end Cert.KernelIdeal.Attn
end
-- ==== Proof.Prep.lean ====
/-
  The arrays the call reads, at an index, as entries of the arguments: the queries transposed, the keys with their heads side by
  side, the values transposed with rows of ones below them.
-/
module

public import proofs.«01_k».proof.Proof.Blocks
public import proofs.«01_k».proof.Proof.Cell
public import Idealize.ShloMosaic.Lib.Pointwise

@[expose] public section

noncomputable section

namespace Cert.KernelIdeal.Attn

open Cert.KernelIdeal Cert.KernelIdeal.Gen
open Idealize.ShloMosaic Idealize.ShloMosaic.TcCoe Idealize.ShloMosaic.Tactic

/-- The queries, transposed. -/
def qT (x : Vec Ideal S8x4x2x8192x64 .f32) : FVec Ideal S8x4x128x8192 .bf16 :=
  truncf .bf16 (shapeCast S8x4x128x8192 (transpose S8x4x2x64x8192 [0, 1, 2, 4, 3] x transposes_S8x4x2x8192x64_S8x4x2x64x8192_0_1_2_4_3)
    shapeCasts_S8x4x2x64x8192_S8x4x128x8192) bitsLt_bf16_f32

/-- The keys, their heads side by side. -/
def kH (x : Vec Ideal S8x4x2x8192x64 .f32) : FVec Ideal S8x8192x512 .bf16 :=
  truncf .bf16 (shapeCast S8x8192x512 (transpose S8x8192x4x2x64 [0, 3, 1, 2, 4] x transposes_S8x4x2x8192x64_S8x8192x4x2x64_0_3_1_2_4)
    shapeCasts_S8x8192x4x2x64_S8x8192x512) bitsLt_bf16_f32
def kcH (x : Vec Ideal S8x4x2x256x64 .f32) : FVec Ideal S8x256x512 .bf16 :=
  truncf .bf16 (shapeCast S8x256x512 (transpose S8x256x4x2x64 [0, 3, 1, 2, 4] x transposes_S8x4x2x256x64_S8x256x4x2x64_0_3_1_2_4)
    shapeCasts_S8x256x4x2x64_S8x256x512) bitsLt_bf16_f32

/-- The values, transposed, with rows of ones below them. -/
def vT (x : Vec Ideal S8x4x8192x128 .f32) : FVec Ideal S8x4x144x8192 .bf16 :=
  concatenate S8x4x144x8192 2 [⟨S8x4x128x8192, truncf .bf16 (transpose S8x4x128x8192 [0, 1, 3, 2] x transposes_S8x4x8192x128_S8x4x128x8192_0_1_3_2 : FVec Ideal S8x4x128x8192 .f32) bitsLt_bf16_f32⟩,
    ⟨S8x4x16x8192, broadcastInDim S8x4x16x8192 ![] bcast_S_S8x4x16x8192 (constant (F := Ideal) S_ .bf16 0x3F80#16)⟩]
    concatenates_S8x4x128x8192_S8x4x16x8192_S8x4x144x8192_d2
def vcT (x : Vec Ideal S8x4x256x128 .f32) : FVec Ideal S8x4x144x256 .bf16 :=
  concatenate S8x4x144x256 2 [⟨S8x4x128x256, truncf .bf16 (transpose S8x4x128x256 [0, 1, 3, 2] x transposes_S8x4x256x128_S8x4x128x256_0_1_3_2 : FVec Ideal S8x4x128x256 .f32) bitsLt_bf16_f32⟩,
    ⟨S8x4x16x256, broadcastInDim S8x4x16x256 ![] bcast_S_S8x4x16x256 (constant (F := Ideal) S_ .bf16 0x3F80#16)⟩]
    concatenates_S8x4x128x256_S8x4x16x256_S8x4x144x256_d2

theorem qT_apply (x : Vec Ideal S8x4x2x8192x64 .f32) (b : Fin 8) (h : Fin 4) (d : Fin 128) (n : Fin 8192) :
    qT x (ix4 b h d n) = x (ix5 b h (half d) n (inHalf d)) := by
  pointwise [qT]
  rfl

theorem half_at (h : Fin 4) (d : Fin 128) : (⟨(128 * h.val + d.val) / 64 % 2, Nat.mod_lt _ (by decide)⟩ : Fin 2) = half d :=
  Fin.ext (by show (128 * h.val + d.val) / 64 % 2 = d.val / 64; omega)
theorem inHalf_at (h : Fin 4) (d : Fin 128) : (⟨(128 * h.val + d.val) % 64, Nat.mod_lt _ (by decide)⟩ : Fin 64) = inHalf d :=
  Fin.ext (by show (128 * h.val + d.val) % 64 = d.val % 64; omega)

theorem kH_apply (x : Vec Ideal S8x4x2x8192x64 .f32) (b : Fin 8) (h : Fin 4) (d : Fin 128) (j : Fin 8192) :
    kH x (ix3 b j ⟨128 * h.val + d.val, by omega⟩) = x (ix5 b h (half d) j (inHalf d)) := by
  pointwise [kH]
  exact congrArg₂ (fun a e => x (ix5 b h a j e)) (half_at h d) (inHalf_at h d)

theorem kcH_apply (x : Vec Ideal S8x4x2x256x64 .f32) (b : Fin 8) (h : Fin 4) (d : Fin 128) (j : Fin 256) :
    kcH x (ix3 b j ⟨128 * h.val + d.val, by omega⟩) = x (ix5 b h (half d) j (inHalf d)) := by
  pointwise [kcH]
  exact congrArg₂ (fun a e => x (ix5 b h a j e)) (half_at h d) (inHalf_at h d)

theorem vT_apply (x : Vec Ideal S8x4x8192x128 .f32) (b : Fin 8) (h : Fin 4) (v : Fin 144) (j : Fin 8192) :
    vT x (ix4 b h v j) = if hv : v.val < 128 then x (ix4 b h j ⟨v.val, hv⟩) else Ideal.ofBits .bf16 0x3F80#16 := by
  pointwise [vT]

theorem vcT_apply (x : Vec Ideal S8x4x256x128 .f32) (b : Fin 8) (h : Fin 4) (v : Fin 144) (j : Fin 256) :
    vcT x (ix4 b h v j) = if hv : v.val < 128 then x (ix4 b h j ⟨v.val, hv⟩) else Ideal.ofBits .bf16 0x3F80#16 := by
  pointwise [vcT]

variable (m : (ℓ : Loc nD τ sig) → Buf (Elt Ideal) ℓ)

theorem V_v2 (c : Dev nD) : V m c main_v2 = qT (m ((c : Thread nD τ).loc main_arg0)) := by
  dsimp only [V, hostOps0]; after_results; rfl
theorem V_v8 (c : Dev nD) : V m c main_v8 = kH (m ((c : Thread nD τ).loc main_arg1)) := by
  dsimp only [V, hostOps0]; after_results; rfl
theorem V_v9 (c : Dev nD) : V m c main_v9 = vT (m ((c : Thread nD τ).loc main_arg2)) := by
  dsimp only [V, hostOps0]; after_results; rfl
theorem V_v15 (c : Dev nD) : V m c main_v15 = kcH (m ((c : Thread nD τ).loc main_arg3)) := by
  dsimp only [V, hostOps0]; after_results; rfl
theorem V_v16 (c : Dev nD) : V m c main_v16 = vcT (m ((c : Thread nD τ).loc main_arg4)) := by
  dsimp only [V, hostOps0]; after_results; rfl

theorem V_v17 (c : Dev nD) (v : Fin 128) :
    V m c main_v17 (ix2 (n0 := 1) (n1 := 128) 0 v) = m ((c : Thread nD τ).loc main_arg6) (ix1 (n0 := 128) v) := by
  have h : V m c main_v17 = shapeCast S1x128 (m ((c : Thread nD τ).loc main_arg6)) shapeCasts_S128_S1x128 := by
    dsimp only [V, hostOps0]; after_results; rfl
  rw [h]
  generalize m ((c : Thread nD τ).loc main_arg6) = x
  pointwise

end Cert.KernelIdeal.Attn
end
-- ==== Proof.RefRead.lean ====
/-
  The reference read at an index: the two softmaxes, the difference of their averages of the values, and the norm after it, on
  finite inputs the same expressions as the kernel's.
-/
module

public import proofs.«01_k».proof.Proof.Cell
public import proofs.«01_k».proof.Proof.Gen.ReferenceIdeal.Read
public import Idealize.ShloMosaic.Lib.Pointwise

@[expose] public section

noncomputable section
namespace Cert.ReferenceIdeal.Attn

open Cert.KernelIdeal.Attn (fold_max_real coe_sum negInf_lt score avg mix normed)
open Cert.ReferenceIdeal Cert.ReferenceIdeal.Gen Cert.ReferenceIdeal.Read
open Idealize.ShloMosaic Idealize.ShloMosaic.TcCoe

theorem v15 (x5 : Vec Ideal S4x64 .f32) (i : S_.Idx) : val_main_v15 x5 i = Ideal.exp (∑ x : Fin 64, x5 (ix2 0 x) * x5 (ix2 1 x)) - Ideal.exp (∑ x : Fin 64, x5 (ix2 2 x) * x5 (ix2 3 x)) + Ideal.ofBits .f32 0x3EB60549#32 := by
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

theorem v16 (x1 : Vec Ideal S8x4x2x8192x64 .f32) (x3 : Vec Ideal S8x4x2x256x64 .f32) (b : Fin 8) (h : Fin 4) (a : Fin 2) (j : Fin 8448) (e : Fin 64) :
  val_main_v16 x1 x3 (ix5 b h a j e) = if hj : j.val < 8192 then x1 (ix5 b h a ⟨j.val, hj⟩ e) else x3 (ix5 b h a ⟨j.val - 8192, by omega⟩ e) := by
  pointwise [val_main_v16]

theorem v17 (x1 : Vec Ideal S8x4x8192x128 .f32) (x3 : Vec Ideal S8x4x256x128 .f32) (b : Fin 8) (h : Fin 4) (j : Fin 8448) (e : Fin 128) :
  val_main_v17 x1 x3 (ix4 b h j e) = if hj : j.val < 8192 then x1 (ix4 b h ⟨j.val, hj⟩ e) else x3 (ix4 b h ⟨j.val - 8192, by omega⟩ e) := by
  pointwise [val_main_v17]

theorem v20 (x0 x1 : Vec Ideal S8x4x2x8192x64 .f32) (x3 : Vec Ideal S8x4x2x256x64 .f32) (b : Fin 8) (h : Fin 4) (a : Fin 2) (n : Fin 8192) (j : Fin 8448) :
  val_main_v20 x0 x1 x3 (ix5 b h a n j) = (∑ e : Fin 64, x0 (ix5 b h a n e) * val_main_v16 x1 x3 (ix5 b h a j e)) * Ideal.ofBits .f32 0x3E000000#32 := by
  pointwise [val_main_v20, val_main_v19, val_main_v18, val_main_cst_2]

theorem v31 (x0 x1 : Vec Ideal S8x4x2x8192x64 .f32) (x3 : Vec Ideal S8x4x2x256x64 .f32) (b : Fin 8) (h : Fin 4) (a : Fin 2) (n : Fin 8192) (j : Fin 8448) :
  val_main_v31 x0 x1 x3 (ix5 b h a n j) = Ideal.div (Ideal.exp (val_main_v20 x0 x1 x3 (ix5 b h a n j) - val_main_v23 x0 x1 x3 (ix4 b h a n)))
      (∑ x : Fin 8448, Ideal.exp (val_main_v20 x0 x1 x3 (ix5 b h a n x) - val_main_v23 x0 x1 x3 (ix4 b h a n))) := by
  pointwise [val_main_v31, val_main_v30, val_main_v29, val_main_v28, val_main_v27, val_main_v26, val_main_v25, val_main_v24, val_main_cst_5]

/-- A maximum along the last of five axes, of real numbers, is a real number. -/
theorem hostMax_real {n0 n1 n2 n3 n4 : ℕ} [Nonempty (Fin n4)] {t u : Shape} (h : (⟨5, ![n0, n1, n2, n3, n4]⟩ : Shape).ReducesTo [4] t)
    (hu : 0 < u.numel) (x : (⟨5, ![n0, n1, n2, n3, n4]⟩ : Shape).Idx → EReal) (g : (⟨5, ![n0, n1, n2, n3, n4]⟩ : Shape).Idx → ℝ)
    (hx : ∀ i, x i = g i) (init : u.Idx → EReal) (hi : init (Shape.Idx.first hu) < ⊤) (j : t.Idx) :
    ∃ r : ℝ, Host.reduce max x init h hu j = r := by
  rw [Host.reduce_eq_fold, Shape.ReducesTo.fold_fiber_r5_a4]
  exact fold_max_real _ hi _ _ fun k => hx _

theorem v33 (x0 x1 : Vec Ideal S8x4x2x8192x64 .f32) (x3 : Vec Ideal S8x4x2x256x64 .f32) (b : Fin 8) (h : Fin 4) (n : Fin 8192) (j : Fin 8448) :
    val_main_v33 x0 x1 x3 (ix4 b h n j) = val_main_v31 x0 x1 x3 (ix5 b h 0 n j) := by
  rw [val_main_v33_apply, val_main_v32_apply]
  refine congrArg _ (funext fun a => Fin.ext ?_)
  have hb := b.isLt; have hh := h.isLt; have hn := n.isLt; have hj := j.isLt
  match a with
  | ⟨0, _⟩ => show (((b.val * 4 + h.val) * 8192 + n.val) * 8448 + j.val) / 276824064 = b.val; omega
  | ⟨1, _⟩ => show (((b.val * 4 + h.val) * 8192 + n.val) * 8448 + j.val) / 69206016 % 4 = h.val; omega
  | ⟨2, _⟩ => rfl
  | ⟨3, _⟩ => show (((b.val * 4 + h.val) * 8192 + n.val) * 8448 + j.val) / 8448 % 8192 = n.val; omega
  | ⟨4, _⟩ => show (((b.val * 4 + h.val) * 8192 + n.val) * 8448 + j.val) % 8448 = j.val; omega

theorem v35 (x0 x1 : Vec Ideal S8x4x2x8192x64 .f32) (x3 : Vec Ideal S8x4x2x256x64 .f32) (b : Fin 8) (h : Fin 4) (n : Fin 8192) (j : Fin 8448) :
    val_main_v35 x0 x1 x3 (ix4 b h n j) = val_main_v31 x0 x1 x3 (ix5 b h 1 n j) := by
  rw [val_main_v35_apply, val_main_v34_apply]
  refine congrArg _ (funext fun a => Fin.ext ?_)
  have hb := b.isLt; have hh := h.isLt; have hn := n.isLt; have hj := j.isLt
  match a with
  | ⟨0, _⟩ => show (((b.val * 4 + h.val) * 8192 + n.val) * 8448 + j.val) / 276824064 = b.val; omega
  | ⟨1, _⟩ => show (((b.val * 4 + h.val) * 8192 + n.val) * 8448 + j.val) / 69206016 % 4 = h.val; omega
  | ⟨2, _⟩ => rfl
  | ⟨3, _⟩ => show (((b.val * 4 + h.val) * 8192 + n.val) * 8448 + j.val) / 8448 % 8192 = n.val; omega
  | ⟨4, _⟩ => show (((b.val * 4 + h.val) * 8192 + n.val) * 8448 + j.val) % 8448 = j.val; omega

theorem v39 (x0 x1 : Vec Ideal S8x4x2x8192x64 .f32) (x2 : Vec Ideal S8x4x8192x128 .f32) (x3 : Vec Ideal S8x4x2x256x64 .f32)
    (x4 : Vec Ideal S8x4x256x128 .f32) (x5 : Vec Ideal S4x64 .f32) (b : Fin 8) (h : Fin 4) (n : Fin 8192) (v : Fin 128) :
    val_main_v39 x0 x1 x2 x3 x4 x5 (ix4 b h n v)
      = ∑ j : Fin 8448, (val_main_v31 x0 x1 x3 (ix5 b h 0 n j) - val_main_v15 x5 ix0 * val_main_v31 x0 x1 x3 (ix5 b h 1 n j))
          * val_main_v17 x2 x4 (ix4 b h j v) := by
  rw [val_main_v39_apply]
  refine Finset.sum_congr rfl fun j _ => ?_
  have el : lidx_main_v39 (ix4 b h n v) j = ix4 b h n j := funext fun a => match a with
    | ⟨0, _⟩ => rfl | ⟨1, _⟩ => rfl | ⟨2, _⟩ => rfl | ⟨3, _⟩ => rfl
  have er : ridx_main_v39 (ix4 b h n v) j = ix4 b h j v := funext fun a => match a with
    | ⟨0, _⟩ => rfl | ⟨1, _⟩ => rfl | ⟨2, _⟩ => rfl | ⟨3, _⟩ => rfl
  have e0 : idx_main_v36 (ix4 b h n j) = ix0 := funext fun a => a.elim0
  rw [el, er, val_main_v38_apply, val_main_v37_apply, val_main_v36_apply, v33, v35, e0]
  generalize val_main_v31 x0 x1 x3 (ix5 b h 0 n j) = p
  generalize val_main_v31 x0 x1 x3 (ix5 b h 1 n j) = q
  generalize val_main_v15 x5 ix0 = l
  generalize val_main_v17 x2 x4 (ix4 b h j v) = w
  rfl

theorem v46 (x0 x1 : Vec Ideal S8x4x2x8192x64 .f32) (x2 : Vec Ideal S8x4x8192x128 .f32) (x3 : Vec Ideal S8x4x2x256x64 .f32)
    (x4 : Vec Ideal S8x4x256x128 .f32) (x5 : Vec Ideal S4x64 .f32) (b : Fin 8) (h : Fin 4) (n : Fin 8192) :
    val_main_v46 x0 x1 x2 x3 x4 x5 (ix4 b h n 0)
      = Ideal.div (∑ c : Fin 128, val_main_v39 x0 x1 x2 x3 x4 x5 (ix4 b h n c) * val_main_v39 x0 x1 x2 x3 x4 x5 (ix4 b h n c))
          (Ideal.ofBits .f32 0x43000000#32) + Ideal.ofBits .f32 0x3727C5AC#32 := by
  have e42 : idx_main_v42 (ix4 b h n 0) = ix3 b h n := funext fun a => match a with
    | ⟨0, _⟩ => rfl | ⟨1, _⟩ => rfl | ⟨2, _⟩ => rfl
  have e41 : ∀ k, idx_main_v41 (ix3 b h n) k = ix4 b h n k := fun k => funext fun a => match a with
    | ⟨0, _⟩ => rfl | ⟨1, _⟩ => rfl | ⟨2, _⟩ => rfl | ⟨3, _⟩ => rfl
  have z : val_main_cst_6 (F := Ideal) (Shape.Idx.first h_S_) = 0 := by
    rw [val_main_cst_6_apply]; show Ideal.ofBits .f32 0x00000000#32 = 0; simp [Ideal.ofBits, Ideal.ieee]
  have s : val_main_v41 x0 x1 x2 x3 x4 x5 (ix3 b h n)
      = ∑ c : Fin 128, val_main_v39 x0 x1 x2 x3 x4 x5 (ix4 b h n c) * val_main_v39 x0 x1 x2 x3 x4 x5 (ix4 b h n c) := by
    rw [val_main_v41_apply, z, zero_add]
    refine Finset.sum_congr rfl fun c _ => ?_
    rw [e41, val_main_v40_apply]
    generalize val_main_v39 x0 x1 x2 x3 x4 x5 (ix4 b h n c) = y
    rfl
  rw [val_main_v46_apply, val_main_v45_apply, val_main_v44_apply, val_main_v43_apply, val_main_v42_apply, e42, s]
  generalize (∑ c : Fin 128, val_main_v39 x0 x1 x2 x3 x4 x5 (ix4 b h n c) * val_main_v39 x0 x1 x2 x3 x4 x5 (ix4 b h n c)) = y
  rfl

theorem v54 (x0 x1 : Vec Ideal S8x4x2x8192x64 .f32) (x2 : Vec Ideal S8x4x8192x128 .f32) (x3 : Vec Ideal S8x4x2x256x64 .f32)
    (x4 : Vec Ideal S8x4x256x128 .f32) (x5 : Vec Ideal S4x64 .f32) (x6 : Vec Ideal S128 .f32) (b : Fin 8) (h : Fin 4) (n : Fin 8192) (v : Fin 128) :
    val_main_v54 x0 x1 x2 x3 x4 x5 x6 (ix4 b h n v)
      = val_main_v39 x0 x1 x2 x3 x4 x5 (ix4 b h n v) * Ideal.rsqrt (val_main_v46 x0 x1 x2 x3 x4 x5 (ix4 b h n 0)) * x6 (ix1 v)
          * Ideal.ofBits .f32 0x3F24FD5C#32 := by
  have e48 : idx_main_v48 (ix4 b h n v) = ix4 b h n 0 := funext fun a => match a with
    | ⟨0, _⟩ => rfl | ⟨1, _⟩ => rfl | ⟨2, _⟩ => rfl | ⟨3, _⟩ => rfl
  have e51 : idx_main_v50 (idx_main_v51 (ix4 b h n v)) = ix1 v := funext fun a => match a with
    | ⟨0, _⟩ => rfl
  rw [val_main_v54_apply, val_main_v53_apply, val_main_v52_apply, val_main_v51_apply, val_main_v50_apply, e51, val_main_v49_apply,
    val_main_v48_apply, e48, val_main_v47_apply]
  generalize val_main_v39 x0 x1 x2 x3 x4 x5 (ix4 b h n v) = y
  generalize val_main_v46 x0 x1 x2 x3 x4 x5 (ix4 b h n 0) = s
  rfl

theorem v57_v54 (x0 x1 : Vec Ideal S8x4x2x8192x64 .f32) (x2 : Vec Ideal S8x4x8192x128 .f32) (x3 : Vec Ideal S8x4x2x256x64 .f32)
    (x4 : Vec Ideal S8x4x256x128 .f32) (x5 : Vec Ideal S4x64 .f32) (x6 : Vec Ideal S128 .f32) (b : Fin 8) (h : Fin 4) (n : Fin 8192) (v : Fin 128) :
    val_main_v57 x0 x1 x2 x3 x4 x5 x6 (ix3 b n ⟨128 * h.val + v.val, by omega⟩) = val_main_v54 x0 x1 x2 x3 x4 x5 x6 (ix4 b h n v) := by
  have hb := b.isLt; have hh := h.isLt; have hn := n.isLt; have hv := v.isLt
  have e : idx_main_v55 (idx_main_v56 (ix3 b n ⟨128 * h.val + v.val, by omega⟩)) = ix4 b h n v := by
    refine funext fun a => Fin.ext ?_
    match a with
    | ⟨0, _⟩ => show ((b.val * 8192 + n.val) * 512 + (128 * h.val + v.val)) / 4194304 = b.val; omega
    | ⟨1, _⟩ => show ((b.val * 8192 + n.val) * 512 + (128 * h.val + v.val)) / 128 % 4 = h.val; omega
    | ⟨2, _⟩ => show ((b.val * 8192 + n.val) * 512 + (128 * h.val + v.val)) / 512 % 8192 = n.val; omega
    | ⟨3, _⟩ => show ((b.val * 8192 + n.val) * 512 + (128 * h.val + v.val)) % 128 = v.val; omega
  rw [val_main_v57_apply, val_main_v56_apply, val_main_v55_apply, e]
  generalize val_main_v54 x0 x1 x2 x3 x4 x5 x6 (ix4 b h n v) = y
  rfl

theorem v57 (x0 x1 : Vec Ideal S8x4x2x8192x64 .f32) (x2 : Vec Ideal S8x4x8192x128 .f32) (x3 : Vec Ideal S8x4x2x256x64 .f32)
    (x4 : Vec Ideal S8x4x256x128 .f32) (x5 : Vec Ideal S4x64 .f32) (x6 : Vec Ideal S128 .f32) (b : Fin 8) (h : Fin 4) (n : Fin 8192) (v : Fin 128) :
    val_main_v57 x0 x1 x2 x3 x4 x5 x6 (ix3 b n ⟨128 * h.val + v.val, by omega⟩)
      = normed (fun c => val_main_v39 x0 x1 x2 x3 x4 x5 (ix4 b h n c)) (x6 (ix1 v)) v := by
  rw [v57_v54, v54, v46]
  rfl

end Cert.ReferenceIdeal.Attn
end
-- ==== Proof.RefVal.lean ====
/-
  The reference's value on finite inputs: the norm of the difference of the two softmax averages.
-/
module

public import proofs.«01_k».proof.Proof.RefRead

@[expose] public section

noncomputable section

namespace Cert.ReferenceIdeal.Attn

open Cert.KernelIdeal.Attn (fold_max_real coe_sum negInf_lt score avg mix normed)
open Cert.ReferenceIdeal Cert.ReferenceIdeal.Gen Cert.ReferenceIdeal.Read
open Idealize.ShloMosaic Idealize.ShloMosaic.TcCoe

/-- The queries of a batch element and head. -/
def qR (r0 : S8x4x2x8192x64.Idx → ℝ) (b : Fin 8) (h : Fin 4) (n : Fin 8192) (a : Fin 2) (e : Fin 64) : ℝ := r0 (ix5 b h a n e)

/-- The keys, those of the latents first and then those of the context; and the values. -/
def kR (r1 : S8x4x2x8192x64.Idx → ℝ) (r3 : S8x4x2x256x64.Idx → ℝ) (b : Fin 8) (h : Fin 4) (a : Fin 2) (x : Fin 8448) (e : Fin 64) : ℝ :=
  if hx : x.val < 8192 then r1 (ix5 b h a ⟨x.val, hx⟩ e) else r3 (ix5 b h a ⟨x.val - 8192, by omega⟩ e)
def vR (r2 : S8x4x8192x128.Idx → ℝ) (r4 : S8x4x256x128.Idx → ℝ) (b : Fin 8) (h : Fin 4) (x : Fin 8448) (c : Fin 128) : ℝ :=
  if hx : x.val < 8192 then r2 (ix4 b h ⟨x.val, hx⟩ c) else r4 (ix4 b h ⟨x.val - 8192, by omega⟩ c)

/-- The learned weight of the second softmax. -/
def lamR (r5 : S4x64.Idx → ℝ) : EReal :=
  Ideal.exp (∑ x : Fin 64, (r5 (ix2 0 x) : EReal) * r5 (ix2 1 x)) - Ideal.exp (∑ x : Fin 64, (r5 (ix2 2 x) : EReal) * r5 (ix2 3 x))
    + Ideal.ofBits .f32 0x3EB60549#32

theorem lamR_real (r5 : S4x64.Idx → ℝ) : ∃ r : ℝ, lamR r5 = r := by
  have c : ∃ r : ℝ, Ideal.ofBits .f32 0x3EB60549#32 = r := by
    simp only [Ideal.ofBits, Ideal.ieee]
    exact ⟨_, rfl⟩
  obtain ⟨c, hc⟩ := c
  refine ⟨Real.exp (∑ x : Fin 64, r5 (ix2 0 x) * r5 (ix2 1 x)) - Real.exp (∑ x : Fin 64, r5 (ix2 2 x) * r5 (ix2 3 x)) + c, ?_⟩
  rw [lamR, hc, EReal.coe_add, EReal.coe_sub, ← Ideal.exp_coe, ← Ideal.exp_coe, coe_sum, coe_sum]
  simp only [EReal.coe_mul]

theorem eighth : Ideal.ofBits .f32 0x3E000000#32 = ((1 / 8 : ℝ) : EReal) := by
  simp [Ideal.ofBits, Ideal.ieee, -EReal.coe_mul]
  norm_num

/-- A softmax weight does not see the offset its exponentials are taken against. -/
theorem softmax_shift (s : Fin 8448 → ℝ) (M : ℝ) (j : Fin 8448) :
    Ideal.div (Ideal.exp ((s j : EReal) - M)) (∑ x : Fin 8448, Ideal.exp ((s x : EReal) - M))
      = ((Real.exp (s j) / ∑ x, Real.exp (s x) : ℝ) : EReal) := by
  have e : ∀ x, Ideal.exp ((s x : EReal) - M) = ((Real.exp (s x) * Real.exp (-M) : ℝ) : EReal) := fun x => by
    rw [← EReal.coe_sub, Ideal.exp_coe, sub_eq_add_neg, Real.exp_add]
  have hD : 0 < ∑ x : Fin 8448, Real.exp (s x) := Finset.sum_pos (fun x _ => Real.exp_pos _) ⟨0, Finset.mem_univ _⟩
  simp only [e]
  rw [← coe_sum, ← Finset.sum_mul, Ideal.div_coe (mul_pos hD (Real.exp_pos _)).ne', ← EReal.coe_mul]
  exact congrArg (fun x : ℝ => (x : EReal)) (Cert.KernelIdeal.Attn.quot_eq _ _ _ hD.ne' (Real.exp_pos _).ne')

theorem mix_sum (lam : ℝ) (s0 s1 w : Fin 8448 → ℝ) :
    ∑ j, (Real.exp (s0 j) / (∑ x, Real.exp (s0 x)) - lam * (Real.exp (s1 j) / ∑ x, Real.exp (s1 x))) * w j = mix lam s0 s1 w := by
  rw [mix, avg, avg, Finset.sum_div, Finset.sum_div, Finset.mul_sum, ← Finset.sum_sub_distrib]
  refine Finset.sum_congr rfl fun j _ => ?_
  ring

section
variable {x0 x1 : Vec Ideal S8x4x2x8192x64 .f32} {x2 : Vec Ideal S8x4x8192x128 .f32} {x3 : Vec Ideal S8x4x2x256x64 .f32}
  {x4 : Vec Ideal S8x4x256x128 .f32} {x5 : Vec Ideal S4x64 .f32} {x6 : Vec Ideal S128 .f32}
  {r0 r1 : S8x4x2x8192x64.Idx → ℝ} {r2 : S8x4x8192x128.Idx → ℝ} {r3 : S8x4x2x256x64.Idx → ℝ} {r4 : S8x4x256x128.Idx → ℝ}
  {r5 : S4x64.Idx → ℝ}

theorem v16_real (h1 : ∀ i, x1 i = r1 i) (h3 : ∀ i, x3 i = r3 i) (b : Fin 8) (h : Fin 4) (a : Fin 2) (j : Fin 8448) (e : Fin 64) :
    val_main_v16 x1 x3 (ix5 b h a j e) = (kR r1 r3 b h a j e : EReal) := by
  rw [v16, kR]
  split
  · exact h1 _
  · exact h3 _

theorem v17_real (h2 : ∀ i, x2 i = r2 i) (h4 : ∀ i, x4 i = r4 i) (b : Fin 8) (h : Fin 4) (j : Fin 8448) (c : Fin 128) :
    val_main_v17 x2 x4 (ix4 b h j c) = (vR r2 r4 b h j c : EReal) := by
  rw [v17, vR]
  split
  · exact h2 _
  · exact h4 _

theorem v20_real (h0 : ∀ i, x0 i = r0 i) (h1 : ∀ i, x1 i = r1 i) (h3 : ∀ i, x3 i = r3 i) (b : Fin 8) (h : Fin 4) (a : Fin 2) (n : Fin 8192)
    (j : Fin 8448) : val_main_v20 x0 x1 x3 (ix5 b h a n j) = (score (kR r1 r3 b h a) (qR r0 b h n a) j : EReal) := by
  rw [v20, eighth, score, EReal.coe_mul, coe_sum]
  refine congrArg (· * _) (Finset.sum_congr rfl fun e _ => ?_)
  rw [h0, v16_real h1 h3, EReal.coe_mul]
  rfl

theorem v23_real (h0 : ∀ i, x0 i = r0 i) (h1 : ∀ i, x1 i = r1 i) (h3 : ∀ i, x3 i = r3 i) (i : S8x4x2x8192.Idx) :
    ∃ M : ℝ, val_main_v23 x0 x1 x3 i = M := by
  have hx : ∀ i : S8x4x2x8192x8448.Idx, val_main_v20 x0 x1 x3 i
      = (score (kR r1 r3 (i 0) (i 1) (i 2)) (qR r0 (i 0) (i 1) (i 3) (i 2)) (i 4) : EReal) := fun i =>
    (congrArg (val_main_v20 x0 x1 x3) (eq_ix5 i)).trans (v20_real h0 h1 h3 (i 0) (i 1) (i 2) (i 3) (i 4))
  obtain ⟨r, hr⟩ := hostMax_real reducesTo_S8x4x2x8192x8448_S8x4x2x8192_d4 h_S_ (val_main_v20 x0 x1 x3) _ hx
    (val_main_cst_3 (F := Ideal)) (by rw [val_main_cst_3_apply]; exact negInf_lt) i
  have hb : Ideal.ofBits .f32 0xFF800000#32 = ⊥ := by simp [Ideal.ofBits, Ideal.ieee]
  refine ⟨r, ?_⟩
  rw [val_main_v23_apply, val_main_v22_apply, val_main_cst_4_apply, show val_main_v21 x0 x1 x3 i = r from hr]
  show max (Ideal.ofBits .f32 0xFF800000#32) (r : EReal) = r
  rw [hb]; exact max_eq_right bot_le

theorem v31_real (h0 : ∀ i, x0 i = r0 i) (h1 : ∀ i, x1 i = r1 i) (h3 : ∀ i, x3 i = r3 i) (b : Fin 8) (h : Fin 4) (a : Fin 2) (n : Fin 8192)
    (j : Fin 8448) : val_main_v31 x0 x1 x3 (ix5 b h a n j)
      = ((Real.exp (score (kR r1 r3 b h a) (qR r0 b h n a) j) / ∑ x, Real.exp (score (kR r1 r3 b h a) (qR r0 b h n a) x) : ℝ) : EReal) := by
  obtain ⟨M, hM⟩ := v23_real h0 h1 h3 (ix4 b h a n)
  rw [v31, hM]
  simp only [v20_real h0 h1 h3]
  exact softmax_shift _ M j

theorem v57_real {lam : ℝ} (hl : lamR r5 = lam) (h0 : ∀ i, x0 i = r0 i) (h1 : ∀ i, x1 i = r1 i) (h2 : ∀ i, x2 i = r2 i)
    (h3 : ∀ i, x3 i = r3 i) (h4 : ∀ i, x4 i = r4 i) (h5 : ∀ i, x5 i = r5 i) (b : Fin 8) (h : Fin 4) (n : Fin 8192) (v : Fin 128) :
    val_main_v57 x0 x1 x2 x3 x4 x5 x6 (ix3 b n ⟨128 * h.val + v.val, by omega⟩)
      = normed (fun c => ((mix lam (score (kR r1 r3 b h 0) (qR r0 b h n 0)) (score (kR r1 r3 b h 1) (qR r0 b h n 1))
          (fun x => vR r2 r4 b h x c) : ℝ) : EReal)) (x6 (ix1 v)) v := by
  have e15 : val_main_v15 x5 ix0 = (lam : EReal) := by
    rw [v15, ← hl, lamR]
    simp only [h5]
  rw [v57]
  refine congrArg (fun o => normed o (x6 (ix1 v)) v) (funext fun c => ?_)
  rw [v39, e15, ← mix_sum, coe_sum]
  refine Finset.sum_congr rfl fun j _ => ?_
  rw [v31_real h0 h1 h3, v31_real h0 h1 h3, v17_real h2 h4, ← EReal.coe_mul, ← EReal.coe_sub, ← EReal.coe_mul]
end

end Cert.ReferenceIdeal.Attn
end
-- ==== Proof.Value.lean ====
/-
  The kernel's result array and the reference's, equal on finite inputs.
-/
module

public import proofs.«01_k».proof.Proof.Blocks
public import proofs.«01_k».proof.Proof.Prep
public import proofs.«01_k».proof.Proof.RefVal

@[expose] public section

noncomputable section

namespace Cert.KernelIdeal.Attn

open Cert.KernelIdeal Cert.KernelIdeal.Gen
open Cert.ReferenceIdeal.Attn (qR kR vR lamR lamR_real v57_real)
open Cert.ReferenceIdeal.Read (val_main_v57)
open Idealize.ShloMosaic Idealize.ShloMosaic.TcCoe

theorem one_bits : Ideal.ofBits .bf16 0x3F80#16 = ((1 : ℝ) : EReal) := by
  simp [Ideal.ofBits, Ideal.ieee, -EReal.coe_mul]
  norm_num

section
variable {x1 : Vec Ideal S8x4x2x8192x64 .f32} {x2 : Vec Ideal S8x4x8192x128 .f32} {x3 : Vec Ideal S8x4x2x256x64 .f32} {x4 : Vec Ideal S8x4x256x128 .f32}
  {r1 : S8x4x2x8192x64.Idx → ℝ} {r2 : S8x4x8192x128.Idx → ℝ} {r3 : S8x4x2x256x64.Idx → ℝ} {r4 : S8x4x256x128.Idx → ℝ}

theorem key_lt (h1 : ∀ i, x1 i = r1 i) (b : Fin 8) (h : Fin 4) (j : Fin 8192) (d : Fin 128) :
    kH x1 (ix3 b j ⟨128 * h.val + d.val, by omega⟩) = kR r1 r3 b h (half d) ⟨j.val, by omega⟩ (inHalf d) := by
  rw [kH_apply, h1, kR, dif_pos j.isLt]

theorem key_ge (h3 : ∀ i, x3 i = r3 i) (b : Fin 8) (h : Fin 4) (j : Fin 256) (d : Fin 128) :
    kcH x3 (ix3 b j ⟨128 * h.val + d.val, by omega⟩) = kR r1 r3 b h (half d) ⟨8192 + j.val, by omega⟩ (inHalf d) := by
  rw [kcH_apply, h3, kR, dif_neg (by simp)]
  exact congrArg (fun y => ((r3 (ix5 b h (half d) y (inHalf d)) : ℝ) : EReal)) (Fin.ext (by simp))

theorem val_lt (h2 : ∀ i, x2 i = r2 i) (b : Fin 8) (h : Fin 4) (v : Fin 144) (j : Fin 8192) :
    vT x2 (ix4 b h v j) = ext (vR r2 r4 b h) ⟨j.val, by omega⟩ v := by
  rw [vT_apply, ext]
  by_cases hv : v.val < 128
  · rw [dif_pos hv, dif_pos hv, h2, vR, dif_pos j.isLt]
  · rw [dif_neg hv, dif_neg hv]
    exact one_bits

theorem val_ge (h4 : ∀ i, x4 i = r4 i) (b : Fin 8) (h : Fin 4) (v : Fin 144) (j : Fin 256) :
    vcT x4 (ix4 b h v j) = ext (vR r2 r4 b h) ⟨8192 + j.val, by omega⟩ v := by
  rw [vcT_apply, ext]
  by_cases hv : v.val < 128
  · rw [dif_pos hv, dif_pos hv, h4, vR, dif_neg (by simp)]
    exact congrArg (fun y => ((r4 (ix4 b h y ⟨v.val, hv⟩) : ℝ) : EReal)) (Fin.ext (by simp))
  · rw [dif_neg hv, dif_neg hv]
    exact one_bits
end

variable (m : (ℓ : Loc nD τ sig) → Buf (Elt Ideal) ℓ)
variable {r0 r1 : S8x4x2x8192x64.Idx → ℝ} {r2 : S8x4x8192x128.Idx → ℝ} {r3 : S8x4x2x256x64.Idx → ℝ} {r4 : S8x4x256x128.Idx → ℝ} {r5 : S4x64.Idx → ℝ}

/-- A block of the result on finite inputs. -/
theorem ptBlk_real (c : Dev nD) {lam : ℝ} (hl : lamR r5 = lam)
    (h0 : ∀ i : S8x4x2x8192x64.Idx, m ((c : Thread nD τ).loc main_arg0) i = (r0 i : EReal))
    (h1 : ∀ i : S8x4x2x8192x64.Idx, m ((c : Thread nD τ).loc main_arg1) i = (r1 i : EReal))
    (h2 : ∀ i : S8x4x8192x128.Idx, m ((c : Thread nD τ).loc main_arg2) i = (r2 i : EReal))
    (h3 : ∀ i : S8x4x2x256x64.Idx, m ((c : Thread nD τ).loc main_arg3) i = (r3 i : EReal))
    (h4 : ∀ i : S8x4x256x128.Idx, m ((c : Thread nD τ).loc main_arg4) i = (r4 i : EReal))
    (h5 : ∀ i : S4x64.Idx, m ((c : Thread nD τ).loc main_arg5) i = (r5 i : EReal))
    (b : Fin 8) (h : Fin 4) (qi : Fin 8) (r : Fin 1024) (v : Fin 128) :
    ptBlk m c (point b h qi) (ix3 (n0 := 1) (n1 := 1024) (n2 := 128) 0 r v)
      = normed (fun w => ((mix lam (score (kR r1 r3 b h 0) (qR r0 b h ⟨1024 * qi.val + r.val, by omega⟩ 0))
          (score (kR r1 r3 b h 1) (qR r0 b h ⟨1024 * qi.val + r.val, by omega⟩ 1)) (fun x => vR r2 r4 b h x w) : ℝ) : EReal))
        (m ((c : Thread nD τ).loc main_arg6) (ix1 (n0 := 128) v)) v := by
  have e8 : lamOf (iblk m c 5 (point b h qi)) (ix2 0 0) = (lam : EReal) := by
    rw [lamOf_apply, ← hl, lamR]
    have e : ∀ (a : Fin 4) (x : Fin 64), iblk m c 5 (point b h qi) (ix2 (n0 := 4) (n1 := 64) a x) = (r5 (ix2 a x) : EReal) := fun a x =>
      (iblk5_at m c _ a x).trans ((congrFun (V_main_arg5 m c) _).trans (h5 _))
    simp only [e]
  have e9 : iblk m c 6 (point b h qi) (ix2 (n0 := 1) (n1 := 128) 0 v) = m ((c : Thread nD τ).loc main_arg6) (ix1 (n0 := 128) v) :=
    (iblk6_at m c _ v).trans (V_v17 m c v)
  rw [← e9]
  exact outBlk_real (qq := fun r a e => qR r0 b h ⟨1024 * qi.val + r.val, by omega⟩ a e) (kk := kR r1 r3 b h) (vv := vR r2 r4 b h)
    (fun d r => (iblk0_at m c b h qi d r).trans ((congrFun (V_v2 m c) _).trans ((qT_apply _ b h d _).trans (h0 _))))
    (fun j d => (iblk1_at m c b h qi j d).trans ((congrFun (V_v8 m c) _).trans (key_lt h1 b h j d)))
    (fun j d => (iblk3_at m c b h qi j d).trans ((congrFun (V_v15 m c) _).trans (key_ge h3 b h j d)))
    (fun v j => (iblk2_at m c b h qi v j).trans ((congrFun (V_v9 m c) _).trans (val_lt h2 b h v j)))
    (fun v j => (iblk4_at m c b h qi v j).trans ((congrFun (V_v16 m c) _).trans (val_ge h4 b h v j)))
    e8 r v

/-- The result array is the reference's value of the same arguments. -/
theorem result_eq (c : Dev nD)
    (h0 : ∀ i : S8x4x2x8192x64.Idx, m ((c : Thread nD τ).loc main_arg0) i = (r0 i : EReal))
    (h1 : ∀ i : S8x4x2x8192x64.Idx, m ((c : Thread nD τ).loc main_arg1) i = (r1 i : EReal))
    (h2 : ∀ i : S8x4x8192x128.Idx, m ((c : Thread nD τ).loc main_arg2) i = (r2 i : EReal))
    (h3 : ∀ i : S8x4x2x256x64.Idx, m ((c : Thread nD τ).loc main_arg3) i = (r3 i : EReal))
    (h4 : ∀ i : S8x4x256x128.Idx, m ((c : Thread nD τ).loc main_arg4) i = (r4 i : EReal))
    (h5 : ∀ i : S4x64.Idx, m ((c : Thread nD τ).loc main_arg5) i = (r5 i : EReal)) :
    result m c = val_main_v57 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) := by
  obtain ⟨lam, hl⟩ := lamR_real r5
  funext i
  have i0 : (i 0).val < 8 := (i 0).isLt
  have i1 : (i 1).val < 8192 := (i 1).isLt
  have i2 : (i 2).val < 512 := (i 2).isLt
  have ei : i = ix3 (n0 := 8) (n1 := 8192) (n2 := 512) ⟨(i 0).val, i0⟩ ⟨(i 1).val, i1⟩
      ⟨128 * (i 2).val.div 128 + (i 2).val % 128, by have := Nat.div_add_mod (i 2).val 128; show 128 * ((i 2).val / 128) + _ < _; omega⟩ := by
    refine funext fun a => Fin.ext ?_
    match a with
    | ⟨0, _⟩ => rfl
    | ⟨1, _⟩ => rfl
    | ⟨2, _⟩ => exact (Nat.div_add_mod (i 2).val 128).symm
  have en : (⟨1024 * ((i 1).val / 1024) + (i 1).val % 1024, by omega⟩ : Fin 8192) = ⟨(i 1).val, i1⟩ := Fin.ext (Nat.div_add_mod _ _)
  have hr := v57_real (x6 := m ((c : Thread nD τ).loc main_arg6)) hl h0 h1 h2 h3 h4 h5 ⟨(i 0).val, i0⟩ ⟨(i 2).val / 128, by omega⟩ ⟨(i 1).val, i1⟩
    ⟨(i 2).val % 128, Nat.mod_lt _ (by decide)⟩
  have hk := ptBlk_real m c hl h0 h1 h2 h3 h4 h5 ⟨(i 0).val, i0⟩ ⟨(i 2).val / 128, by omega⟩ ⟨(i 1).val / 1024, by omega⟩
    ⟨(i 1).val % 1024, Nat.mod_lt _ (by decide)⟩ ⟨(i 2).val % 128, Nat.mod_lt _ (by decide)⟩
  simp only [en] at hk
  exact hk.trans (hr.symm.trans (congrArg (val_main_v57 _ _ _ _ _ _ _) ei.symm))

end Cert.KernelIdeal.Attn
end
-- ==== Proof.Algebraic.lean ====
/-
  The value claim: on finite inputs the kernel's run and the reference's end with the same result.
-/
module

public import proofs.«01_k».proof.Defs
public import proofs.«01_k».proof.Proof.Finite
public import proofs.«01_k».proof.Proof.Value
public import proofs.«01_k».proof.Proof.Gen.ReferenceIdeal.Run

@[expose] public section

noncomputable section

namespace Cert.KernelIdeal.Attn

open Cert.KernelIdeal Cert.KernelIdeal.Gen
open Idealize.ShloMosaic Idealize.ShloMosaic.TcCoe
open Idealize.SL.Sem

attribute [local instance] Cert.KernelIdeal.Gen.facts Cert.ReferenceIdeal.Gen.facts Cert.Pre_finite.facts

theorem algebraic : Cert.algebraic_KernelIdeal_ReferenceIdeal_pre_finite := fun m g m' g' hpre hargs => by
  refine ⟨fun c => result m c, (θ_run defs _ _).mono (fun _ h c => ⟨(h.1 c).1.trans (final_result m c), (h.1 c).2⟩) (run_all (F := Ideal) m g),
    (θ_run Cert.ReferenceIdeal.defs _ _).mono (fun _ h c => ⟨(h c).1.trans ?_, (h c).2⟩) (Cert.ReferenceIdeal.Value.run (F := Ideal) m' g')⟩
  obtain ⟨h0, h1, h2, h3, h4, h5⟩ := Cert.Pre_finite.real_args _ _ _ _ _ _ _ (hpre c)
  obtain ⟨a0, a1, a2, a3, a4, a5, a6⟩ := hargs c
  rw [Cert.ReferenceIdeal.Read.val_main_v57_eq, a0, a1, a2, a3, a4, a5, a6]
  exact (result_eq m c h0 h1 h2 h3 h4 h5).symm

end Cert.KernelIdeal.Attn
end
-- ==== Proof.FfnOut.lean ====
/-
  The feed-forward body's block, as one function of its input blocks.
-/
module

public import proofs.«01_k».proof.Proof.Gen.Kernel2Ideal.Frame
public import proofs.«01_k».proof.Proof.Gen.Kernel2Ideal.Value
public import Idealize.ShloMosaic.Lib.WritesUnit
public import Idealize.ShloMosaic.Lib.VecWindow
public import Idealize.ShloMosaic.Lib.Pointwise

@[expose] public section

noncomputable section

namespace Cert.Kernel2Ideal.Ffn

open Cert.Kernel2Ideal Cert.Kernel2Ideal.Gen
open Idealize.ShloMosaic Idealize.ShloMosaic.TcCoe
open Idealize.SL.Sem

variable {F : FTy → Type} [FloatOps F]

/-- Three pieces of rows, one below the other. -/
def pieced (w5 : Vec F S8x1024 .f32) (w6 : Vec F S512x1024 .f32) (w8 : Vec F S8x1024 .f32) : Vec F S528x1024 .f32 := fun y =>
  if h : (y 0).val < 8 then w5 (ix2 (n0 := 8) (n1 := 1024) ⟨(y 0).val, h⟩ ⟨(y 1).val, (y 1).isLt⟩)
  else if h : (y 0).val < 520 then w6 (ix2 (n0 := 512) (n1 := 1024) ⟨(y 0).val - 8, by omega⟩ ⟨(y 1).val, (y 1).isLt⟩)
  else w8 (ix2 (n0 := 8) (n1 := 1024) ⟨(y 0).val - 520, by have h : (y 0).val < 528 := (y 0).isLt; omega⟩ ⟨(y 1).val, (y 1).isLt⟩)

theorem pieced_mid (w5 : Vec F S8x1024 .f32) (w6 : Vec F S512x1024 .f32) (w8 : Vec F S8x1024 .f32) (y : S512x1024.Idx) :
    pieced w5 w6 w8 ((Rect.unit (s := S528x1024) ![8, 0] S512x1024.size inb_S528x1024_S512x1024_8_0).toLoadRect.idx y) = w6 y := by
  have h : (y 0).val < 512 := (y 0).isLt
  have e0 : (((Rect.unit (s := S528x1024) ![8, 0] S512x1024.size inb_S528x1024_S512x1024_8_0).toLoadRect.idx y) 0).val = 8 + (y 0).val :=
    congrArg (8 + ·) (Nat.one_mul _)
  have e1 : (((Rect.unit (s := S528x1024) ![8, 0] S512x1024.size inb_S528x1024_S512x1024_8_0).toLoadRect.idx y) 1).val = (y 1).val :=
    (Nat.zero_add _).trans (Nat.one_mul _)
  unfold pieced
  rw [dif_neg (by omega), dif_pos (by omega)]
  refine congrArg w6 (funext fun a => Fin.ext ?_)
  match a with
  | ⟨0, _⟩ => exact (congrArg (· - 8) e0).trans (Nat.add_sub_cancel_left ..)
  | ⟨1, _⟩ => exact e1

/-- A row of the convolution's weights. -/
def rowOf (r : Fin 3) (x : Vec F S3x2816 .f32) : Vec F S1x2816 .f32 := fun y => x (ix2 (n0 := 3) (n1 := 2816) r ⟨(y 1).val, (y 1).isLt⟩)

theorem xe_read (v : View sig .tc .vmem S528x1024 .f32) (f : v.ty.Contents (Elt F)) (w5 : Vec F S8x1024 .f32) (w6 : Vec F S512x1024 .f32) (w8 : Vec F S8x1024 .f32)
    (y : S528x1024.Idx) :
    v.read (Elt F) (v.writes (Elt F) f [⟨Rect.unit (s := S528x1024) ![520, 0] S8x1024.size inb_S528x1024_S8x1024_520_0, w8⟩,
        ⟨Rect.unit (s := S528x1024) ![8, 0] S512x1024.size inb_S528x1024_S512x1024_8_0, w6⟩,
        ⟨Rect.unit (s := S528x1024) ![0, 0] S8x1024.size inb_S528x1024_S8x1024_0_0, w5⟩]) y
      = pieced w5 w6 w8 y := by
  have h0 : (y 0).val < 528 := (y 0).isLt
  unfold pieced
  split
  · next h =>
    refine (View.read_writes_cons_rows_of_not_mem v f _ _ _ y rfl rfl (.inl (by omega))).trans
      ((View.read_writes_cons_rows_of_not_mem v f _ _ _ y rfl rfl (.inl (by omega))).trans ?_)
    exact View.read_writes_cons_rows_of_mem v f _ _ _ y (ix2 (n0 := 8) (n1 := 1024) ⟨(y 0).val, h⟩ ⟨(y 1).val, (y 1).isLt⟩) rfl (Nat.zero_add _).symm rfl
  · split
    · next h' h =>
      refine (View.read_writes_cons_rows_of_not_mem v f _ _ _ y rfl rfl (.inl (by omega))).trans ?_
      exact View.read_writes_cons_rows_of_mem v f _ _ _ y (ix2 (n0 := 512) (n1 := 1024) ⟨(y 0).val - 8, by omega⟩ ⟨(y 1).val, (y 1).isLt⟩) rfl
        (by show (y 0).val = 8 + ((y 0).val - 8); omega) rfl
    · next h' h =>
      exact View.read_writes_cons_rows_of_mem v f _ _ _ y (ix2 (n0 := 8) (n1 := 1024) ⟨(y 0).val - 520, by omega⟩ ⟨(y 1).val, (y 1).isLt⟩) rfl
        (by show (y 0).val = 520 + ((y 0).val - 520); omega) rfl

/-- The rows the block's matrix products read: the eight rows before it, its own rows and the eight after it, each scaled and shifted. -/
def xeB (b : BitVec 32) (x0 : Vec F S1x512x1024 .f32) (x1 x2 : Vec F S1x8x1024 .f32) (x3 x4 : Vec F S1x1x1024 .f32) : Vec F S528x1024 .f32 :=
  pieced (k0_pay5 b x3 x4 x1) (k0_pay6 x3 x4 x0) (k0_pay8 (Scalar.cmpi .slt b 15#32) (k0_pay7 x3 x4 x2) (FloatOps.ofBits .f32 0#32))

/-- The block's convolved half. -/
def ueB (b : BitVec 32) (x0 : Vec F S1x512x1024 .f32) (x1 x2 : Vec F S1x8x1024 .f32) (x3 x4 : Vec F S1x1x1024 .f32) (x6 : Vec F S1024x2816 .bf16) :
    Vec F S1x528x2816 .f32 := k0_pay10 (xeB b x0 x1 x2 x3 x4) x6

/-- The block after the second matrix product. -/
def accB (b : BitVec 32) (x0 : Vec F S1x512x1024 .f32) (x1 x2 : Vec F S1x8x1024 .f32) (x3 x4 : Vec F S1x1x1024 .f32) (x6 x7 : Vec F S1024x2816 .bf16)
    (x8 : Vec F S3x2816 .f32) (x9 : Vec F S1x2816 .f32) (x10 : Vec F S2816x1024 .bf16) : Vec F S512x1024 .f32 :=
  k0_pay1 (k0_pay11 (k0_pay6 x3 x4 x0) x7) (k0_pay12 (ueB b x0 x1 x2 x3 x4 x6)) (k0_pay13 (ueB b x0 x1 x2 x3 x4 x6) x9 (rowOf 1 x8))
    (k0_pay14 (ueB b x0 x1 x2 x3 x4 x6)) (k0_pay15 (rowOf 0 x8)) (rowOf 2 x8) k0_pay9 x10

theorem out_eq (c : Dev nD) (i : grid0.Coords) (arg3 : Memref sig .tc .vmem S1x512x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1024x2816 .bf16) (harg9 : arg9.IsWhole) (arg10 : Memref sig .tc .vmem S1024x2816 .bf16) (harg10 : arg10.IsWhole) (arg11 : Memref sig .tc .vmem S3x2816 .f32) (harg11 : arg11.IsWhole) (arg12 : Memref sig .tc .vmem S1x2816 .f32) (harg12 : arg12.IsWhole) (arg13 : Memref sig .tc .vmem S2816x1024 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x512x1024 .f32) (harg16 : arg16.IsWhole) (arg17 : Memref sig .tc .vmem S528x1024 .f32) (harg17 : arg17.IsWhole) (arg18 : Memref sig .tc .vmem S1x528x2816 .f32) (harg18 : arg18.IsWhole) (arg19 : Memref sig .tc .vmem S512x1024 .f32) (harg19 : arg19.IsWhole) (hc0 : cond0_0 i) (hc1 : cond0_1 i)
    (x0 : Vec F S1x512x1024 .f32) (x1 : Vec F S1x8x1024 .f32) (x2 : Vec F S1x8x1024 .f32) (x3 : Vec F S1x1x1024 .f32) (x4 : Vec F S1x1x1024 .f32) (x5 : Vec F S1x1x1024 .f32) (x6 : Vec F S1024x2816 .bf16) (x7 : Vec F S1024x2816 .bf16) (x8 : Vec F S3x2816 .f32) (x9 : Vec F S1x2816 .f32) (x10 : Vec F S2816x1024 .bf16) (x11 : Vec F S1x1024 .f32) (x12 : Vec F S1x1024 .f32) :
    out0_A_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 = k0_pay2 x0 x5 (accB (BitVec.ofNat 32 (i 1).val) x0 x1 x2 x3 x4 x6 x7 x8 x9 x10) x11 x12 := by
  unfold out0_A_13 kernelRun0_A
  dsimp only
  sl_unfold_words
  have e3 : arg3.view.readAt (Elt F) (Rect.unit (s := S1x512x1024) ![0, 0, 0] S1x512x1024.size inb_S1x512x1024_S1x512x1024_0_0_0).toLoadRect (harg3.unread x0) = x0 := (View.readAt_full ..).trans (harg3.read_unread x0)
  have e4 : arg4.view.readAt (Elt F) (Rect.unit (s := S1x8x1024) ![0, 0, 0] S1x8x1024.size inb_S1x8x1024_S1x8x1024_0_0_0).toLoadRect (harg4.unread x1) = x1 := (View.readAt_full ..).trans (harg4.read_unread x1)
  have e5 : arg5.view.readAt (Elt F) (Rect.unit (s := S1x8x1024) ![0, 0, 0] S1x8x1024.size inb_S1x8x1024_S1x8x1024_0_0_0).toLoadRect (harg5.unread x2) = x2 := (View.readAt_full ..).trans (harg5.read_unread x2)
  have e6 : arg6.view.readAt (Elt F) (Rect.unit (s := S1x1x1024) ![0, 0, 0] S1x1x1024.size inb_S1x1x1024_S1x1x1024_0_0_0).toLoadRect (harg6.unread x3) = x3 := (View.readAt_full ..).trans (harg6.read_unread x3)
  have e7 : arg7.view.readAt (Elt F) (Rect.unit (s := S1x1x1024) ![0, 0, 0] S1x1x1024.size inb_S1x1x1024_S1x1x1024_0_0_0).toLoadRect (harg7.unread x4) = x4 := (View.readAt_full ..).trans (harg7.read_unread x4)
  have e8 : arg8.view.readAt (Elt F) (Rect.unit (s := S1x1x1024) ![0, 0, 0] S1x1x1024.size inb_S1x1x1024_S1x1x1024_0_0_0).toLoadRect (harg8.unread x5) = x5 := (View.readAt_full ..).trans (harg8.read_unread x5)
  have e9 : arg9.view.readAt (Elt F) (Rect.unit (s := S1024x2816) ![0, 0] S1024x2816.size inb_S1024x2816_S1024x2816_0_0).toLoadRect (harg9.unread x6) = x6 := (View.readAt_full ..).trans (harg9.read_unread x6)
  have e10 : arg10.view.readAt (Elt F) (Rect.unit (s := S1024x2816) ![0, 0] S1024x2816.size inb_S1024x2816_S1024x2816_0_0).toLoadRect (harg10.unread x7) = x7 := (View.readAt_full ..).trans (harg10.read_unread x7)
  have e12 : arg12.view.readAt (Elt F) (Rect.unit (s := S1x2816) ![0, 0] S1x2816.size inb_S1x2816_S1x2816_0_0).toLoadRect (harg12.unread x9) = x9 := (View.readAt_full ..).trans (harg12.read_unread x9)
  have e13 : arg13.view.readAt (Elt F) (Rect.unit (s := S2816x1024) ![0, 0] S2816x1024.size inb_S2816x1024_S2816x1024_0_0).toLoadRect (harg13.unread x10) = x10 := (View.readAt_full ..).trans (harg13.read_unread x10)
  have e14 : arg14.view.readAt (Elt F) (Rect.unit (s := S1x1024) ![0, 0] S1x1024.size inb_S1x1024_S1x1024_0_0).toLoadRect (harg14.unread x11) = x11 := (View.readAt_full ..).trans (harg14.read_unread x11)
  have e15 : arg15.view.readAt (Elt F) (Rect.unit (s := S1x1024) ![0, 0] S1x1024.size inb_S1x1024_S1x1024_0_0).toLoadRect (harg15.unread x12) = x12 := (View.readAt_full ..).trans (harg15.read_unread x12)
  have e11_0 : arg11.view.readAt (Elt F) (Rect.unit (s := S3x2816) ![0, 0] S1x2816.size inb_S3x2816_S1x2816_0_0).toLoadRect (harg11.unread x8) = rowOf 0 x8 := by
    funext y
    refine (congrFun (harg11.read_unread x8) _).trans (congrArg x8 (funext fun a => Fin.ext ?_))
    match a with
    | ⟨0, _⟩ => show 0 + 1 * (y 0).val = 0; have h : (y 0).val < 1 := (y 0).isLt; omega
    | ⟨1, _⟩ => show 0 + 1 * (y 1).val = (y 1).val; omega
  have e11_1 : arg11.view.readAt (Elt F) (Rect.unit (s := S3x2816) ![1, 0] S1x2816.size inb_S3x2816_S1x2816_1_0).toLoadRect (harg11.unread x8) = rowOf 1 x8 := by
    funext y
    refine (congrFun (harg11.read_unread x8) _).trans (congrArg x8 (funext fun a => Fin.ext ?_))
    match a with
    | ⟨0, _⟩ => show 1 + 1 * (y 0).val = 1; have h : (y 0).val < 1 := (y 0).isLt; omega
    | ⟨1, _⟩ => show 0 + 1 * (y 1).val = (y 1).val; omega
  have e11_2 : arg11.view.readAt (Elt F) (Rect.unit (s := S3x2816) ![2, 0] S1x2816.size inb_S3x2816_S1x2816_2_0).toLoadRect (harg11.unread x8) = rowOf 2 x8 := by
    funext y
    refine (congrFun (harg11.read_unread x8) _).trans (congrArg x8 (funext fun a => Fin.ext ?_))
    match a with
    | ⟨0, _⟩ => show 2 + 1 * (y 0).val = 2; have h : (y 0).val < 1 := (y 0).isLt; omega
    | ⟨1, _⟩ => show 0 + 1 * (y 1).val = (y 1).val; omega
  have s18 : ∀ w : Vec F S1x528x2816 .f32, arg18.view.readCov [⟨Rect.unit (s := S1x528x2816) ![0, 0, 0] S1x528x2816.size inb_S1x528x2816_S1x528x2816_0_0_0, w⟩]
      (Rect.unit (s := S1x528x2816) ![0, 0, 0] S1x528x2816.size inb_S1x528x2816_S1x528x2816_0_0_0).toLoadRect = w := fun w => View.readCov_full ..
  have s19 : ∀ (w : Vec F S512x1024 .f32) (L : List (View.Piece (Elt F) S512x1024 .f32)),
      arg19.view.readCov (⟨Rect.unit (s := S512x1024) ![0, 0] S512x1024.size inb_S512x1024_S512x1024_0_0, w⟩ :: L)
      (Rect.unit (s := S512x1024) ![0, 0] S512x1024.size inb_S512x1024_S512x1024_0_0).toLoadRect = w := fun w L => View.readCov_full ..
  have s17 : ∀ (w5 : Vec F S8x1024 .f32) (w6 : Vec F S512x1024 .f32) (w8 : Vec F S8x1024 .f32),
      arg17.view.readCov [⟨Rect.unit (s := S528x1024) ![520, 0] S8x1024.size inb_S528x1024_S8x1024_520_0, w8⟩,
        ⟨Rect.unit (s := S528x1024) ![8, 0] S512x1024.size inb_S528x1024_S512x1024_8_0, w6⟩,
        ⟨Rect.unit (s := S528x1024) ![0, 0] S8x1024.size inb_S528x1024_S8x1024_0_0, w5⟩]
        (Rect.unit (s := S528x1024) ![0, 0] S528x1024.size inb_S528x1024_S528x1024_0_0).toLoadRect = pieced w5 w6 w8 :=
    fun w5 w6 w8 => (View.readAt_full ..).trans (funext fun y => xe_read _ _ w5 w6 w8 y)
  have s17' : ∀ (w5 : Vec F S8x1024 .f32) (w6 : Vec F S512x1024 .f32) (w8 : Vec F S8x1024 .f32),
      arg17.view.readCov [⟨Rect.unit (s := S528x1024) ![520, 0] S8x1024.size inb_S528x1024_S8x1024_520_0, w8⟩,
        ⟨Rect.unit (s := S528x1024) ![8, 0] S512x1024.size inb_S528x1024_S512x1024_8_0, w6⟩,
        ⟨Rect.unit (s := S528x1024) ![0, 0] S8x1024.size inb_S528x1024_S8x1024_0_0, w5⟩]
        (Rect.unit (s := S528x1024) ![8, 0] S512x1024.size inb_S528x1024_S512x1024_8_0).toLoadRect = w6 :=
    fun w5 w6 w8 => funext fun y => (xe_read arg17.view arg17.view.junk w5 w6 w8 _).trans (pieced_mid w5 w6 w8 y)
  simp only [e3, e4, e5, e6, e7, e8, e9, e10, e11_0, e11_1, e11_2, e12, e13, e14, e15, s17, s17', s18, s19]
  exact (View.read_writes_full ..).trans rfl

end Cert.Kernel2Ideal.Ffn
end
-- ==== Proof.FfnSpec.lean ====
/-
  What the feed-forward part computes for one row, over the extended reals: the activation, and the norm of the row's sum with what
  came in. Both the kernel and the reference are read as these expressions.
-/
module

public import Idealize.ShloMosaic.Lib.Pointwise

@[expose] public section

noncomputable section

namespace Cert.Ffn

open Idealize.ShloMosaic

/-- The activation: half the argument times one plus the error function of the argument over the square root of two. -/
def gelu (u : EReal) : EReal :=
  Ideal.ofBits .f32 0x3F000000#32 * u * (Ideal.ofBits .f32 0x3F800000#32 + Ideal.erf (u * Ideal.ofBits .f32 0x3F3504F3#32))

/-- A row's entry with what the feed-forward part adds to it. -/
def joined (x g y : EReal) : EReal := Ideal.ofBits .f32 0x3FB504F3#32 * x + g * y

/-- The mean of a row. -/
def mean (z : Fin 1024 → EReal) : EReal := Ideal.div (∑ k : Fin 1024, z k) (Ideal.ofBits .f32 0x44800000#32)

/-- A row, its mean taken away, over its deviation, scaled and shifted. -/
def lnorm (z : Fin 1024 → EReal) (w b : EReal) (d : Fin 1024) : EReal :=
  (z d - mean z) * Ideal.rsqrt (mean (fun k => (z k - mean z) * (z k - mean z)) + Ideal.ofBits .f32 0x3727C5AC#32) * w + b

end Cert.Ffn
end
-- ==== Proof.FfnElem.lean ====
/-
  The feed-forward body's block read at an index.
-/
module

public import proofs.«01_k».proof.Proof.FfnOut
public import proofs.«01_k».proof.Proof.FfnSpec

@[expose] public section

noncomputable section

namespace Cert.Kernel2Ideal.Ffn

open Cert.Ffn
open Cert.Kernel2Ideal Cert.Kernel2Ideal.Gen
open Idealize.ShloMosaic Idealize.ShloMosaic.TcCoe

theorem pay6_apply (x3 x4 : Vec Ideal S1x1x1024 .f32) (x0 : Vec Ideal S1x512x1024 .f32) (r : Fin 512) (d : Fin 1024) :
    k0_pay6 x3 x4 x0 (ix2 r d) = x0 (ix3 0 r d) * (Ideal.ofBits .f32 0x3F800000#32 + x3 (ix3 0 0 d)) + x4 (ix3 0 0 d) := by
  pointwise [k0_pay6, k0_pay3, k0_pay4]

theorem pay5_apply (b : BitVec 32) (x3 x4 : Vec Ideal S1x1x1024 .f32) (x1 : Vec Ideal S1x8x1024 .f32) (r : Fin 8) (d : Fin 1024) :
    k0_pay5 b x3 x4 x1 (ix2 r d) = if Scalar.cmpi .sgt b 0#32 = 1#1 then
      x1 (ix3 0 r d) * (Ideal.ofBits .f32 0x3F800000#32 + x3 (ix3 0 0 d)) + x4 (ix3 0 0 d) else 0 := by
  pointwise [k0_pay5, k0_pay3, k0_pay4]
  rfl

theorem pay7_apply (x3 x4 : Vec Ideal S1x1x1024 .f32) (x2 : Vec Ideal S1x8x1024 .f32) (r : Fin 8) (d : Fin 1024) :
    k0_pay7 x3 x4 x2 (ix2 r d) = x2 (ix3 0 r d) * (Ideal.ofBits .f32 0x3F800000#32 + x3 (ix3 0 0 d)) + x4 (ix3 0 0 d) := by
  pointwise [k0_pay7, k0_pay3, k0_pay4]

theorem pay8_apply (b : BitVec 1) (y : FVec Ideal S8x1024 .f32) (z : Ideal .f32) (r : Fin 8) (d : Fin 1024) :
    k0_pay8 b y z (ix2 r d) = if b = 1#1 then y (ix2 r d) else z := by
  pointwise [k0_pay8]
  rfl

theorem pay10_apply (xe : Vec Ideal S528x1024 .f32) (w : Vec Ideal S1024x2816 .bf16) (e : Fin 528) (j : Fin 2816) :
    k0_pay10 xe w (ix3 0 e j) = ∑ d : Fin 1024, xe (ix2 e d) * w (ix2 d j) := by
  pointwise [k0_pay10]

theorem pay11_apply (x : Vec Ideal S512x1024 .f32) (w : Vec Ideal S1024x2816 .bf16) (r : Fin 512) (j : Fin 2816) :
    k0_pay11 x w (ix2 r j) = ∑ d : Fin 1024, x (ix2 r d) * w (ix2 d j) := by
  pointwise [k0_pay11]

theorem pay13_apply (u : Vec Ideal S1x528x2816 .f32) (cb w : Vec Ideal S1x2816 .f32) (r : Fin 512) (j : Fin 2816) :
    k0_pay13 u cb w (ix2 r j) = cb (ix2 0 j) + u (ix3 0 ⟨8 + r.val, by omega⟩ j) * w (ix2 0 j) := by
  pointwise [k0_pay13, k0_pay12]

theorem pay14_apply (u : Vec Ideal S1x528x2816 .f32) (r : Fin 512) (j : Fin 2816) :
    k0_pay14 u (ix2 r j) = u (ix3 0 ⟨7 + r.val, by omega⟩ j) := by
  have h : k0_pay14 u (ix2 r j) = u (ix3 0 ⟨(8 + r.val + 528 - 1) % 528, Nat.mod_lt _ (by decide)⟩ j) := by
    pointwise [k0_pay14, k0_pay12]
  rw [h]
  exact congrArg (fun e => u (ix3 0 e j)) (Fin.ext (by show (8 + r.val + 528 - 1) % 528 = 7 + r.val; omega))

theorem pay15_apply (w : Vec Ideal S1x2816 .f32) (r : Fin 512) (j : Fin 2816) : k0_pay15 w (ix2 r j) = w (ix2 0 j) := by
  pointwise [k0_pay15]

theorem pay12_apply (u : Vec Ideal S1x528x2816 .f32) (e : Fin 528) (j : Fin 2816) : k0_pay12 u (ix2 e j) = u (ix3 0 e j) := by
  pointwise [k0_pay12]

theorem pay1_apply (v : FVec Ideal S512x2816 .f32) (u : FVec Ideal S528x2816 .f32) (p q w0 : FVec Ideal S512x2816 .f32) (w2 : Vec Ideal S1x2816 .f32)
    (a : Vec Ideal S512x1024 .f32) (wd : Vec Ideal S2816x1024 .bf16) (r : Fin 512) (d : Fin 1024) :
    k0_pay1 v u p q w0 w2 a wd (ix2 r d) = a (ix2 r d) + ∑ j : Fin 2816,
      gelu ((p (ix2 r j) + q (ix2 r j) * w0 (ix2 r j)) + u (ix2 ⟨9 + r.val, by omega⟩ j) * w2 (ix2 0 j)) * v (ix2 r j) * wd (ix2 j d) := by
  have e9 : (⟨(8 + r.val + 528 - 527) % 528, Nat.mod_lt _ (by decide)⟩ : Fin 528) = ⟨9 + r.val, by omega⟩ :=
    Fin.ext (by show (8 + r.val + 528 - 527) % 528 = 9 + r.val; omega)
  rw [← e9]
  pointwise [k0_pay1, gelu]
  rfl

theorem pay2_apply (x : Vec Ideal S1x512x1024 .f32) (g : Vec Ideal S1x1x1024 .f32) (y : Vec Ideal S512x1024 .f32) (w b : Vec Ideal S1x1024 .f32)
    (r : Fin 512) (d : Fin 1024) :
    k0_pay2 x g y w b (ix3 0 r d)
      = lnorm (fun k => joined (x (ix3 0 r k)) (g (ix3 0 0 k)) (y (ix2 r k))) (w (ix2 0 d)) (b (ix2 0 d)) d := by
  pointwise [k0_pay2, lnorm, joined, mean]

end Cert.Kernel2Ideal.Ffn
end
-- ==== Proof.FfnBlocks.lean ====
/-
  The feed-forward call from its grid's points to whole arrays: which part of its array each window's block is, and the result array
  the run ends with, block by block.
-/
module

public import proofs.«01_k».proof.Proof.FfnElem

@[expose] public section

noncomputable section

namespace Cert.Kernel2Ideal.Ffn

open Cert.Kernel2Ideal Cert.Kernel2Ideal.Gen
open Idealize.ShloMosaic Idealize.ShloMosaic.TcCoe Idealize.ShloMosaic.Tactic
open Idealize.SL.Sem

variable (m : (ℓ : Loc nD τ sig) → Buf (Elt Ideal) ℓ)

/-- The grid point of a batch element and a block of rows. -/
def point (b : Fin 8) (i : Fin 16) : Fin cfg0.N := ⟨b.val * 16 + i.val, by show _ < grid0.N; rw [N_0]; omega⟩

theorem coords1 : ∀ (b : Fin 8) (i : Fin 16), ((grid0.coords (point b i)) 1).val = i.val := by decide +kernel

theorem idx0 : ∀ (b : Fin 8) (i : Fin 16), win0_0.index (point b i) (0 : Fin 3) = b.val ∧ win0_0.index (point b i) (1 : Fin 3) = i.val
    ∧ win0_0.index (point b i) (2 : Fin 3) = 0 := by decide +kernel
theorem idx1 : ∀ (b : Fin 8) (i : Fin 16), win0_1.index (point b i) (0 : Fin 3) = b.val ∧ win0_1.index (point b i) (1 : Fin 3) = 64 * i.val - 1
    ∧ win0_1.index (point b i) (2 : Fin 3) = 0 := by decide +kernel
theorem idx2 : ∀ (b : Fin 8) (i : Fin 16), win0_2.index (point b i) (0 : Fin 3) = b.val ∧ win0_2.index (point b i) (1 : Fin 3) = min (64 * (i.val + 1)) 1023
    ∧ win0_2.index (point b i) (2 : Fin 3) = 0 := by decide +kernel
theorem idx3 : ∀ (b : Fin 8) (i : Fin 16), win0_3.index (point b i) (0 : Fin 3) = b.val ∧ win0_3.index (point b i) (1 : Fin 3) = 0
    ∧ win0_3.index (point b i) (2 : Fin 3) = 0 := by decide +kernel
theorem idx4 : ∀ (b : Fin 8) (i : Fin 16), win0_4.index (point b i) (0 : Fin 3) = b.val ∧ win0_4.index (point b i) (1 : Fin 3) = 0
    ∧ win0_4.index (point b i) (2 : Fin 3) = 0 := by decide +kernel
theorem idx5 : ∀ (b : Fin 8) (i : Fin 16), win0_5.index (point b i) (0 : Fin 3) = b.val ∧ win0_5.index (point b i) (1 : Fin 3) = 0
    ∧ win0_5.index (point b i) (2 : Fin 3) = 0 := by decide +kernel
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 2) = 0 ∧ win0_7.index t (1 : Fin 2) = 1 := (by decide +kernel : ∀ t : Fin grid0.N, _)
theorem idx8 : ∀ t : Fin cfg0.N, win0_8.index t (0 : Fin 2) = 0 ∧ win0_8.index t (1 : Fin 2) = 0 := (by decide +kernel : ∀ t : Fin grid0.N, _)
theorem idx9 : ∀ t : Fin cfg0.N, win0_9.index t (0 : Fin 2) = 0 ∧ win0_9.index t (1 : Fin 2) = 0 := (by decide +kernel : ∀ t : Fin grid0.N, _)
theorem idx10 : ∀ t : Fin cfg0.N, win0_10.index t (0 : Fin 2) = 0 ∧ win0_10.index t (1 : Fin 2) = 0 := (by decide +kernel : ∀ t : Fin grid0.N, _)
theorem idx11 : ∀ t : Fin cfg0.N, win0_11.index t (0 : Fin 2) = 0 ∧ win0_11.index t (1 : Fin 2) = 0 := (by decide +kernel : ∀ t : Fin grid0.N, _)
theorem idx12 : ∀ t : Fin cfg0.N, win0_12.index t (0 : Fin 2) = 0 ∧ win0_12.index t (1 : Fin 2) = 0 := (by decide +kernel : ∀ t : Fin grid0.N, _)
theorem idx13 : ∀ t : Fin cfg0.N, win0_13.index t (0 : Fin 3) = t.val / 16 ∧ win0_13.index t (1 : Fin 3) = t.val % 16
    ∧ win0_13.index t (2 : Fin 3) = 0 := (by decide +kernel : ∀ t : Fin grid0.N, _)
theorem xsize13 : ∀ t : Fin cfg0.N, win0_13.xsize (grid0.coords t) (0 : Fin 3) = 1 ∧ win0_13.xsize (grid0.coords t) (1 : Fin 3) = 512
    ∧ win0_13.xsize (grid0.coords t) (2 : Fin 3) = 1024 := (by decide +kernel : ∀ t : Fin grid0.N, _)

/-! An input block at an index is its array at the block's corner plus the index. -/

theorem iblk0_at (c : Dev nD) (b : Fin 8) (i : Fin 16) (r : Fin 512) (d : Fin 1024) :
    iblk m c 0 (point b i) (ix3 (n0 := 1) (n1 := 512) (n2 := 1024) 0 r d)
      = m ((c : Thread nD τ).loc main_arg0) (ix3 (n0 := 8) (n1 := 8192) (n2 := 1024) b ⟨512 * i.val + r.val, by omega⟩ d) := by
  obtain ⟨e0, e1, e2⟩ := idx0 b i
  refine Eq.trans ?_ (congrFun (V_main_arg0 m c) _)
  refine congrArg (V m c main_arg0) (funext fun a => Fin.ext ?_)
  match a with
  | ⟨0, _⟩ => show win0_0.index (point b i) (0 : Fin 3) * 1 + 1 * 0 = b.val; omega
  | ⟨1, _⟩ => show win0_0.index (point b i) (1 : Fin 3) * 512 + 1 * r.val = 512 * i.val + r.val; omega
  | ⟨2, _⟩ => show win0_0.index (point b i) (2 : Fin 3) * 1024 + 1 * d.val = d.val; omega

theorem iblk1_at (c : Dev nD) (b : Fin 8) (i : Fin 16) (r : Fin 8) (d : Fin 1024) :
    iblk m c 1 (point b i) (ix3 (n0 := 1) (n1 := 8) (n2 := 1024) 0 r d)
      = m ((c : Thread nD τ).loc main_arg0) (ix3 (n0 := 8) (n1 := 8192) (n2 := 1024) b ⟨(64 * i.val - 1) * 8 + r.val, by omega⟩ d) := by
  obtain ⟨e0, e1, e2⟩ := idx1 b i
  refine Eq.trans ?_ (congrFun (V_main_arg0 m c) _)
  refine congrArg (V m c main_arg0) (funext fun a => Fin.ext ?_)
  match a with
  | ⟨0, _⟩ => show win0_1.index (point b i) (0 : Fin 3) * 1 + 1 * 0 = b.val; omega
  | ⟨1, _⟩ => show win0_1.index (point b i) (1 : Fin 3) * 8 + 1 * r.val = (64 * i.val - 1) * 8 + r.val; omega
  | ⟨2, _⟩ => show win0_1.index (point b i) (2 : Fin 3) * 1024 + 1 * d.val = d.val; omega

theorem iblk2_at (c : Dev nD) (b : Fin 8) (i : Fin 16) (r : Fin 8) (d : Fin 1024) :
    iblk m c 2 (point b i) (ix3 (n0 := 1) (n1 := 8) (n2 := 1024) 0 r d)
      = m ((c : Thread nD τ).loc main_arg0) (ix3 (n0 := 8) (n1 := 8192) (n2 := 1024) b ⟨min (64 * (i.val + 1)) 1023 * 8 + r.val, by omega⟩ d) := by
  obtain ⟨e0, e1, e2⟩ := idx2 b i
  refine Eq.trans ?_ (congrFun (V_main_arg0 m c) _)
  refine congrArg (V m c main_arg0) (funext fun a => Fin.ext ?_)
  match a with
  | ⟨0, _⟩ => show win0_2.index (point b i) (0 : Fin 3) * 1 + 1 * 0 = b.val; omega
  | ⟨1, _⟩ => show win0_2.index (point b i) (1 : Fin 3) * 8 + 1 * r.val = min (64 * (i.val + 1)) 1023 * 8 + r.val; omega
  | ⟨2, _⟩ => show win0_2.index (point b i) (2 : Fin 3) * 1024 + 1 * d.val = d.val; omega

theorem iblk3_at (c : Dev nD) (b : Fin 8) (i : Fin 16) (d : Fin 1024) :
    iblk m c 3 (point b i) (ix3 (n0 := 1) (n1 := 1) (n2 := 1024) 0 0 d)
      = m ((c : Thread nD τ).loc main_arg2) (ix3 (n0 := 8) (n1 := 1) (n2 := 1024) b 0 d) := by
  obtain ⟨e0, e1, e2⟩ := idx3 b i
  refine Eq.trans ?_ (congrFun (V_main_arg2 m c) _)
  refine congrArg (V m c main_arg2) (funext fun a => Fin.ext ?_)
  match a with
  | ⟨0, _⟩ => show win0_3.index (point b i) (0 : Fin 3) * 1 + 1 * 0 = b.val; omega
  | ⟨1, _⟩ => show win0_3.index (point b i) (1 : Fin 3) * 1 + 1 * 0 = 0; omega
  | ⟨2, _⟩ => show win0_3.index (point b i) (2 : Fin 3) * 1024 + 1 * d.val = d.val; omega

theorem iblk4_at (c : Dev nD) (b : Fin 8) (i : Fin 16) (d : Fin 1024) :
    iblk m c 4 (point b i) (ix3 (n0 := 1) (n1 := 1) (n2 := 1024) 0 0 d)
      = m ((c : Thread nD τ).loc main_arg1) (ix3 (n0 := 8) (n1 := 1) (n2 := 1024) b 0 d) := by
  obtain ⟨e0, e1, e2⟩ := idx4 b i
  refine Eq.trans ?_ (congrFun (V_main_arg1 m c) _)
  refine congrArg (V m c main_arg1) (funext fun a => Fin.ext ?_)
  match a with
  | ⟨0, _⟩ => show win0_4.index (point b i) (0 : Fin 3) * 1 + 1 * 0 = b.val; omega
  | ⟨1, _⟩ => show win0_4.index (point b i) (1 : Fin 3) * 1 + 1 * 0 = 0; omega
  | ⟨2, _⟩ => show win0_4.index (point b i) (2 : Fin 3) * 1024 + 1 * d.val = d.val; omega

theorem iblk5_at (c : Dev nD) (b : Fin 8) (i : Fin 16) (d : Fin 1024) :
    iblk m c 5 (point b i) (ix3 (n0 := 1) (n1 := 1) (n2 := 1024) 0 0 d)
      = m ((c : Thread nD τ).loc main_arg3) (ix3 (n0 := 8) (n1 := 1) (n2 := 1024) b 0 d) := by
  obtain ⟨e0, e1, e2⟩ := idx5 b i
  refine Eq.trans ?_ (congrFun (V_main_arg3 m c) _)
  refine congrArg (V m c main_arg3) (funext fun a => Fin.ext ?_)
  match a with
  | ⟨0, _⟩ => show win0_5.index (point b i) (0 : Fin 3) * 1 + 1 * 0 = b.val; omega
  | ⟨1, _⟩ => show win0_5.index (point b i) (1 : Fin 3) * 1 + 1 * 0 = 0; omega
  | ⟨2, _⟩ => show win0_5.index (point b i) (2 : Fin 3) * 1024 + 1 * d.val = d.val; omega

theorem V_v0 (c : Dev nD) : (V m c main_v0 : S1024x5632.Idx → EReal) = m ((c : Thread nD τ).loc main_arg4) := by
  dsimp only [V, hostOps0]; after_results; rfl
theorem V_v1 (c : Dev nD) : (V m c main_v1 : S2816x1024.Idx → EReal) = m ((c : Thread nD τ).loc main_arg7) := by
  dsimp only [V, hostOps0]; after_results; rfl
set_option maxRecDepth 16384 in
theorem V_v2 (c : Dev nD) (j : Fin 2816) :
    V m c main_v2 (ix2 (n0 := 1) (n1 := 2816) 0 j) = m ((c : Thread nD τ).loc main_arg6) (ix1 (n0 := 2816) j) := by
  have h : V m c main_v2 = shapeCast S1x2816 (m ((c : Thread nD τ).loc main_arg6)) shapeCasts_S2816_S1x2816 := by
    dsimp only [V, hostOps0]; after_results; rfl
  rw [h]
  generalize m ((c : Thread nD τ).loc main_arg6) = x
  pointwise
set_option maxRecDepth 16384 in
theorem V_v3 (c : Dev nD) (j : Fin 1024) :
    V m c main_v3 (ix2 (n0 := 1) (n1 := 1024) 0 j) = m ((c : Thread nD τ).loc main_arg8) (ix1 (n0 := 1024) j) := by
  have h : V m c main_v3 = shapeCast S1x1024 (m ((c : Thread nD τ).loc main_arg8)) shapeCasts_S1024_S1x1024 := by
    dsimp only [V, hostOps0]; after_results; rfl
  rw [h]
  generalize m ((c : Thread nD τ).loc main_arg8) = x
  pointwise
set_option maxRecDepth 16384 in
theorem V_v4 (c : Dev nD) (j : Fin 1024) :
    V m c main_v4 (ix2 (n0 := 1) (n1 := 1024) 0 j) = m ((c : Thread nD τ).loc main_arg9) (ix1 (n0 := 1024) j) := by
  have h : V m c main_v4 = shapeCast S1x1024 (m ((c : Thread nD τ).loc main_arg9)) shapeCasts_S1024_S1x1024 := by
    dsimp only [V, hostOps0]; after_results; rfl
  rw [h]
  generalize m ((c : Thread nD τ).loc main_arg9) = x
  pointwise

theorem iblk6_at (c : Dev nD) (t : Fin cfg0.N) (r : Fin 1024) (j : Fin 2816) :
    iblk m c 6 t (ix2 (n0 := 1024) (n1 := 2816) r j) = m ((c : Thread nD τ).loc main_arg4) (ix2 (n0 := 1024) (n1 := 5632) r ⟨j.val, by omega⟩) := by
  obtain ⟨e0, e1⟩ := idx6 t
  refine Eq.trans ?_ (congrFun (V_v0 m c) _)
  refine congrArg (V m c main_v0) (funext fun a => Fin.ext ?_)
  match a with
  | ⟨0, _⟩ => show win0_6.index t (0 : Fin 2) * 1024 + 1 * r.val = r.val; omega
  | ⟨1, _⟩ => show win0_6.index t (1 : Fin 2) * 2816 + 1 * j.val = j.val; omega

theorem iblk7_at (c : Dev nD) (t : Fin cfg0.N) (r : Fin 1024) (j : Fin 2816) :
    iblk m c 7 t (ix2 (n0 := 1024) (n1 := 2816) r j) = m ((c : Thread nD τ).loc main_arg4) (ix2 (n0 := 1024) (n1 := 5632) r ⟨2816 + j.val, by omega⟩) := by
  obtain ⟨e0, e1⟩ := idx7 t
  refine Eq.trans ?_ (congrFun (V_v0 m c) _)
  refine congrArg (V m c main_v0) (funext fun a => Fin.ext ?_)
  match a with
  | ⟨0, _⟩ => show win0_7.index t (0 : Fin 2) * 1024 + 1 * r.val = r.val; omega
  | ⟨1, _⟩ => show win0_7.index t (1 : Fin 2) * 2816 + 1 * j.val = 2816 + j.val; omega

theorem iblk8_at (c : Dev nD) (t : Fin cfg0.N) (r : Fin 3) (j : Fin 2816) :
    iblk m c 8 t (ix2 (n0 := 3) (n1 := 2816) r j) = m ((c : Thread nD τ).loc main_arg5) (ix2 (n0 := 3) (n1 := 2816) r j) := by
  obtain ⟨e0, e1⟩ := idx8 t
  refine Eq.trans ?_ (congrFun (V_main_arg5 m c) _)
  refine congrArg (V m c main_arg5) (funext fun a => Fin.ext ?_)
  match a with
  | ⟨0, _⟩ => show win0_8.index t (0 : Fin 2) * 3 + 1 * r.val = r.val; omega
  | ⟨1, _⟩ => show win0_8.index t (1 : Fin 2) * 2816 + 1 * j.val = j.val; omega

theorem iblk9_at (c : Dev nD) (t : Fin cfg0.N) (j : Fin 2816) :
    iblk m c 9 t (ix2 (n0 := 1) (n1 := 2816) 0 j) = m ((c : Thread nD τ).loc main_arg6) (ix1 (n0 := 2816) j) := by
  obtain ⟨e0, e1⟩ := idx9 t
  refine Eq.trans ?_ (V_v2 m c j)
  refine congrArg (V m c main_v2) (funext fun a => Fin.ext ?_)
  match a with
  | ⟨0, _⟩ => show win0_9.index t (0 : Fin 2) * 1 + 1 * 0 = 0; omega
  | ⟨1, _⟩ => show win0_9.index t (1 : Fin 2) * 2816 + 1 * j.val = j.val; omega

theorem iblk10_at (c : Dev nD) (t : Fin cfg0.N) (r : Fin 2816) (j : Fin 1024) :
    iblk m c 10 t (ix2 (n0 := 2816) (n1 := 1024) r j) = m ((c : Thread nD τ).loc main_arg7) (ix2 (n0 := 2816) (n1 := 1024) r j) := by
  obtain ⟨e0, e1⟩ := idx10 t
  refine Eq.trans ?_ (congrFun (V_v1 m c) _)
  refine congrArg (V m c main_v1) (funext fun a => Fin.ext ?_)
  match a with
  | ⟨0, _⟩ => show win0_10.index t (0 : Fin 2) * 2816 + 1 * r.val = r.val; omega
  | ⟨1, _⟩ => show win0_10.index t (1 : Fin 2) * 1024 + 1 * j.val = j.val; omega

theorem iblk11_at (c : Dev nD) (t : Fin cfg0.N) (j : Fin 1024) :
    iblk m c 11 t (ix2 (n0 := 1) (n1 := 1024) 0 j) = m ((c : Thread nD τ).loc main_arg8) (ix1 (n0 := 1024) j) := by
  obtain ⟨e0, e1⟩ := idx11 t
  refine Eq.trans ?_ (V_v3 m c j)
  refine congrArg (V m c main_v3) (funext fun a => Fin.ext ?_)
  match a with
  | ⟨0, _⟩ => show win0_11.index t (0 : Fin 2) * 1 + 1 * 0 = 0; omega
  | ⟨1, _⟩ => show win0_11.index t (1 : Fin 2) * 1024 + 1 * j.val = j.val; omega

theorem iblk12_at (c : Dev nD) (t : Fin cfg0.N) (j : Fin 1024) :
    iblk m c 12 t (ix2 (n0 := 1) (n1 := 1024) 0 j) = m ((c : Thread nD τ).loc main_arg9) (ix1 (n0 := 1024) j) := by
  obtain ⟨e0, e1⟩ := idx12 t
  refine Eq.trans ?_ (V_v4 m c j)
  refine congrArg (V m c main_v4) (funext fun a => Fin.ext ?_)
  match a with
  | ⟨0, _⟩ => show win0_12.index t (0 : Fin 2) * 1 + 1 * 0 = 0; omega
  | ⟨1, _⟩ => show win0_12.index t (1 : Fin 2) * 1024 + 1 * j.val = j.val; omega

/-! The result array. -/

/-- The block of the result at a grid point. -/
def ptBlk (c : Dev nD) (t : Fin cfg0.N) : FVec Ideal S1x512x1024 .f32 :=
  k0_pay2 (iblk m c 0 t) (iblk m c 5 t) (accB (BitVec.ofNat 32 ((grid0.coords t) 1).val) (iblk m c 0 t) (iblk m c 1 t) (iblk m c 2 t) (iblk m c 3 t)
    (iblk m c 4 t) (iblk m c 6 t) (iblk m c 7 t) (iblk m c 8 t) (iblk m c 9 t) (iblk m c 10 t)) (iblk m c 11 t) (iblk m c 12 t)

theorem outs_eq (c : Dev nD) (t : Fin cfg0.N) : outsAt0 m c t = ptBlk m c t := by
  unfold outsAt0
  exact out_eq ..

/-- The result array: at each index, the block of its batch element and its block of rows. -/
def result (c : Dev nD) : FVec Ideal S8x8192x1024 .f32 := fun i =>
  ptBlk m c (point ⟨(i 0).val, (i 0).isLt⟩ ⟨(i 1).val / 512, by have h : (i 1).val < 8192 := (i 1).isLt; omega⟩)
    (ix3 (n0 := 1) (n1 := 512) (n2 := 1024) 0 ⟨(i 1).val % 512, Nat.mod_lt _ (by decide)⟩ ⟨(i 2).val, (i 2).isLt⟩)

theorem flushed_eq (c : Dev nD) (t : Fin cfg0.N) :
    (dats m 0 c).flushed 13 t = ((cfg0.win 13).blk t).view.read (Elt Ideal) (result m c) := by
  rw [Cert.Kernel2Ideal.Value.flushed13, outs_eq]
  obtain ⟨e0, e1, e2⟩ := idx13 t
  have ht : t.val < 128 := Nat.lt_of_lt_of_eq t.isLt N_0
  funext j
  have h0 : (j 0).val < 1 := (xsize13 t).1 ▸ (j 0).isLt
  have h1 : (j 1).val < 512 := (xsize13 t).2.1 ▸ (j 1).isLt
  have h2 : (j 2).val < 1024 := (xsize13 t).2.2 ▸ (j 2).isLt
  have a0 : ((((cfg0.win 13).blk t).view.emb j) 0).val = win0_13.index t (0 : Fin 3) * 1 + 1 * (j 0).val := rfl
  have a1 : ((((cfg0.win 13).blk t).view.emb j) 1).val = win0_13.index t (1 : Fin 3) * 512 + 1 * (j 1).val := rfl
  have a2 : ((((cfg0.win 13).blk t).view.emb j) 2).val = win0_13.index t (2 : Fin 3) * 1024 + 1 * (j 2).val := rfl
  show ptBlk m c t _ = ptBlk m c _ _
  refine congrArg₂ (fun t x => ptBlk m c t x) (Fin.ext ?_) (funext fun a => Fin.ext ?_)
  · show t.val = ((((cfg0.win 13).blk t).view.emb j) 0).val * 16 + ((((cfg0.win 13).blk t).view.emb j) 1).val / 512
    omega
  · match a with
    | ⟨0, _⟩ => show (j 0).val = 0; omega
    | ⟨1, _⟩ => show (j 1).val = ((((cfg0.win 13).blk t).view.emb j) 1).val % 512; omega
    | ⟨2, _⟩ => show (j 2).val = ((((cfg0.win 13).blk t).view.emb j) 2).val; omega

theorem cover (i : S8x8192x1024.Idx) : ∃ t : Fin cfg0.N, (cfg0.win 13).flush t = true ∧ i ∈ ((cfg0.win 13).blk t).view.set := by
  have i0 : (i 0).val < 8 := (i 0).isLt
  have i1 : (i 1).val < 8192 := (i 1).isLt
  have i2 : (i 2).val < 1024 := (i 2).isLt
  have hp : (point ⟨(i 0).val, i0⟩ ⟨(i 1).val / 512, by omega⟩).val = (i 0).val * 16 + (i 1).val / 512 := rfl
  generalize point ⟨(i 0).val, i0⟩ ⟨(i 1).val / 512, by omega⟩ = t at hp
  refine ⟨t, flush0_13 _, ?_⟩
  show i ∈ ((View.whole main_v5).slice (win0_13.rect t)).set
  rw [View.set_slice_whole, Rect.mem_set_unit]
  obtain ⟨e0, e1, e2⟩ := idx13 t
  obtain ⟨x0, x1, x2⟩ := xsize13 t
  intro a
  match a with
  | ⟨0, _⟩ =>
    show win0_13.index t (0 : Fin 3) * 1 ≤ (i 0).val ∧ (i 0).val < win0_13.index t (0 : Fin 3) * 1 + win0_13.xsize (grid0.coords t) (0 : Fin 3)
    rw [x0]; omega
  | ⟨1, _⟩ =>
    show win0_13.index t (1 : Fin 3) * 512 ≤ (i 1).val ∧ (i 1).val < win0_13.index t (1 : Fin 3) * 512 + win0_13.xsize (grid0.coords t) (1 : Fin 3)
    rw [x1]; omega
  | ⟨2, _⟩ =>
    show win0_13.index t (2 : Fin 3) * 1024 ≤ (i 2).val ∧ (i 2).val < win0_13.index t (2 : Fin 3) * 1024 + win0_13.xsize (grid0.coords t) (2 : Fin 3)
    rw [x2]; omega

theorem final_result (c : Dev nD) : (dats m 0 c).arrAt 13 cfg0.N = result m c :=
  (dats m 0 c).arrAt_eq_of_cover 13 (result m c) (fun t _ => flushed_eq m c t) cover

end Cert.Kernel2Ideal.Ffn
end
-- ==== Proof.FfnRef.lean ====
/-
  The reference's feed-forward part read at an index.
-/
module

public import proofs.«01_k».proof.Proof.FfnSpec
public import proofs.«01_k».proof.Proof.Gen.Reference2Ideal.Read
public import Idealize.ShloMosaic.Lib.Pointwise
public import Idealize.ShloMosaic.Lib.KernelVsHost

@[expose] public section

noncomputable section

namespace Cert.Reference2Ideal.Ffn

open Cert.Ffn
open Cert.Reference2Ideal Cert.Reference2Ideal.Gen Cert.Reference2Ideal.Read
open Idealize.ShloMosaic Idealize.ShloMosaic.TcCoe

variable (x0 : Vec Ideal S8x8192x1024 .f32) (x1 x2 x3 : Vec Ideal S8x1x1024 .f32) (x4 : Vec Ideal S1024x5632 .f32) (x5 : Vec Ideal S3x2816 .f32)
  (x6 : Vec Ideal S2816 .f32) (x7 : Vec Ideal S2816x1024 .f32) (x8 x9 : Vec Ideal S1024 .f32)

/-- A row of the input, scaled and shifted. -/
def hid (b : Fin 8) (t : Fin 8192) (d : Fin 1024) : EReal :=
  x0 (ix3 b t d) * (Ideal.ofBits .f32 0x3F800000#32 + x2 (ix3 b 0 d)) + x1 (ix3 b 0 d)

/-- A row's product with a column of the first weights. -/
def up (b : Fin 8) (t : Fin 8192) (j : Fin 5632) : EReal := ∑ d : Fin 1024, hid x0 x1 x2 b t d * x4 (ix2 d j)

theorem v5 (b : Fin 8) (t : Fin 8192) (d : Fin 1024) : val_main_v5 x0 x1 x2 (ix3 b t d) = hid x0 x1 x2 b t d := by
  pointwise [val_main_v5, val_main_v4, val_main_v3, val_main_v2, val_main_v1, val_main_v0, val_main_cst, hid]

theorem v6 (b : Fin 8) (t : Fin 8192) (j : Fin 5632) : val_main_v6 x0 x1 x2 x4 (ix3 b t j) = up x0 x1 x2 x4 b t j := by
  unfold up
  simp only [← v5]
  pointwise [val_main_v6]

theorem v7 (b : Fin 8) (t : Fin 8192) (j : Fin 2816) : val_main_v7 x0 x1 x2 x4 (ix3 b t j) = up x0 x1 x2 x4 b t ⟨j.val, by omega⟩ := by
  rw [← v6]
  pointwise [val_main_v7]

theorem v8 (b : Fin 8) (t : Fin 8192) (j : Fin 2816) : val_main_v8 x0 x1 x2 x4 (ix3 b t j) = up x0 x1 x2 x4 b t ⟨2816 + j.val, by omega⟩ := by
  rw [← v6]
  pointwise [val_main_v8]

theorem v9 (b : Fin 8) (t : Fin 8194) (j : Fin 2816) :
    val_main_v9 x0 x1 x2 x4 (ix3 b t j) = if h : 1 ≤ t.val ∧ t.val < 8193 then up x0 x1 x2 x4 b ⟨t.val - 1, by omega⟩ ⟨j.val, by omega⟩ else 0 := by
  simp only [← v7]
  pointwise [val_main_v9, val_main_call0_v0, val_main_c]
  by_cases h : 1 ≤ t.val ∧ t.val < 8193
  · rw [dif_pos h, dif_pos ⟨h.1, by omega⟩]
  · rw [dif_neg h, dif_neg (by omega)]
    exact sitofp_zero (φ := .f32)

theorem v32 (b : Fin 8) (t : Fin 8192) (j : Fin 2816) :
    val_main_v32 x0 x1 x2 x4 x5 x6 (ix3 b t j)
      = val_main_v9 x0 x1 x2 x4 (ix3 b ⟨t.val, by omega⟩ j) * x5 (ix2 0 j) + val_main_v9 x0 x1 x2 x4 (ix3 b ⟨1 + t.val, by omega⟩ j) * x5 (ix2 1 j)
        + val_main_v9 x0 x1 x2 x4 (ix3 b ⟨2 + t.val, by omega⟩ j) * x5 (ix2 2 j) + x6 (ix1 j) := by
  pointwise [val_main_v32, val_main_v31, val_main_v30, val_main_v29, val_main_v28, val_main_v27, val_main_v26, val_main_v25, val_main_v24, val_main_v23,
    val_main_v22, val_main_v21, val_main_v20, val_main_v19, val_main_v18, val_main_v17, val_main_v16, val_main_v15, val_main_v14, val_main_v13,
    val_main_v12, val_main_v11, val_main_v10]

theorem v39 (i : S8x8192x2816.Idx) : val_main_v39 x0 x1 x2 x4 x5 x6 i = gelu (val_main_v32 x0 x1 x2 x4 x5 x6 i) := by
  unfold val_main_v39 val_main_v38 val_main_v37 val_main_v36 val_main_v35 val_main_v34 val_main_v33 val_main_cst_1 val_main_cst_0
  generalize val_main_v32 x0 x1 x2 x4 x5 x6 = u
  pointwise [gelu]
  rw [neg_mul, Ideal.erfc_neg]

theorem v41 (b : Fin 8) (t : Fin 8192) (d : Fin 1024) :
    val_main_v41 x0 x1 x2 x4 x5 x6 x7 (ix3 b t d)
      = ∑ j : Fin 2816, gelu (val_main_v32 x0 x1 x2 x4 x5 x6 (ix3 b t j)) * up x0 x1 x2 x4 b t ⟨2816 + j.val, by omega⟩ * x7 (ix2 j d) := by
  simp only [← v39, ← v8]
  pointwise [val_main_v41, val_main_v40]

theorem v46 (b : Fin 8) (t : Fin 8192) (d : Fin 1024) :
    val_main_v46 x0 x1 x2 x3 x4 x5 x6 x7 (ix3 b t d)
      = joined (x0 (ix3 b t d)) (x3 (ix3 b 0 d)) (val_main_v41 x0 x1 x2 x4 x5 x6 x7 (ix3 b t d)) := by
  pointwise [val_main_v46, val_main_v45, val_main_v44, val_main_v43, val_main_v42, val_main_cst_2, joined]

theorem v70 (b : Fin 8) (t : Fin 8192) (d : Fin 1024) :
    val_main_v70 x0 x1 x2 x3 x4 x5 x6 x7 x8 x9 (ix3 b t d)
      = lnorm (fun k => val_main_v46 x0 x1 x2 x3 x4 x5 x6 x7 (ix3 b t k)) (x8 (ix1 d)) (x9 (ix1 d)) d := by
  unfold val_main_v70 val_main_v69 val_main_v68 val_main_v67 val_main_v66 val_main_v65 val_main_v64 val_main_v63 val_main_v62 val_main_v61 val_main_v60
    val_main_v59 val_main_v58 val_main_v57 val_main_v56 val_main_v55 val_main_v54 val_main_v53 val_main_v52 val_main_v51 val_main_v50 val_main_v49
    val_main_v48 val_main_v47 val_main_cst_3 val_main_cst_4 val_main_cst_5 val_main_cst_6 val_main_cst_7
  generalize val_main_v46 x0 x1 x2 x3 x4 x5 x6 x7 = z
  pointwise [lnorm, mean]

end Cert.Reference2Ideal.Ffn
end
-- ==== Proof.FfnValue.lean ====
/-
  The feed-forward call's result array is the reference's value of the same arguments: the rows a block reads around its own are the
  neighbouring rows of the array, and rows of zeros at its two ends, where the reference pads with zeros.
-/
module

public import proofs.«01_k».proof.Proof.FfnBlocks
public import proofs.«01_k».proof.Proof.FfnRef

@[expose] public section

noncomputable section

namespace Cert.Kernel2Ideal.Ffn

open Cert.Ffn
open Cert.Kernel2Ideal Cert.Kernel2Ideal.Gen
open Cert.Reference2Ideal.Read (val_main_v9 val_main_v32 val_main_v41 val_main_v46 val_main_v70)
open Cert.Reference2Ideal.Ffn (hid up)
open Idealize.ShloMosaic Idealize.ShloMosaic.TcCoe
open Idealize.SL.Sem

theorem isFirst : ∀ i : Fin 16, (Scalar.cmpi .sgt (BitVec.ofNat 32 i.val) 0#32 = 1#1) ↔ 0 < i.val := by decide +kernel
theorem isLast : ∀ i : Fin 16, (Scalar.cmpi .slt (BitVec.ofNat 32 i.val) 15#32 = 1#1) ↔ i.val < 15 := by decide +kernel

variable (m : (ℓ : Loc nD τ sig) → Buf (Elt Ideal) ℓ) (c : Dev nD)

/-- The arguments. -/
abbrev X0 : Vec Ideal S8x8192x1024 .f32 := m ((c : Thread nD τ).loc main_arg0)
abbrev X1 : Vec Ideal S8x1x1024 .f32 := m ((c : Thread nD τ).loc main_arg1)
abbrev X2 : Vec Ideal S8x1x1024 .f32 := m ((c : Thread nD τ).loc main_arg2)
abbrev X3 : Vec Ideal S8x1x1024 .f32 := m ((c : Thread nD τ).loc main_arg3)
abbrev X4 : Vec Ideal S1024x5632 .f32 := m ((c : Thread nD τ).loc main_arg4)
abbrev X5 : Vec Ideal S3x2816 .f32 := m ((c : Thread nD τ).loc main_arg5)
abbrev X6 : Vec Ideal S2816 .f32 := m ((c : Thread nD τ).loc main_arg6)
abbrev X7 : Vec Ideal S2816x1024 .f32 := m ((c : Thread nD τ).loc main_arg7)
abbrev X8 : Vec Ideal S1024 .f32 := m ((c : Thread nD τ).loc main_arg8)
abbrev X9 : Vec Ideal S1024 .f32 := m ((c : Thread nD τ).loc main_arg9)

variable (b : Fin 8) (i : Fin 16)

/-- The rows a block reads at a grid point. -/
def xeAt : Vec Ideal S528x1024 .f32 :=
  xeB (BitVec.ofNat 32 i.val) (iblk m c 0 (point b i)) (iblk m c 1 (point b i)) (iblk m c 2 (point b i)) (iblk m c 3 (point b i)) (iblk m c 4 (point b i))

theorem own_row (r : Fin 512) (d : Fin 1024) :
    k0_pay6 (iblk m c 3 (point b i)) (iblk m c 4 (point b i)) (iblk m c 0 (point b i)) (ix2 r d)
      = hid (X0 m c) (X1 m c) (X2 m c) b ⟨512 * i.val + r.val, by omega⟩ d := by
  rw [pay6_apply, iblk0_at, iblk3_at, iblk4_at]
  rfl

theorem before_row (d : Fin 1024) :
    k0_pay5 (BitVec.ofNat 32 i.val) (iblk m c 3 (point b i)) (iblk m c 4 (point b i)) (iblk m c 1 (point b i)) (ix2 7 d)
      = if h : 0 < i.val then hid (X0 m c) (X1 m c) (X2 m c) b ⟨512 * i.val - 1, by omega⟩ d else 0 := by
  rw [pay5_apply]
  by_cases h : 0 < i.val
  · have e : (⟨(64 * i.val - 1) * 8 + (7 : Fin 8).val, by omega⟩ : Fin 8192) = ⟨512 * i.val - 1, by omega⟩ :=
      Fin.ext (by show (64 * i.val - 1) * 8 + 7 = 512 * i.val - 1; omega)
    rw [if_pos ((isFirst i).mpr h), dif_pos h, iblk1_at, iblk3_at, iblk4_at, e]
    rfl
  · rw [if_neg fun h' => h ((isFirst i).mp h'), dif_neg h]

theorem after_row (d : Fin 1024) :
    k0_pay8 (Scalar.cmpi .slt (BitVec.ofNat 32 i.val) 15#32)
        (k0_pay7 (iblk m c 3 (point b i)) (iblk m c 4 (point b i)) (iblk m c 2 (point b i))) (FloatOps.ofBits (F := Ideal) .f32 0#32) (ix2 0 d)
      = if h : i.val < 15 then hid (X0 m c) (X1 m c) (X2 m c) b ⟨512 * i.val + 512, by omega⟩ d else 0 := by
  rw [pay8_apply]
  by_cases h : i.val < 15
  · have e : (⟨min (64 * (i.val + 1)) 1023 * 8 + (0 : Fin 8).val, by omega⟩ : Fin 8192) = ⟨512 * i.val + 512, by omega⟩ :=
      Fin.ext (by show min (64 * (i.val + 1)) 1023 * 8 + 0 = 512 * i.val + 512; omega)
    rw [if_pos ((isLast i).mpr h), dif_pos h, pay7_apply, iblk2_at, iblk3_at, iblk4_at, e]
    rfl
  · rw [if_neg fun h' => h ((isLast i).mp h'), dif_neg h]
    exact Ideal.ofBits_zero_f32

/-- The rows a block reads, from the one before its own to the one after, are the padded rows of the array. -/
theorem xe_row (k : Fin 514) (d : Fin 1024) :
    xeAt m c b i (ix2 (n0 := 528) (n1 := 1024) ⟨7 + k.val, by omega⟩ d)
      = if h : 1 ≤ 512 * i.val + k.val ∧ 512 * i.val + k.val < 8193 then
          hid (X0 m c) (X1 m c) (X2 m c) b ⟨512 * i.val + k.val - 1, by omega⟩ d else 0 := by
  unfold xeAt xeB pieced
  by_cases h0 : k.val = 0
  · refine (dif_pos (by show 7 + k.val < 8; omega)).trans ?_
    have ek : (⟨7 + k.val, by omega⟩ : Fin 8) = 7 := Fin.ext (by show 7 + k.val = 7; omega)
    refine (congrArg (fun e => k0_pay5 (F := Ideal) _ _ _ _ (ix2 (n0 := 8) (n1 := 1024) e d)) ek).trans ((before_row m c b i d).trans ?_)
    by_cases h : 0 < i.val
    · rw [dif_pos h, dif_pos (by omega)]
      exact congrArg (fun t => hid _ _ _ b t d) (Fin.ext (by show 512 * i.val - 1 = 512 * i.val + k.val - 1; omega))
    · rw [dif_neg h, dif_neg (by omega)]
  · refine (dif_neg (by show ¬ 7 + k.val < 8; omega)).trans ?_
    by_cases h1 : k.val = 513
    · refine (dif_neg (by show ¬ 7 + k.val < 520; omega)).trans ?_
      have ek : (⟨7 + k.val - 520, by omega⟩ : Fin 8) = 0 := Fin.ext (by show 7 + k.val - 520 = 0; omega)
      refine (congrArg (fun e => k0_pay8 (F := Ideal) _ _ _ (ix2 (n0 := 8) (n1 := 1024) e d)) ek).trans ((after_row m c b i d).trans ?_)
      by_cases h : i.val < 15
      · rw [dif_pos h, dif_pos (by omega)]
        exact congrArg (fun t => hid _ _ _ b t d) (Fin.ext (by show 512 * i.val + 512 = 512 * i.val + k.val - 1; omega))
      · rw [dif_neg h, dif_neg (by omega)]
    · refine (dif_pos (by show 7 + k.val < 520; omega)).trans ?_
      refine (own_row m c b i ⟨7 + k.val - 8, by omega⟩ d).trans ?_
      rw [dif_pos (by omega)]
      exact congrArg (fun t => hid _ _ _ b t d) (Fin.ext (by show 512 * i.val + (7 + k.val - 8) = 512 * i.val + k.val - 1; omega))

/-- The block's convolved half at a grid point. -/
def ueAt : Vec Ideal S1x528x2816 .f32 := k0_pay10 (xeAt m c b i) (iblk m c 6 (point b i))

theorem ue_row (k : Fin 514) (j : Fin 2816) :
    ueAt m c b i (ix3 (n0 := 1) (n1 := 528) (n2 := 2816) 0 ⟨7 + k.val, by omega⟩ j)
      = val_main_v9 (X0 m c) (X1 m c) (X2 m c) (X4 m c) (ix3 (n0 := 8) (n1 := 8194) (n2 := 2816) b ⟨512 * i.val + k.val, by omega⟩ j) := by
  refine (pay10_apply _ _ _ j).trans (Eq.trans ?_ (Cert.Reference2Ideal.Ffn.v9 ..).symm)
  by_cases h : 1 ≤ 512 * i.val + k.val ∧ 512 * i.val + k.val < 8193
  · refine Eq.trans ?_ (dif_pos h).symm
    refine Finset.sum_congr rfl fun d _ => ?_
    rw [xe_row, dif_pos h, iblk6_at]
  · refine Eq.trans ?_ (dif_neg h).symm
    refine Finset.sum_eq_zero fun d _ => ?_
    rw [xe_row, dif_neg h, zero_mul]

/-- The convolution at a row of the block. -/
theorem conv_row (r : Fin 512) (j : Fin 2816) :
    (X6 m c (ix1 j) + ueAt m c b i (ix3 0 ⟨8 + r.val, by omega⟩ j) * X5 m c (ix2 1 j)
        + ueAt m c b i (ix3 0 ⟨7 + r.val, by omega⟩ j) * X5 m c (ix2 0 j)) + ueAt m c b i (ix3 0 ⟨9 + r.val, by omega⟩ j) * X5 m c (ix2 2 j)
      = val_main_v32 (X0 m c) (X1 m c) (X2 m c) (X4 m c) (X5 m c) (X6 m c) (ix3 (n0 := 8) (n1 := 8192) (n2 := 2816) b ⟨512 * i.val + r.val, by omega⟩ j) := by
  have e (k k' : ℕ) (hk : k = 7 + k') (h' : k' < 514) (h : k < 528) (s : ℕ) (hs : s = 512 * i.val + k') (hs' : s < 8194) :
      ueAt m c b i (ix3 0 ⟨k, h⟩ j) = val_main_v9 (X0 m c) (X1 m c) (X2 m c) (X4 m c) (ix3 b ⟨s, hs'⟩ j) := by
    subst hk hs; exact ue_row m c b i ⟨k', h'⟩ j
  rw [Cert.Reference2Ideal.Ffn.v32, e (8 + r.val) (1 + r.val) (by omega) (by omega) (by omega) (1 + (512 * i.val + r.val)) (by omega) (by omega),
    e (7 + r.val) r.val rfl (by omega) (by omega) (512 * i.val + r.val) rfl (by omega),
    e (9 + r.val) (2 + r.val) (by omega) (by omega) (by omega) (2 + (512 * i.val + r.val)) (by omega) (by omega)]
  abel

theorem acc_row (r : Fin 512) (d : Fin 1024) :
    accB (BitVec.ofNat 32 i.val) (iblk m c 0 (point b i)) (iblk m c 1 (point b i)) (iblk m c 2 (point b i)) (iblk m c 3 (point b i))
      (iblk m c 4 (point b i)) (iblk m c 6 (point b i)) (iblk m c 7 (point b i)) (iblk m c 8 (point b i)) (iblk m c 9 (point b i))
      (iblk m c 10 (point b i)) (ix2 r d)
      = val_main_v41 (X0 m c) (X1 m c) (X2 m c) (X4 m c) (X5 m c) (X6 m c) (X7 m c)
        (ix3 (n0 := 8) (n1 := 8192) (n2 := 1024) b ⟨512 * i.val + r.val, by omega⟩ d) := by
  have e9 : k0_pay9 (F := Ideal) (ix2 r d) = 0 := by pointwise [k0_pay9]
  have er (k : Fin 3) (j : Fin 2816) : rowOf k (iblk m c 8 (point b i)) (ix2 0 j) = X5 m c (ix2 k j) := iblk8_at m c _ k j
  refine (pay1_apply _ _ _ _ _ _ _ _ r d).trans ?_
  rw [e9, zero_add, Cert.Reference2Ideal.Ffn.v41]
  refine Finset.sum_congr rfl fun j _ => ?_
  rw [pay13_apply, pay14_apply, pay15_apply, pay12_apply, pay11_apply, iblk10_at, iblk9_at, er, er, er]
  refine congrArg₂ (· * ·) (congrArg₂ (· * ·) (congrArg gelu (conv_row m c b i r j)) ?_) rfl
  unfold up
  refine Finset.sum_congr rfl fun d _ => ?_
  rw [own_row, iblk7_at]

theorem ptBlk_row (r : Fin 512) (d : Fin 1024) :
    ptBlk m c (point b i) (ix3 (n0 := 1) (n1 := 512) (n2 := 1024) 0 r d)
      = val_main_v70 (X0 m c) (X1 m c) (X2 m c) (X3 m c) (X4 m c) (X5 m c) (X6 m c) (X7 m c) (X8 m c) (X9 m c)
        (ix3 (n0 := 8) (n1 := 8192) (n2 := 1024) b ⟨512 * i.val + r.val, by omega⟩ d) := by
  unfold ptBlk
  rw [coords1, pay2_apply, Cert.Reference2Ideal.Ffn.v70, iblk11_at, iblk12_at]
  refine congrArg (fun z => lnorm z _ _ d) (funext fun k => ?_)
  rw [Cert.Reference2Ideal.Ffn.v46, iblk0_at, iblk5_at, acc_row]

/-- The result array is the reference's value of the same arguments. -/
theorem result_eq : result m c = val_main_v70 (X0 m c) (X1 m c) (X2 m c) (X3 m c) (X4 m c) (X5 m c) (X6 m c) (X7 m c) (X8 m c) (X9 m c) := by
  funext x
  have x0 : (x 0).val < 8 := (x 0).isLt
  have x1 : (x 1).val < 8192 := (x 1).isLt
  have x2 : (x 2).val < 1024 := (x 2).isLt
  refine (ptBlk_row m c ⟨(x 0).val, x0⟩ ⟨(x 1).val / 512, by omega⟩ ⟨(x 1).val % 512, Nat.mod_lt _ (by decide)⟩ ⟨(x 2).val, x2⟩).trans ?_
  refine congrArg (val_main_v70 _ _ _ _ _ _ _ _ _ _) (funext fun a => Fin.ext ?_)
  match a with
  | ⟨0, _⟩ => rfl
  | ⟨1, _⟩ => exact Nat.div_add_mod (x 1).val 512
  | ⟨2, _⟩ => rfl

end Cert.Kernel2Ideal.Ffn
end
-- ==== Proof.FfnAlgebraic.lean ====
/-
  The feed-forward part's claims about the runs: the reference's leaves its arguments as they were, and on the same arguments the
  kernel's run and the reference's end with the same result.
-/
module

public import proofs.«01_k».proof.Defs
public import proofs.«01_k».proof.Proof.FfnValue
public import proofs.«01_k».proof.Proof.Gen.Reference2Ideal.Run

@[expose] public section

noncomputable section

namespace Cert.Kernel2Ideal.Ffn

open Cert.Kernel2Ideal Cert.Kernel2Ideal.Gen
open Idealize.ShloMosaic Idealize.ShloMosaic.TcCoe
open Idealize.SL.Sem

attribute [local instance] Cert.Kernel2Ideal.Gen.facts Cert.Reference2Ideal.Gen.facts

theorem frame_ref : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic : Cert.algebraic_Kernel2Ideal_Reference2Ideal := fun m g m' g' _ hargs => by
  refine ⟨fun c => result m c, (θ_run defs _ _).mono (fun _ h c => ⟨(h c).1.trans (final_result m c), (h c).2⟩)
      (Cert.Kernel2Ideal.Value.run_blocks (F := Ideal) m g),
    (θ_run Cert.Reference2Ideal.defs _ _).mono (fun _ h c => ⟨(h c).1.trans ?_, (h c).2⟩) (Cert.Reference2Ideal.Value.run (F := Ideal) m' g')⟩
  obtain ⟨a0, a1, a2, a3, a4, a5, a6, a7, a8, a9⟩ := hargs c
  rw [Cert.Reference2Ideal.Read.val_main_v70_eq, a0, a1, a2, a3, a4, a5, a6, a7, a8, a9]
  exact (result_eq m c).symm

end Cert.Kernel2Ideal.Ffn
end
-- ==== Proof.InpSpec.lean ====
/-
  What the input projection computes from a row, over the extended reals: the activation after its convolution,
  and which column of the weights each column of its first result comes from.
-/
module

public import Idealize.ShloMosaic.Lib.Pointwise

@[expose] public section

noncomputable section

namespace Cert.Inp

open Idealize.ShloMosaic

/-- The activation: the argument times the logistic function of it. -/
def silu (a : EReal) : EReal :=
  a * Ideal.div (Ideal.ofBits .f32 0x3F800000#32) (Ideal.ofBits .f32 0x3F800000#32 + Ideal.exp (-a))

/-- The weights' column behind a column of the first result: all of them in order, but for the scan's own and its step columns. -/
def mainCol (j : Fin 4096) : Fin 5664 := if h : j.val < 1024 then ⟨j.val, by omega⟩ else ⟨1568 + j.val, by omega⟩

end Cert.Inp
end
-- ==== Proof.InpElem.lean ====
/-
  The input projection's body read at an index.
-/
module

public import proofs.«01_k».proof.Proof.InpSpec
public import proofs.«01_k».proof.Proof.Gen.Kernel3Ideal.Skeleton
public import Idealize.ShloMosaic.Lib.Pointwise

@[expose] public section

noncomputable section

namespace Cert.Kernel3Ideal.Inp

open Cert.Inp
open Cert.Kernel3Ideal Cert.Kernel3Ideal.Gen
open Idealize.ShloMosaic Idealize.ShloMosaic.TcCoe

section Forms

variable {F : FTy → Type} [FloatOps F]

/-- A group of 256 columns after the convolution, whose five weights are `w0` to `w4` and whose bias is `b`, and the activation. -/
def convB (k : IVec S528x1 1) (v : Vec F S528x256 .f32) (b w0 w1 w2 w3 w4 : Vec F S1x256 .f32) : FVec F S1x512x256 .bf16 :=
  k0_pay14 (k0_pay13 k v b w2 w0 w1 w3 w4) (Scalar.ofBits .f32 0#32)

end Forms

theorem pay5_apply (x3 x4 : Vec Ideal S1x1x1024 .f32) (x0 : Vec Ideal S1x512x1024 .f32) (r : Fin 512) (d : Fin 1024) :
    k0_pay5 x3 x4 x0 (ix2 r d) = x0 (ix3 0 r d) * (Ideal.ofBits .f32 0x3F800000#32 + x3 (ix3 0 0 d)) + x4 (ix3 0 0 d) := by
  pointwise [k0_pay5, k0_pay2, k0_pay3]

theorem pay4_apply (x3 x4 : Vec Ideal S1x1x1024 .f32) (x1 : Vec Ideal S1x8x1024 .f32) (r : Fin 8) (d : Fin 1024) :
    k0_pay4 x3 x4 x1 (ix2 r d) = x1 (ix3 0 r d) * (Ideal.ofBits .f32 0x3F800000#32 + x3 (ix3 0 0 d)) + x4 (ix3 0 0 d) := by
  pointwise [k0_pay4, k0_pay2, k0_pay3]

theorem pay6_apply (x3 x4 : Vec Ideal S1x1x1024 .f32) (x2 : Vec Ideal S1x8x1024 .f32) (r : Fin 8) (d : Fin 1024) :
    k0_pay6 x3 x4 x2 (ix2 r d) = x2 (ix3 0 r d) * (Ideal.ofBits .f32 0x3F800000#32 + x3 (ix3 0 0 d)) + x4 (ix3 0 0 d) := by
  pointwise [k0_pay6, k0_pay2, k0_pay3]

theorem pay8_apply (xe : Vec Ideal S528x1024 .f32) (w : Vec Ideal S1024x1536 .bf16) (e : Fin 528) (j : Fin 1536) :
    k0_pay8 xe w (ix2 e j) = ∑ d : Fin 1024, xe (ix2 e d) * w (ix2 d j) := by
  pointwise [k0_pay8]

theorem pay10_apply (x : Vec Ideal S512x1024 .f32) (w : Vec Ideal S1024x4096 .bf16) (r : Fin 512) (j : Fin 4096) :
    k0_pay10 x w (ix3 0 r j) = ∑ d : Fin 1024, x (ix2 r d) * w (ix2 d j) := by
  pointwise [k0_pay10, k0_pay9]

theorem pay12_apply (x : Vec Ideal S512x1024 .f32) (w : Vec Ideal S1024x256 .bf16) (r : Fin 512) (j : Fin 256) :
    k0_pay12 (k0_pay11 x w) (ix3 0 r j) = ∑ d : Fin 1024, x (ix2 r d) * w (ix2 d j) := by
  pointwise [k0_pay12, k0_pay11, k0_pay9]

/-- Which of the rows a block reads lie in the array. -/
theorem inside : ∀ (i : Fin 16) (e : Fin 528), k0_pay7 (BitVec.ofNat 32 i.val) (ix2 e 0) = 1#1
    ↔ (8 ≤ e.val ∨ 0 < i.val) ∧ (e.val < 520 ∨ i.val < 15) := by decide +kernel

/-- A row of a group of columns, or zero where the row is outside the array. -/
def kept (k : IVec S528x1 1) (v : Vec Ideal S528x256 .f32) (e : Fin 528) (j : Fin 256) : EReal :=
  if k (ix2 e 0) = 1#1 then v (ix2 e j) else Ideal.ofBits .f32 0#32

theorem convB_apply (k : IVec S528x1 1) (v : Vec Ideal S528x256 .f32) (b w0 w1 w2 w3 w4 : Vec Ideal S1x256 .f32) (r : Fin 512) (j : Fin 256) :
    convB k v b w0 w1 w2 w3 w4 (ix3 0 r j) = silu (b (ix2 0 j) + kept k v ⟨8 + r.val, by omega⟩ j * w2 (ix2 0 j)
      + kept k v ⟨6 + r.val, by omega⟩ j * w0 (ix2 0 j) + kept k v ⟨7 + r.val, by omega⟩ j * w1 (ix2 0 j)
      + kept k v ⟨9 + r.val, by omega⟩ j * w3 (ix2 0 j) + kept k v ⟨10 + r.val, by omega⟩ j * w4 (ix2 0 j)) := by
  have e6 : (⟨(8 + r.val + 528 - 2) % 528, Nat.mod_lt _ (by decide)⟩ : Fin 528) = ⟨6 + r.val, by omega⟩ :=
    Fin.ext (by show (8 + r.val + 528 - 2) % 528 = 6 + r.val; omega)
  have e7 : (⟨(8 + r.val + 528 - 1) % 528, Nat.mod_lt _ (by decide)⟩ : Fin 528) = ⟨7 + r.val, by omega⟩ :=
    Fin.ext (by show (8 + r.val + 528 - 1) % 528 = 7 + r.val; omega)
  have e9 : (⟨(8 + r.val + 528 - 527) % 528, Nat.mod_lt _ (by decide)⟩ : Fin 528) = ⟨9 + r.val, by omega⟩ :=
    Fin.ext (by show (8 + r.val + 528 - 527) % 528 = 9 + r.val; omega)
  have e10 : (⟨(8 + r.val + 528 - 526) % 528, Nat.mod_lt _ (by decide)⟩ : Fin 528) = ⟨10 + r.val, by omega⟩ :=
    Fin.ext (by show (8 + r.val + 528 - 526) % 528 = 10 + r.val; omega)
  rw [← e6, ← e7, ← e9, ← e10]
  unfold silu
  rw [← zero_sub, ← Ideal.ofBits_zero_f32]
  have hs (p : BitVec 1) (x y : EReal) : Scalar.select p (x * y) 0 = (if p = 1#1 then x else 0) * y := by
    show (if p = 1#1 then x * y else 0) = _
    rw [ite_mul, zero_mul]
  pointwise [convB, k0_pay14, k0_pay13, kept]
  simp only [hs]

end Cert.Kernel3Ideal.Inp
end
-- ==== Proof.InpOut.lean ====
/-
  The input projection's three blocks, as functions of its input blocks.
-/
module

public import proofs.«01_k».proof.Proof.InpElem
public import proofs.«01_k».proof.Proof.Gen.Kernel3Ideal.Frame
public import proofs.«01_k».proof.Proof.Gen.Kernel3Ideal.Value
public import Idealize.ShloMosaic.Lib.WritesUnit
public import Idealize.ShloMosaic.Lib.VecWindow

@[expose] public section

noncomputable section

namespace Cert.Kernel3Ideal.Inp

open Cert.Kernel3Ideal Cert.Kernel3Ideal.Gen
open Idealize.ShloMosaic Idealize.ShloMosaic.TcCoe
open Idealize.SL.Sem

variable {F : FTy → Type} [FloatOps F]

/-- Three pieces of rows, one below the other. -/
def pieced (w5 : Vec F S8x1024 .f32) (w6 : Vec F S512x1024 .f32) (w8 : Vec F S8x1024 .f32) : Vec F S528x1024 .f32 := fun y =>
  if h : (y 0).val < 8 then w5 (ix2 (n0 := 8) (n1 := 1024) ⟨(y 0).val, h⟩ ⟨(y 1).val, (y 1).isLt⟩)
  else if h : (y 0).val < 520 then w6 (ix2 (n0 := 512) (n1 := 1024) ⟨(y 0).val - 8, by omega⟩ ⟨(y 1).val, (y 1).isLt⟩)
  else w8 (ix2 (n0 := 8) (n1 := 1024) ⟨(y 0).val - 520, by have h : (y 0).val < 528 := (y 0).isLt; omega⟩ ⟨(y 1).val, (y 1).isLt⟩)

theorem pieced_mid (w5 : Vec F S8x1024 .f32) (w6 : Vec F S512x1024 .f32) (w8 : Vec F S8x1024 .f32) (y : S512x1024.Idx) :
    pieced w5 w6 w8 ((Rect.unit (s := S528x1024) ![8, 0] S512x1024.size inb_S528x1024_S512x1024_8_0).toLoadRect.idx y) = w6 y := by
  have h : (y 0).val < 512 := (y 0).isLt
  have e0 : (((Rect.unit (s := S528x1024) ![8, 0] S512x1024.size inb_S528x1024_S512x1024_8_0).toLoadRect.idx y) 0).val = 8 + (y 0).val :=
    congrArg (8 + ·) (Nat.one_mul _)
  have e1 : (((Rect.unit (s := S528x1024) ![8, 0] S512x1024.size inb_S528x1024_S512x1024_8_0).toLoadRect.idx y) 1).val = (y 1).val :=
    (Nat.zero_add _).trans (Nat.one_mul _)
  unfold pieced
  rw [dif_neg (by omega), dif_pos (by omega)]
  refine congrArg w6 (funext fun a => Fin.ext ?_)
  match a with
  | ⟨0, _⟩ => exact (congrArg (· - 8) e0).trans (Nat.add_sub_cancel_left ..)
  | ⟨1, _⟩ => exact e1

theorem xe_read (v : View sig .tc .vmem S528x1024 .f32) (f : v.ty.Contents (Elt F)) (w5 : Vec F S8x1024 .f32) (w6 : Vec F S512x1024 .f32) (w8 : Vec F S8x1024 .f32)
    (y : S528x1024.Idx) :
    v.read (Elt F) (v.writes (Elt F) f [⟨Rect.unit (s := S528x1024) ![520, 0] S8x1024.size inb_S528x1024_S8x1024_520_0, w8⟩,
        ⟨Rect.unit (s := S528x1024) ![8, 0] S512x1024.size inb_S528x1024_S512x1024_8_0, w6⟩,
        ⟨Rect.unit (s := S528x1024) ![0, 0] S8x1024.size inb_S528x1024_S8x1024_0_0, w5⟩]) y
      = pieced w5 w6 w8 y := by
  have h0 : (y 0).val < 528 := (y 0).isLt
  unfold pieced
  split
  · next h =>
    refine (View.read_writes_cons_rows_of_not_mem v f _ _ _ y rfl rfl (.inl (by omega))).trans
      ((View.read_writes_cons_rows_of_not_mem v f _ _ _ y rfl rfl (.inl (by omega))).trans ?_)
    exact View.read_writes_cons_rows_of_mem v f _ _ _ y (ix2 (n0 := 8) (n1 := 1024) ⟨(y 0).val, h⟩ ⟨(y 1).val, (y 1).isLt⟩) rfl (Nat.zero_add _).symm rfl
  · split
    · next h' h =>
      refine (View.read_writes_cons_rows_of_not_mem v f _ _ _ y rfl rfl (.inl (by omega))).trans ?_
      exact View.read_writes_cons_rows_of_mem v f _ _ _ y (ix2 (n0 := 512) (n1 := 1024) ⟨(y 0).val - 8, by omega⟩ ⟨(y 1).val, (y 1).isLt⟩) rfl
        (by show (y 0).val = 8 + ((y 0).val - 8); omega) rfl
    · next h' h =>
      exact View.read_writes_cons_rows_of_mem v f _ _ _ y (ix2 (n0 := 8) (n1 := 1024) ⟨(y 0).val - 520, by omega⟩ ⟨(y 1).val, (y 1).isLt⟩) rfl
        (by show (y 0).val = 520 + ((y 0).val - 520); omega) rfl

/-- The rows a block reads: the eight rows before it, its own rows and the eight after it, each scaled and shifted. -/
def xeB (x0 : Vec F S1x512x1024 .f32) (x1 x2 : Vec F S1x8x1024 .f32) (x3 x4 : Vec F S1x1x1024 .f32) : Vec F S528x1024 .f32 :=
  pieced (k0_pay4 x3 x4 x1) (k0_pay5 x3 x4 x0) (k0_pay6 x3 x4 x2)

/-- A group of 256 columns from column `n` on. -/
def cols (n : Fin 1281) (x : Vec F S528x1536 .f32) : Vec F S528x256 .f32 := fun y =>
  x (ix2 (n0 := 528) (n1 := 1536) ⟨(y 0).val, (y 0).isLt⟩ ⟨n.val + (y 1).val, by have h : (y 1).val < 256 := (y 1).isLt; omega⟩)

/-- The same group of one row of weights. -/
def wcols (k : Fin 5) (n : Fin 1281) (x : Vec F S5x1536 .f32) : Vec F S1x256 .f32 := fun y =>
  x (ix2 (n0 := 5) (n1 := 1536) k ⟨n.val + (y 1).val, by have h : (y 1).val < 256 := (y 1).isLt; omega⟩)

/-- The same group of the bias. -/
def bcols (n : Fin 1281) (x : Vec F S1x1536 .f32) : Vec F S1x256 .f32 := fun y =>
  x (ix2 (n0 := 1) (n1 := 1536) 0 ⟨n.val + (y 1).val, by have h : (y 1).val < 256 := (y 1).isLt; omega⟩)

/-- The block of a group of columns from column `n` on. -/
def groupB (n : Fin 1281) (k : IVec S528x1 1) (u : Vec F S528x1536 .f32) (x8 : Vec F S5x1536 .f32) (x9 : Vec F S1x1536 .f32) : FVec F S1x512x256 .bf16 :=
  convB k (cols n u) (bcols n x9) (wcols 0 n x8) (wcols 1 n x8) (wcols 2 n x8) (wcols 3 n x8) (wcols 4 n x8)

/-- The second block: six groups of columns side by side. -/
def xbcB (k : IVec S528x1 1) (u : Vec F S528x1536 .f32) (x8 : Vec F S5x1536 .f32) (x9 : Vec F S1x1536 .f32) : FVec F S1x512x1536 .bf16 := fun y =>
  groupB ⟨256 * ((y 2).val / 256), by have h : (y 2).val < 1536 := (y 2).isLt; omega⟩ k u x8 x9
    (ix3 (n0 := 1) (n1 := 512) (n2 := 256) 0 ⟨(y 1).val, (y 1).isLt⟩ ⟨(y 2).val % 256, Nat.mod_lt _ (by decide)⟩)

/-- Six pieces of columns side by side read as the group an index falls in. -/
theorem six_read (v : View sig .tc .vmem S1x512x1536 .bf16) (f : v.ty.Contents (Elt F)) (g : Fin 1281 → Vec F S1x512x256 .bf16) (y : S1x512x1536.Idx) :
    v.read (Elt F) (v.writes (Elt F) f [⟨Rect.unit (s := S1x512x1536) ![0, 0, 1280] S1x512x256.size inb_S1x512x1536_S1x512x256_0_0_1280, g 1280⟩,
        ⟨Rect.unit (s := S1x512x1536) ![0, 0, 1024] S1x512x256.size inb_S1x512x1536_S1x512x256_0_0_1024, g 1024⟩,
        ⟨Rect.unit (s := S1x512x1536) ![0, 0, 768] S1x512x256.size inb_S1x512x1536_S1x512x256_0_0_768, g 768⟩,
        ⟨Rect.unit (s := S1x512x1536) ![0, 0, 512] S1x512x256.size inb_S1x512x1536_S1x512x256_0_0_512, g 512⟩,
        ⟨Rect.unit (s := S1x512x1536) ![0, 0, 256] S1x512x256.size inb_S1x512x1536_S1x512x256_0_0_256, g 256⟩,
        ⟨Rect.unit (s := S1x512x1536) ![0, 0, 0] S1x512x256.size inb_S1x512x1536_S1x512x256_0_0_0, g 0⟩]) y
      = g ⟨256 * ((y 2).val / 256), by have h : (y 2).val < 1536 := (y 2).isLt; omega⟩
        (ix3 (n0 := 1) (n1 := 512) (n2 := 256) 0 ⟨(y 1).val, (y 1).isLt⟩ ⟨(y 2).val % 256, Nat.mod_lt _ (by decide)⟩) := by
  have h0 : (y 0).val < 1 := (y 0).isLt
  have h2 : (y 2).val < 1536 := (y 2).isLt
  have hit (o : ℕ) (ho : o < 1281) (inb : ∀ a, (![0, 0, o] : Fin 3 → ℕ) a + S1x512x256.size a ≤ S1x512x1536.size a)
      (L : List (View.Piece (Elt F) S1x512x1536 .bf16)) (h : o = 256 * ((y 2).val / 256)) :
      v.read (Elt F) (v.writes (Elt F) f (⟨Rect.unit (s := S1x512x1536) ![0, 0, o] S1x512x256.size inb, g ⟨o, ho⟩⟩ :: L)) y
        = g ⟨256 * ((y 2).val / 256), by omega⟩
        (ix3 (n0 := 1) (n1 := 512) (n2 := 256) 0 ⟨(y 1).val, (y 1).isLt⟩ ⟨(y 2).val % 256, Nat.mod_lt _ (by decide)⟩) := by
    subst h
    refine View.read_writes_cons_unit_of_mem v f inb _ L y (ix3 (n0 := 1) (n1 := 512) (n2 := 256) 0 ⟨(y 1).val, (y 1).isLt⟩ ⟨(y 2).val % 256, Nat.mod_lt _ (by decide)⟩) rfl fun a => ?_
    match a with
    | ⟨0, _⟩ => show (y 0).val = 0 + 0; omega
    | ⟨1, _⟩ => show (y 1).val = 0 + (y 1).val; omega
    | ⟨2, _⟩ => show (y 2).val = 256 * ((y 2).val / 256) + (y 2).val % 256; omega
  have miss (o : ℕ) (inb : ∀ a, (![0, 0, o] : Fin 3 → ℕ) a + S1x512x256.size a ≤ S1x512x1536.size a) (w : Vec F S1x512x256 .bf16)
      (L : List (View.Piece (Elt F) S1x512x1536 .bf16)) (h : (y 2).val < o) :
      v.read (Elt F) (v.writes (Elt F) f (⟨Rect.unit (s := S1x512x1536) ![0, 0, o] S1x512x256.size inb, w⟩ :: L)) y
        = v.read (Elt F) (v.writes (Elt F) f L) y :=
    View.read_writes_cons_unit_of_not_mem v f inb w L y rfl (2 : Fin 3) (.inl h)
  by_cases c5 : 1280 ≤ (y 2).val
  · exact hit 1280 (by decide) _ _ (by omega)
  refine (miss 1280 _ _ _ (by omega)).trans ?_
  by_cases c4 : 1024 ≤ (y 2).val
  · exact hit 1024 (by decide) _ _ (by omega)
  refine (miss 1024 _ _ _ (by omega)).trans ?_
  by_cases c3 : 768 ≤ (y 2).val
  · exact hit 768 (by decide) _ _ (by omega)
  refine (miss 768 _ _ _ (by omega)).trans ?_
  by_cases c2 : 512 ≤ (y 2).val
  · exact hit 512 (by decide) _ _ (by omega)
  refine (miss 512 _ _ _ (by omega)).trans ?_
  by_cases c1 : 256 ≤ (y 2).val
  · exact hit 256 (by decide) _ _ (by omega)
  refine (miss 256 _ _ _ (by omega)).trans ?_
  exact hit 0 (by decide) _ _ (by omega)

section Body

variable (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1024x4096 .bf16) (harg7 : arg7.IsWhole) (arg8 : Memref sig .tc .vmem S1024x1536 .bf16) (harg8 : arg8.IsWhole) (arg9 : Memref sig .tc .vmem S1024x256 .bf16) (harg9 : arg9.IsWhole) (arg10 : Memref sig .tc .vmem S5x1536 .f32) (harg10 : arg10.IsWhole) (arg11 : Memref sig .tc .vmem S1x1536 .f32) (harg11 : arg11.IsWhole) (arg12 : Memref sig .tc .vmem S1x512x4096 .bf16) (harg12 : arg12.IsWhole) (arg13 : Memref sig .tc .vmem S1x512x1536 .bf16) (harg13 : arg13.IsWhole) (arg14 : Memref sig .tc .vmem S1x512x256 .f32) (harg14 : arg14.IsWhole) (arg15 : Memref sig .tc .vmem S528x1024 .f32) (harg15 : arg15.IsWhole) (arg16 : Memref sig .tc .vmem S528x1536 .f32) (harg16 : arg16.IsWhole)
    (x0 : Vec F S1x512x1024 .f32) (x1 : Vec F S1x8x1024 .f32) (x2 : Vec F S1x8x1024 .f32) (x3 : Vec F S1x1x1024 .f32) (x4 : Vec F S1x1x1024 .f32) (x5 : Vec F S1024x4096 .bf16) (x6 : Vec F S1024x1536 .bf16) (x7 : Vec F S1024x256 .bf16) (x8 : Vec F S5x1536 .f32) (x9 : Vec F S1x1536 .f32)

theorem out10_eq : out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 = k0_pay10 (k0_pay5 x3 x4 x0) x5 := by
  unfold out0_A_10 kernelRun0_A
  dsimp only
  sl_unfold_words
  have e2 : arg2.view.readAt (Elt F) (Rect.unit (s := S1x512x1024) ![0, 0, 0] S1x512x1024.size inb_S1x512x1024_S1x512x1024_0_0_0).toLoadRect (harg2.unread x0) = x0 := (View.readAt_full ..).trans (harg2.read_unread x0)
  have e3 : arg3.view.readAt (Elt F) (Rect.unit (s := S1x8x1024) ![0, 0, 0] S1x8x1024.size inb_S1x8x1024_S1x8x1024_0_0_0).toLoadRect (harg3.unread x1) = x1 := (View.readAt_full ..).trans (harg3.read_unread x1)
  have e4 : arg4.view.readAt (Elt F) (Rect.unit (s := S1x8x1024) ![0, 0, 0] S1x8x1024.size inb_S1x8x1024_S1x8x1024_0_0_0).toLoadRect (harg4.unread x2) = x2 := (View.readAt_full ..).trans (harg4.read_unread x2)
  have e5 : arg5.view.readAt (Elt F) (Rect.unit (s := S1x1x1024) ![0, 0, 0] S1x1x1024.size inb_S1x1x1024_S1x1x1024_0_0_0).toLoadRect (harg5.unread x3) = x3 := (View.readAt_full ..).trans (harg5.read_unread x3)
  have e6 : arg6.view.readAt (Elt F) (Rect.unit (s := S1x1x1024) ![0, 0, 0] S1x1x1024.size inb_S1x1x1024_S1x1x1024_0_0_0).toLoadRect (harg6.unread x4) = x4 := (View.readAt_full ..).trans (harg6.read_unread x4)
  have e7 : arg7.view.readAt (Elt F) (Rect.unit (s := S1024x4096) ![0, 0] S1024x4096.size inb_S1024x4096_S1024x4096_0_0).toLoadRect (harg7.unread x5) = x5 := (View.readAt_full ..).trans (harg7.read_unread x5)
  have s15 : ∀ (w4 : Vec F S8x1024 .f32) (w5 : Vec F S512x1024 .f32) (w6 : Vec F S8x1024 .f32),
      arg15.view.readCov [⟨Rect.unit (s := S528x1024) ![520, 0] S8x1024.size inb_S528x1024_S8x1024_520_0, w6⟩,
        ⟨Rect.unit (s := S528x1024) ![8, 0] S512x1024.size inb_S528x1024_S512x1024_8_0, w5⟩,
        ⟨Rect.unit (s := S528x1024) ![0, 0] S8x1024.size inb_S528x1024_S8x1024_0_0, w4⟩]
        (Rect.unit (s := S528x1024) ![0, 0] S528x1024.size inb_S528x1024_S528x1024_0_0).toLoadRect = pieced w4 w5 w6 :=
    fun w4 w5 w6 => (View.readAt_full ..).trans (funext fun y => xe_read _ _ w4 w5 w6 y)
  have s15' : ∀ (w4 : Vec F S8x1024 .f32) (w5 : Vec F S512x1024 .f32) (w6 : Vec F S8x1024 .f32),
      arg15.view.readCov [⟨Rect.unit (s := S528x1024) ![520, 0] S8x1024.size inb_S528x1024_S8x1024_520_0, w6⟩,
        ⟨Rect.unit (s := S528x1024) ![8, 0] S512x1024.size inb_S528x1024_S512x1024_8_0, w5⟩,
        ⟨Rect.unit (s := S528x1024) ![0, 0] S8x1024.size inb_S528x1024_S8x1024_0_0, w4⟩]
        (Rect.unit (s := S528x1024) ![8, 0] S512x1024.size inb_S528x1024_S512x1024_8_0).toLoadRect = w5 :=
    fun w4 w5 w6 => funext fun y => (xe_read arg15.view arg15.view.junk w4 w5 w6 _).trans (pieced_mid w4 w5 w6 y)
  simp only [e2, e3, e4, e5, e6, e7, s15']
  exact (View.read_writes_full ..).trans rfl

theorem out12_eq : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 = k0_pay12 (k0_pay11 (k0_pay5 x3 x4 x0) x7) := by
  unfold out0_A_12 kernelRun0_A
  dsimp only
  sl_unfold_words
  have e2 : arg2.view.readAt (Elt F) (Rect.unit (s := S1x512x1024) ![0, 0, 0] S1x512x1024.size inb_S1x512x1024_S1x512x1024_0_0_0).toLoadRect (harg2.unread x0) = x0 := (View.readAt_full ..).trans (harg2.read_unread x0)
  have e3 : arg3.view.readAt (Elt F) (Rect.unit (s := S1x8x1024) ![0, 0, 0] S1x8x1024.size inb_S1x8x1024_S1x8x1024_0_0_0).toLoadRect (harg3.unread x1) = x1 := (View.readAt_full ..).trans (harg3.read_unread x1)
  have e4 : arg4.view.readAt (Elt F) (Rect.unit (s := S1x8x1024) ![0, 0, 0] S1x8x1024.size inb_S1x8x1024_S1x8x1024_0_0_0).toLoadRect (harg4.unread x2) = x2 := (View.readAt_full ..).trans (harg4.read_unread x2)
  have e5 : arg5.view.readAt (Elt F) (Rect.unit (s := S1x1x1024) ![0, 0, 0] S1x1x1024.size inb_S1x1x1024_S1x1x1024_0_0_0).toLoadRect (harg5.unread x3) = x3 := (View.readAt_full ..).trans (harg5.read_unread x3)
  have e6 : arg6.view.readAt (Elt F) (Rect.unit (s := S1x1x1024) ![0, 0, 0] S1x1x1024.size inb_S1x1x1024_S1x1x1024_0_0_0).toLoadRect (harg6.unread x4) = x4 := (View.readAt_full ..).trans (harg6.read_unread x4)
  have e9 : arg9.view.readAt (Elt F) (Rect.unit (s := S1024x256) ![0, 0] S1024x256.size inb_S1024x256_S1024x256_0_0).toLoadRect (harg9.unread x7) = x7 := (View.readAt_full ..).trans (harg9.read_unread x7)
  have s15 : ∀ (w4 : Vec F S8x1024 .f32) (w5 : Vec F S512x1024 .f32) (w6 : Vec F S8x1024 .f32),
      arg15.view.readCov [⟨Rect.unit (s := S528x1024) ![520, 0] S8x1024.size inb_S528x1024_S8x1024_520_0, w6⟩,
        ⟨Rect.unit (s := S528x1024) ![8, 0] S512x1024.size inb_S528x1024_S512x1024_8_0, w5⟩,
        ⟨Rect.unit (s := S528x1024) ![0, 0] S8x1024.size inb_S528x1024_S8x1024_0_0, w4⟩]
        (Rect.unit (s := S528x1024) ![0, 0] S528x1024.size inb_S528x1024_S528x1024_0_0).toLoadRect = pieced w4 w5 w6 :=
    fun w4 w5 w6 => (View.readAt_full ..).trans (funext fun y => xe_read _ _ w4 w5 w6 y)
  have s15' : ∀ (w4 : Vec F S8x1024 .f32) (w5 : Vec F S512x1024 .f32) (w6 : Vec F S8x1024 .f32),
      arg15.view.readCov [⟨Rect.unit (s := S528x1024) ![520, 0] S8x1024.size inb_S528x1024_S8x1024_520_0, w6⟩,
        ⟨Rect.unit (s := S528x1024) ![8, 0] S512x1024.size inb_S528x1024_S512x1024_8_0, w5⟩,
        ⟨Rect.unit (s := S528x1024) ![0, 0] S8x1024.size inb_S528x1024_S8x1024_0_0, w4⟩]
        (Rect.unit (s := S528x1024) ![8, 0] S512x1024.size inb_S528x1024_S512x1024_8_0).toLoadRect = w5 :=
    fun w4 w5 w6 => funext fun y => (xe_read arg15.view arg15.view.junk w4 w5 w6 _).trans (pieced_mid w4 w5 w6 y)
  simp only [e2, e3, e4, e5, e6, e9, s15']
  exact (View.read_writes_full ..).trans rfl

theorem out11_eq : out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 = xbcB (k0_pay7 (BitVec.ofNat 32 (i 1).val)) (k0_pay8 (xeB x0 x1 x2 x3 x4) x6) x8 x9 := by
  unfold out0_A_11 kernelRun0_A
  dsimp only
  sl_unfold_words
  have e2 : arg2.view.readAt (Elt F) (Rect.unit (s := S1x512x1024) ![0, 0, 0] S1x512x1024.size inb_S1x512x1024_S1x512x1024_0_0_0).toLoadRect (harg2.unread x0) = x0 := (View.readAt_full ..).trans (harg2.read_unread x0)
  have e3 : arg3.view.readAt (Elt F) (Rect.unit (s := S1x8x1024) ![0, 0, 0] S1x8x1024.size inb_S1x8x1024_S1x8x1024_0_0_0).toLoadRect (harg3.unread x1) = x1 := (View.readAt_full ..).trans (harg3.read_unread x1)
  have e4 : arg4.view.readAt (Elt F) (Rect.unit (s := S1x8x1024) ![0, 0, 0] S1x8x1024.size inb_S1x8x1024_S1x8x1024_0_0_0).toLoadRect (harg4.unread x2) = x2 := (View.readAt_full ..).trans (harg4.read_unread x2)
  have e5 : arg5.view.readAt (Elt F) (Rect.unit (s := S1x1x1024) ![0, 0, 0] S1x1x1024.size inb_S1x1x1024_S1x1x1024_0_0_0).toLoadRect (harg5.unread x3) = x3 := (View.readAt_full ..).trans (harg5.read_unread x3)
  have e6 : arg6.view.readAt (Elt F) (Rect.unit (s := S1x1x1024) ![0, 0, 0] S1x1x1024.size inb_S1x1x1024_S1x1x1024_0_0_0).toLoadRect (harg6.unread x4) = x4 := (View.readAt_full ..).trans (harg6.read_unread x4)
  have e8 : arg8.view.readAt (Elt F) (Rect.unit (s := S1024x1536) ![0, 0] S1024x1536.size inb_S1024x1536_S1024x1536_0_0).toLoadRect (harg8.unread x6) = x6 := (View.readAt_full ..).trans (harg8.read_unread x6)
  have s15 : ∀ (w4 : Vec F S8x1024 .f32) (w5 : Vec F S512x1024 .f32) (w6 : Vec F S8x1024 .f32),
      arg15.view.readCov [⟨Rect.unit (s := S528x1024) ![520, 0] S8x1024.size inb_S528x1024_S8x1024_520_0, w6⟩,
        ⟨Rect.unit (s := S528x1024) ![8, 0] S512x1024.size inb_S528x1024_S512x1024_8_0, w5⟩,
        ⟨Rect.unit (s := S528x1024) ![0, 0] S8x1024.size inb_S528x1024_S8x1024_0_0, w4⟩]
        (Rect.unit (s := S528x1024) ![0, 0] S528x1024.size inb_S528x1024_S528x1024_0_0).toLoadRect = pieced w4 w5 w6 :=
    fun w4 w5 w6 => (View.readAt_full ..).trans (funext fun y => xe_read _ _ w4 w5 w6 y)
  have s15' : ∀ (w4 : Vec F S8x1024 .f32) (w5 : Vec F S512x1024 .f32) (w6 : Vec F S8x1024 .f32),
      arg15.view.readCov [⟨Rect.unit (s := S528x1024) ![520, 0] S8x1024.size inb_S528x1024_S8x1024_520_0, w6⟩,
        ⟨Rect.unit (s := S528x1024) ![8, 0] S512x1024.size inb_S528x1024_S512x1024_8_0, w5⟩,
        ⟨Rect.unit (s := S528x1024) ![0, 0] S8x1024.size inb_S528x1024_S8x1024_0_0, w4⟩]
        (Rect.unit (s := S528x1024) ![8, 0] S512x1024.size inb_S528x1024_S512x1024_8_0).toLoadRect = w5 :=
    fun w4 w5 w6 => funext fun y => (xe_read arg15.view arg15.view.junk w4 w5 w6 _).trans (pieced_mid w4 w5 w6 y)
  have s16 : ∀ (w : Vec F S528x1536 .f32) (o : ℕ) (ho : o < 1281) (inb : ∀ a, (![0, o] : Fin 2 → ℕ) a + S528x256.size a ≤ S528x1536.size a),
      arg16.view.readCov [⟨Rect.unit (s := S528x1536) ![0, 0] S528x1536.size inb_S528x1536_S528x1536_0_0, w⟩]
      (Rect.unit (s := S528x1536) ![0, o] S528x256.size inb).toLoadRect = cols ⟨o, ho⟩ w := fun w o ho inb => funext fun y =>
    (congrFun (View.read_writes_full ..) _).trans (congrArg w (funext fun a => Fin.ext (match a with
      | ⟨0, _⟩ => by show 0 + 1 * (y 0).val = (y 0).val; omega
      | ⟨1, _⟩ => by show o + 1 * (y 1).val = o + (y 1).val; omega)))
  have e10 : ∀ (k o : ℕ) (inb : ∀ a, (![k, o] : Fin 2 → ℕ) a + S1x256.size a ≤ S5x1536.size a),
      arg10.view.readAt (Elt F) (Rect.unit (s := S5x1536) ![k, o] S1x256.size inb).toLoadRect (harg10.unread x8)
        = wcols (Fin.ofNat 5 k) (Fin.ofNat 1281 o) x8 := by
    intro k o inb
    have hk : k + 1 ≤ 5 := inb 0
    have ho : o + 256 ≤ 1536 := inb 1
    refine funext fun y => (congrFun (harg10.read_unread x8) _).trans (congrArg x8 (funext fun a => Fin.ext ?_))
    match a with
    | ⟨0, _⟩ => show k + 1 * (y 0).val = k % 5; have h : (y 0).val < 1 := (y 0).isLt; omega
    | ⟨1, _⟩ => show o + 1 * (y 1).val = o % 1281 + (y 1).val; omega
  have e11 : ∀ (o : ℕ) (ho : o < 1281) (inb : ∀ a, (![0, o] : Fin 2 → ℕ) a + S1x256.size a ≤ S1x1536.size a),
      arg11.view.readAt (Elt F) (Rect.unit (s := S1x1536) ![0, o] S1x256.size inb).toLoadRect (harg11.unread x9) = bcols ⟨o, ho⟩ x9 :=
    fun o ho inb => funext fun y => (congrFun (harg11.read_unread x9) _).trans (congrArg x9 (funext fun a => Fin.ext (match a with
      | ⟨0, _⟩ => by show 0 + 1 * (y 0).val = 0; have h : (y 0).val < 1 := (y 0).isLt; omega
      | ⟨1, _⟩ => by show o + 1 * (y 1).val = o + (y 1).val; omega)))
  simp only [e2, e3, e4, e5, e6, e8, s15]
  rw [s16 _ 0 (by decide), s16 _ 256 (by decide), s16 _ 512 (by decide), s16 _ 768 (by decide), s16 _ 1024 (by decide), s16 _ 1280 (by decide)]
  rw [e11 0 (by decide), e11 256 (by decide), e11 512 (by decide), e11 768 (by decide), e11 1024 (by decide), e11 1280 (by decide)]
  simp only [e10]
  funext y
  refine Eq.trans ?_ (six_read VO0_11 VO0_11.junk (fun n => groupB n (k0_pay7 (BitVec.ofNat 32 (i 1).val)) (k0_pay8 (xeB x0 x1 x2 x3 x4) x6) x8 x9) y)
  rfl

end Body

end Cert.Kernel3Ideal.Inp
end
-- ==== Proof.InpBlocks.lean ====
/-
  The input projection from its grid's points to whole arrays: which part of its array each window's block is, and the
  result arrays the run ends with, block by block.
-/
module

public import proofs.«01_k».proof.Proof.InpOut

@[expose] public section

noncomputable section

namespace Cert.Kernel3Ideal.Inp

open Cert.Inp
open Cert.Kernel3Ideal Cert.Kernel3Ideal.Gen
open Idealize.ShloMosaic Idealize.ShloMosaic.TcCoe Idealize.ShloMosaic.Tactic
open Idealize.SL.Sem

variable (m : (ℓ : Loc nD τ sig) → Buf (Elt Ideal) ℓ)

/-- The grid point of a batch element and a block of rows. -/
def point (b : Fin 8) (i : Fin 16) : Fin cfg0.N := ⟨b.val * 16 + i.val, by show _ < grid0.N; rw [N_0]; omega⟩

theorem coords1 : ∀ (b : Fin 8) (i : Fin 16), ((grid0.coords (point b i)) 1).val = i.val := by decide +kernel

theorem idx0 : ∀ (b : Fin 8) (i : Fin 16), win0_0.index (point b i) (0 : Fin 3) = b.val ∧ win0_0.index (point b i) (1 : Fin 3) = i.val
    ∧ win0_0.index (point b i) (2 : Fin 3) = 0 := by decide +kernel
theorem idx1 : ∀ (b : Fin 8) (i : Fin 16), win0_1.index (point b i) (0 : Fin 3) = b.val ∧ win0_1.index (point b i) (1 : Fin 3) = 64 * i.val - 1
    ∧ win0_1.index (point b i) (2 : Fin 3) = 0 := by decide +kernel
theorem idx2 : ∀ (b : Fin 8) (i : Fin 16), win0_2.index (point b i) (0 : Fin 3) = b.val ∧ win0_2.index (point b i) (1 : Fin 3) = min (64 * (i.val + 1)) 1023
    ∧ win0_2.index (point b i) (2 : Fin 3) = 0 := by decide +kernel
theorem idx3 : ∀ (b : Fin 8) (i : Fin 16), win0_3.index (point b i) (0 : Fin 3) = b.val ∧ win0_3.index (point b i) (1 : Fin 3) = 0
    ∧ win0_3.index (point b i) (2 : Fin 3) = 0 := by decide +kernel
theorem idx4 : ∀ (b : Fin 8) (i : Fin 16), win0_4.index (point b i) (0 : Fin 3) = b.val ∧ win0_4.index (point b i) (1 : Fin 3) = 0
    ∧ win0_4.index (point b i) (2 : Fin 3) = 0 := by decide +kernel
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)
theorem idx8 : ∀ t : Fin cfg0.N, win0_8.index t (0 : Fin 2) = 0 ∧ win0_8.index t (1 : Fin 2) = 0 := (by decide +kernel : ∀ t : Fin grid0.N, _)
theorem idx9 : ∀ t : Fin cfg0.N, win0_9.index t (0 : Fin 2) = 0 ∧ win0_9.index t (1 : Fin 2) = 0 := (by decide +kernel : ∀ t : Fin grid0.N, _)

/-! An input block at an index is its array at the block's corner plus the index. -/

theorem iblk0_at (c : Dev nD) (b : Fin 8) (i : Fin 16) (r : Fin 512) (d : Fin 1024) :
    iblk m c 0 (point b i) (ix3 (n0 := 1) (n1 := 512) (n2 := 1024) 0 r d)
      = m ((c : Thread nD τ).loc main_arg0) (ix3 (n0 := 8) (n1 := 8192) (n2 := 1024) b ⟨512 * i.val + r.val, by omega⟩ d) := by
  obtain ⟨e0, e1, e2⟩ := idx0 b i
  refine Eq.trans ?_ (congrFun (V_main_arg0 m c) _)
  refine congrArg (V m c main_arg0) (funext fun a => Fin.ext ?_)
  match a with
  | ⟨0, _⟩ => show win0_0.index (point b i) (0 : Fin 3) * 1 + 1 * 0 = b.val; omega
  | ⟨1, _⟩ => show win0_0.index (point b i) (1 : Fin 3) * 512 + 1 * r.val = 512 * i.val + r.val; omega
  | ⟨2, _⟩ => show win0_0.index (point b i) (2 : Fin 3) * 1024 + 1 * d.val = d.val; omega

theorem iblk1_at (c : Dev nD) (b : Fin 8) (i : Fin 16) (r : Fin 8) (d : Fin 1024) :
    iblk m c 1 (point b i) (ix3 (n0 := 1) (n1 := 8) (n2 := 1024) 0 r d)
      = m ((c : Thread nD τ).loc main_arg0) (ix3 (n0 := 8) (n1 := 8192) (n2 := 1024) b ⟨(64 * i.val - 1) * 8 + r.val, by omega⟩ d) := by
  obtain ⟨e0, e1, e2⟩ := idx1 b i
  refine Eq.trans ?_ (congrFun (V_main_arg0 m c) _)
  refine congrArg (V m c main_arg0) (funext fun a => Fin.ext ?_)
  match a with
  | ⟨0, _⟩ => show win0_1.index (point b i) (0 : Fin 3) * 1 + 1 * 0 = b.val; omega
  | ⟨1, _⟩ => show win0_1.index (point b i) (1 : Fin 3) * 8 + 1 * r.val = (64 * i.val - 1) * 8 + r.val; omega
  | ⟨2, _⟩ => show win0_1.index (point b i) (2 : Fin 3) * 1024 + 1 * d.val = d.val; omega

theorem iblk2_at (c : Dev nD) (b : Fin 8) (i : Fin 16) (r : Fin 8) (d : Fin 1024) :
    iblk m c 2 (point b i) (ix3 (n0 := 1) (n1 := 8) (n2 := 1024) 0 r d)
      = m ((c : Thread nD τ).loc main_arg0) (ix3 (n0 := 8) (n1 := 8192) (n2 := 1024) b ⟨min (64 * (i.val + 1)) 1023 * 8 + r.val, by omega⟩ d) := by
  obtain ⟨e0, e1, e2⟩ := idx2 b i
  refine Eq.trans ?_ (congrFun (V_main_arg0 m c) _)
  refine congrArg (V m c main_arg0) (funext fun a => Fin.ext ?_)
  match a with
  | ⟨0, _⟩ => show win0_2.index (point b i) (0 : Fin 3) * 1 + 1 * 0 = b.val; omega
  | ⟨1, _⟩ => show win0_2.index (point b i) (1 : Fin 3) * 8 + 1 * r.val = min (64 * (i.val + 1)) 1023 * 8 + r.val; omega
  | ⟨2, _⟩ => show win0_2.index (point b i) (2 : Fin 3) * 1024 + 1 * d.val = d.val; omega

theorem iblk3_at (c : Dev nD) (b : Fin 8) (i : Fin 16) (d : Fin 1024) :
    iblk m c 3 (point b i) (ix3 (n0 := 1) (n1 := 1) (n2 := 1024) 0 0 d)
      = m ((c : Thread nD τ).loc main_arg2) (ix3 (n0 := 8) (n1 := 1) (n2 := 1024) b 0 d) := by
  obtain ⟨e0, e1, e2⟩ := idx3 b i
  refine Eq.trans ?_ (congrFun (V_main_arg2 m c) _)
  refine congrArg (V m c main_arg2) (funext fun a => Fin.ext ?_)
  match a with
  | ⟨0, _⟩ => show win0_3.index (point b i) (0 : Fin 3) * 1 + 1 * 0 = b.val; omega
  | ⟨1, _⟩ => show win0_3.index (point b i) (1 : Fin 3) * 1 + 1 * 0 = 0; omega
  | ⟨2, _⟩ => show win0_3.index (point b i) (2 : Fin 3) * 1024 + 1 * d.val = d.val; omega

theorem iblk4_at (c : Dev nD) (b : Fin 8) (i : Fin 16) (d : Fin 1024) :
    iblk m c 4 (point b i) (ix3 (n0 := 1) (n1 := 1) (n2 := 1024) 0 0 d)
      = m ((c : Thread nD τ).loc main_arg1) (ix3 (n0 := 8) (n1 := 1) (n2 := 1024) b 0 d) := by
  obtain ⟨e0, e1, e2⟩ := idx4 b i
  refine Eq.trans ?_ (congrFun (V_main_arg1 m c) _)
  refine congrArg (V m c main_arg1) (funext fun a => Fin.ext ?_)
  match a with
  | ⟨0, _⟩ => show win0_4.index (point b i) (0 : Fin 3) * 1 + 1 * 0 = b.val; omega
  | ⟨1, _⟩ => show win0_4.index (point b i) (1 : Fin 3) * 1 + 1 * 0 = 0; omega
  | ⟨2, _⟩ => show win0_4.index (point b i) (2 : Fin 3) * 1024 + 1 * d.val = d.val; omega

/-! The weights as the call's first steps lay them out. -/

/-- Two places of the weights in one row whose columns are equal numbers. -/
theorem col_eq (x : S1024x5664.Idx → EReal) (d : Fin 1024) (j j' : Fin 5664) (h : j.val = j'.val) : x (ix2 d j) = x (ix2 d j') :=
  congrArg (fun k => x (ix2 d k)) (Fin.ext h)

/-- The weights without the scan's own and its step columns. -/
def mainW (x : Vec Ideal S1024x5664 .f32) : FVec Ideal S1024x4096 .bf16 :=
  truncf .bf16 (concatenate S1024x4096 1 [⟨S1024x1024, extractStridedSlice S1024x1024 ![0, 0] x slices_S1024x5664_S1024x1024_0_0⟩,
    ⟨S1024x512, extractStridedSlice S1024x512 ![0, 2592] x slices_S1024x5664_S1024x512_0_2592⟩,
    ⟨S1024x512, extractStridedSlice S1024x512 ![0, 3104] x slices_S1024x5664_S1024x512_0_3104⟩,
    ⟨S1024x512, extractStridedSlice S1024x512 ![0, 3616] x slices_S1024x5664_S1024x512_0_3616⟩,
    ⟨S1024x256, extractStridedSlice S1024x256 ![0, 4128] x slices_S1024x5664_S1024x256_0_4128⟩,
    ⟨S1024x256, extractStridedSlice S1024x256 ![0, 4384] x slices_S1024x5664_S1024x256_0_4384⟩,
    ⟨S1024x512, extractStridedSlice S1024x512 ![0, 4640] x slices_S1024x5664_S1024x512_0_4640⟩,
    ⟨S1024x512, extractStridedSlice S1024x512 ![0, 5152] x slices_S1024x5664_S1024x512_0_5152⟩]
    concatenates_S1024x1024_S1024x512_S1024x512_S1024x512_S1024x256_S1024x256_S1024x512_S1024x512_S1024x4096_d1 : FVec Ideal S1024x4096 .f32) bitsLt_bf16_f32

/-- The step columns, each direction's with zeros after them. -/
def stepW (x : Vec Ideal S1024x5664 .f32) : FVec Ideal S1024x256 .bf16 :=
  truncf .bf16 (concatenate S1024x256 1 [⟨S1024x16, extractStridedSlice S1024x16 ![0, 0] (extractStridedSlice S1024x32 ![0, 2560] x slices_S1024x5664_S1024x32_0_2560) slices_S1024x32_S1024x16_0_0⟩,
    ⟨S1024x112, broadcastInDim S1024x112 ![] bcast_S_S1024x112 (constant (F := Ideal) S_ .f32 0#32)⟩,
    ⟨S1024x16, extractStridedSlice S1024x16 ![0, 16] (extractStridedSlice S1024x32 ![0, 2560] x slices_S1024x5664_S1024x32_0_2560) slices_S1024x32_S1024x16_0_16⟩,
    ⟨S1024x112, broadcastInDim S1024x112 ![] bcast_S_S1024x112 (constant (F := Ideal) S_ .f32 0#32)⟩]
    concatenates_S1024x16_S1024x112_S1024x16_S1024x112_S1024x256_d1 : FVec Ideal S1024x256 .f32) bitsLt_bf16_f32

theorem mainW_apply (x : Vec Ideal S1024x5664 .f32) (d : Fin 1024) (j : Fin 4096) : mainW x (ix2 d j) = x (ix2 d (mainCol j)) := by
  pointwise [mainW]
  unfold mainCol
  split_ifs <;> exact col_eq x d _ _ (by dsimp only <;> omega)

theorem stepW_apply (x : Vec Ideal S1024x5664 .f32) (d : Fin 1024) (j : Fin 256) :
    stepW x (ix2 d j) = if h : j.val < 16 then x (ix2 d ⟨2560 + j.val, by omega⟩)
      else if h : 128 ≤ j.val ∧ j.val < 144 then x (ix2 d ⟨2448 + j.val, by omega⟩) else 0 := by
  pointwise [stepW]
  by_cases h0 : j.val < 16
  · rw [dif_pos h0, dif_pos h0]
  · rw [dif_neg h0, dif_neg h0]
    by_cases h1 : j.val - 16 < 112
    · rw [dif_pos h1, dif_neg (by omega)]
    · rw [dif_neg h1]
      by_cases h2 : j.val - 16 - 112 < 16
      · rw [dif_pos h2, dif_pos (by omega)]
        exact col_eq x d _ _ (by show 2560 + (16 + (j.val - 16 - 112)) = 2448 + j.val; omega)
      · rw [dif_neg h2, dif_neg (by omega)]

set_option maxRecDepth 16384 in
theorem V_v15 (c : Dev nD) : (V m c main_v15 : S1024x4096.Idx → EReal) = mainW (m ((c : Thread nD τ).loc main_arg3)) := by
  dsimp only [V, hostOps0]; after_results; rfl

set_option maxRecDepth 16384 in
theorem V_v17 (c : Dev nD) : (V m c main_v17 : S1024x256.Idx → EReal) = stepW (m ((c : Thread nD τ).loc main_arg3)) := by
  dsimp only [V, hostOps0]; after_results; rfl

set_option maxRecDepth 16384 in
theorem V_v16 (c : Dev nD) (d : Fin 1024) (j : Fin 1536) :
    V m c main_v16 (ix2 (n0 := 1024) (n1 := 1536) d j)
      = m ((c : Thread nD τ).loc main_arg3) (ix2 (n0 := 1024) (n1 := 5664) d ⟨1024 + j.val, by omega⟩) := by
  dsimp only [V, hostOps0]
  after_results
  generalize m ((c : Thread nD τ).loc main_arg3) = x
  pointwise

set_option maxRecDepth 16384 in
theorem V_v18 (c : Dev nD) (j : Fin 1536) :
    V m c main_v18 (ix2 (n0 := 1) (n1 := 1536) 0 j) = m ((c : Thread nD τ).loc main_arg5) (ix1 (n0 := 1536) j) := by
  have h : V m c main_v18 = shapeCast S1x1536 (m ((c : Thread nD τ).loc main_arg5)) shapeCasts_S1536_S1x1536 := by
    dsimp only [V, hostOps0]; after_results; rfl
  rw [h]
  generalize m ((c : Thread nD τ).loc main_arg5) = x
  pointwise

theorem iblk5_at (c : Dev nD) (t : Fin cfg0.N) (r : Fin 1024) (j : Fin 4096) :
    iblk m c 5 t (ix2 (n0 := 1024) (n1 := 4096) r j) = m ((c : Thread nD τ).loc main_arg3) (ix2 (n0 := 1024) (n1 := 5664) r (mainCol j)) := by
  obtain ⟨e0, e1⟩ := idx5 t
  refine Eq.trans ?_ ((congrFun (V_v15 m c) _).trans (mainW_apply _ r j))
  refine congrArg (V m c main_v15) (funext fun a => Fin.ext ?_)
  match a with
  | ⟨0, _⟩ => show win0_5.index t (0 : Fin 2) * 1024 + 1 * r.val = r.val; omega
  | ⟨1, _⟩ => show win0_5.index t (1 : Fin 2) * 4096 + 1 * j.val = j.val; omega

theorem iblk6_at (c : Dev nD) (t : Fin cfg0.N) (r : Fin 1024) (j : Fin 1536) :
    iblk m c 6 t (ix2 (n0 := 1024) (n1 := 1536) r j)
      = m ((c : Thread nD τ).loc main_arg3) (ix2 (n0 := 1024) (n1 := 5664) r ⟨1024 + j.val, by omega⟩) := by
  obtain ⟨e0, e1⟩ := idx6 t
  refine Eq.trans ?_ (V_v16 m c r j)
  refine congrArg (V m c main_v16) (funext fun a => Fin.ext ?_)
  match a with
  | ⟨0, _⟩ => show win0_6.index t (0 : Fin 2) * 1024 + 1 * r.val = r.val; omega
  | ⟨1, _⟩ => show win0_6.index t (1 : Fin 2) * 1536 + 1 * j.val = j.val; omega

theorem iblk7_at (c : Dev nD) (t : Fin cfg0.N) (r : Fin 1024) (j : Fin 256) :
    iblk m c 7 t (ix2 (n0 := 1024) (n1 := 256) r j) = stepW (m ((c : Thread nD τ).loc main_arg3)) (ix2 (n0 := 1024) (n1 := 256) r j) := by
  obtain ⟨e0, e1⟩ := idx7 t
  refine Eq.trans ?_ (congrFun (V_v17 m c) _)
  refine congrArg (V m c main_v17) (funext fun a => Fin.ext ?_)
  match a with
  | ⟨0, _⟩ => show win0_7.index t (0 : Fin 2) * 1024 + 1 * r.val = r.val; omega
  | ⟨1, _⟩ => show win0_7.index t (1 : Fin 2) * 256 + 1 * j.val = j.val; omega

theorem iblk8_at (c : Dev nD) (t : Fin cfg0.N) (r : Fin 5) (j : Fin 1536) :
    iblk m c 8 t (ix2 (n0 := 5) (n1 := 1536) r j) = m ((c : Thread nD τ).loc main_arg4) (ix2 (n0 := 5) (n1 := 1536) r j) := by
  obtain ⟨e0, e1⟩ := idx8 t
  refine Eq.trans ?_ (congrFun (V_main_arg4 m c) _)
  refine congrArg (V m c main_arg4) (funext fun a => Fin.ext ?_)
  match a with
  | ⟨0, _⟩ => show win0_8.index t (0 : Fin 2) * 5 + 1 * r.val = r.val; omega
  | ⟨1, _⟩ => show win0_8.index t (1 : Fin 2) * 1536 + 1 * j.val = j.val; omega

theorem iblk9_at (c : Dev nD) (t : Fin cfg0.N) (j : Fin 1536) :
    iblk m c 9 t (ix2 (n0 := 1) (n1 := 1536) 0 j) = m ((c : Thread nD τ).loc main_arg5) (ix1 (n0 := 1536) j) := by
  obtain ⟨e0, e1⟩ := idx9 t
  refine Eq.trans ?_ (V_v18 m c j)
  refine congrArg (V m c main_v18) (funext fun a => Fin.ext ?_)
  match a with
  | ⟨0, _⟩ => show win0_9.index t (0 : Fin 2) * 1 + 1 * 0 = 0; omega
  | ⟨1, _⟩ => show win0_9.index t (1 : Fin 2) * 1536 + 1 * j.val = j.val; omega

/-! The result arrays. -/

/-- An array put together from its blocks: at each index, the block of its batch element and its block of rows. -/
def joined {α : Type} {n : ℕ} (f : Fin cfg0.N → (⟨3, ![1, 512, n]⟩ : Shape).Idx → α) : (⟨3, ![8, 8192, n]⟩ : Shape).Idx → α := fun y =>
  f (point ⟨(y 0).val, (y 0).isLt⟩ ⟨(y 1).val / 512, by have h : (y 1).val < 8192 := (y 1).isLt; omega⟩)
    (ix3 (n0 := 1) (n1 := 512) (n2 := n) 0 ⟨(y 1).val % 512, Nat.mod_lt _ (by decide)⟩ ⟨(y 2).val, (y 2).isLt⟩)

/-- The put-together array read at row `512 * (t % 16) + r` of batch element `t / 16` is the point's block at row `r`. -/
theorem joined_at {α : Type} {n : ℕ} (f : Fin cfg0.N → (⟨3, ![1, 512, n]⟩ : Shape).Idx → α) (t : Fin cfg0.N)
    (x : (⟨3, ![1, 512, n]⟩ : Shape).Idx) (y : (⟨3, ![8, 8192, n]⟩ : Shape).Idx) (h0 : (y 0).val = t.val / 16)
    (h1 : (y 1).val = t.val % 16 * 512 + (x 1).val) (h2 : (y 2).val = (x 2).val) : f t x = joined f y := by
  have x0 : (x 0).val < 1 := (x 0).isLt
  have x1 : (x 1).val < 512 := (x 1).isLt
  refine congrArg₂ f (Fin.ext ?_) (funext fun a => Fin.ext ?_)
  · show t.val = (y 0).val * 16 + (y 1).val / 512
    omega
  · match a with
    | ⟨0, _⟩ => show (x 0).val = 0; omega
    | ⟨1, _⟩ => show (x 1).val = (y 1).val % 512; omega
    | ⟨2, _⟩ => exact h2.symm

/-- The three blocks at a grid point. -/
def mainBlk (c : Dev nD) (t : Fin cfg0.N) : FVec Ideal S1x512x4096 .bf16 := k0_pay10 (k0_pay5 (iblk m c 3 t) (iblk m c 4 t) (iblk m c 0 t)) (iblk m c 5 t)
def xbcBlk (c : Dev nD) (t : Fin cfg0.N) : FVec Ideal S1x512x1536 .bf16 :=
  xbcB (k0_pay7 (BitVec.ofNat 32 ((grid0.coords t) 1).val))
    (k0_pay8 (xeB (iblk m c 0 t) (iblk m c 1 t) (iblk m c 2 t) (iblk m c 3 t) (iblk m c 4 t)) (iblk m c 6 t)) (iblk m c 8 t) (iblk m c 9 t)
def stepBlk (c : Dev nD) (t : Fin cfg0.N) : FVec Ideal S1x512x256 .f32 :=
  k0_pay12 (k0_pay11 (k0_pay5 (iblk m c 3 t) (iblk m c 4 t) (iblk m c 0 t)) (iblk m c 7 t))

theorem outs_main (c : Dev nD) (t : Fin cfg0.N) : (outsAt0 m c t).1 = mainBlk m c t := by
  unfold outsAt0; dsimp only; exact out10_eq (F := Ideal) ..
theorem outs_xbc (c : Dev nD) (t : Fin cfg0.N) : (outsAt0 m c t).2.1 = xbcBlk m c t := by
  unfold outsAt0; dsimp only; exact out11_eq (F := Ideal) ..
theorem outs_step (c : Dev nD) (t : Fin cfg0.N) : (outsAt0 m c t).2.2 = stepBlk m c t := by
  unfold outsAt0; dsimp only; exact out12_eq (F := Ideal) ..

/-- The result arrays. -/
def mainRes (c : Dev nD) : FVec Ideal S8x8192x4096 .bf16 := joined (mainBlk m c)
def xbcRes (c : Dev nD) : FVec Ideal S8x8192x1536 .bf16 := joined (xbcBlk m c)
def stepRes (c : Dev nD) : FVec Ideal S8x8192x256 .f32 := joined (stepBlk m c)

/-- The grid point whose blocks hold an index of a result, by the index's first two places. -/
theorem holder (b t : ℕ) (hb : b < 8) (ht : t < 8192) : ∃ p : Fin cfg0.N, p.val / 16 = b ∧ p.val % 16 = t / 512 :=
  ⟨point ⟨b, hb⟩ ⟨t / 512, by omega⟩, by show (b * 16 + t / 512) / 16 = b; omega, by show (b * 16 + t / 512) % 16 = t / 512; omega⟩

theorem idx10 : ∀ t : Fin cfg0.N, win0_10.index t (0 : Fin 3) = t.val / 16 ∧ win0_10.index t (1 : Fin 3) = t.val % 16
    ∧ win0_10.index t (2 : Fin 3) = 0 := (by decide +kernel : ∀ t : Fin grid0.N, _)
theorem xsize10 : ∀ t : Fin cfg0.N, win0_10.xsize (grid0.coords t) (0 : Fin 3) = 1 ∧ win0_10.xsize (grid0.coords t) (1 : Fin 3) = 512
    ∧ win0_10.xsize (grid0.coords t) (2 : Fin 3) = 4096 := (by decide +kernel : ∀ t : Fin grid0.N, _)

theorem flushed_main (c : Dev nD) (t : Fin cfg0.N) :
    (dats m 0 c).flushed 10 t = ((cfg0.win 10).blk t).view.read (Elt Ideal) (mainRes m c) := by
  rw [Cert.Kernel3Ideal.Value.flushed10, outs_main]
  obtain ⟨e0, e1, e2⟩ := idx10 t
  funext j
  have h0 : (j 0).val < 1 := (xsize10 t).1 ▸ (j 0).isLt
  refine joined_at (mainBlk m c) t _ (((cfg0.win 10).blk t).view.emb j) ?_ ?_ ?_
  · show win0_10.index t (0 : Fin 3) * 1 + 1 * (j 0).val = t.val / 16; omega
  · show win0_10.index t (1 : Fin 3) * 512 + 1 * (j 1).val = t.val % 16 * 512 + (j 1).val; omega
  · show win0_10.index t (2 : Fin 3) * 4096 + 1 * (j 2).val = (j 2).val; omega

theorem cover_main (i : S8x8192x4096.Idx) : ∃ t : Fin cfg0.N, (cfg0.win 10).flush t = true ∧ i ∈ ((cfg0.win 10).blk t).view.set := by
  have i0 : (i 0).val < 8 := (i 0).isLt
  have i1 : (i 1).val < 8192 := (i 1).isLt
  have i2 : (i 2).val < 4096 := (i 2).isLt
  obtain ⟨t, p0, p1⟩ := holder (i 0).val (i 1).val i0 i1
  refine ⟨t, flush0_10 _, ?_⟩
  show i ∈ ((View.whole main_v19_0).slice (win0_10.rect t)).set
  rw [View.set_slice_whole, Rect.mem_set_unit]
  obtain ⟨e0, e1, e2⟩ := idx10 t
  obtain ⟨x0, x1, x2⟩ := xsize10 t
  intro a
  match a with
  | ⟨0, _⟩ =>
    show win0_10.index t (0 : Fin 3) * 1 ≤ (i 0).val ∧ (i 0).val < win0_10.index t (0 : Fin 3) * 1 + win0_10.xsize (grid0.coords t) (0 : Fin 3)
    rw [x0]; omega
  | ⟨1, _⟩ =>
    show win0_10.index t (1 : Fin 3) * 512 ≤ (i 1).val ∧ (i 1).val < win0_10.index t (1 : Fin 3) * 512 + win0_10.xsize (grid0.coords t) (1 : Fin 3)
    rw [x1]; omega
  | ⟨2, _⟩ =>
    show win0_10.index t (2 : Fin 3) * 4096 ≤ (i 2).val ∧ (i 2).val < win0_10.index t (2 : Fin 3) * 4096 + win0_10.xsize (grid0.coords t) (2 : Fin 3)
    rw [x2]; omega

theorem final_main (c : Dev nD) : (dats m 0 c).arrAt 10 cfg0.N = mainRes m c :=
  (dats m 0 c).arrAt_eq_of_cover 10 (mainRes m c) (fun t _ => flushed_main m c t) cover_main

theorem idx11 : ∀ t : Fin cfg0.N, win0_11.index t (0 : Fin 3) = t.val / 16 ∧ win0_11.index t (1 : Fin 3) = t.val % 16
    ∧ win0_11.index t (2 : Fin 3) = 0 := (by decide +kernel : ∀ t : Fin grid0.N, _)
theorem xsize11 : ∀ t : Fin cfg0.N, win0_11.xsize (grid0.coords t) (0 : Fin 3) = 1 ∧ win0_11.xsize (grid0.coords t) (1 : Fin 3) = 512
    ∧ win0_11.xsize (grid0.coords t) (2 : Fin 3) = 1536 := (by decide +kernel : ∀ t : Fin grid0.N, _)

theorem flushed_xbc (c : Dev nD) (t : Fin cfg0.N) :
    (dats m 0 c).flushed 11 t = ((cfg0.win 11).blk t).view.read (Elt Ideal) (xbcRes m c) := by
  rw [Cert.Kernel3Ideal.Value.flushed11, outs_xbc]
  obtain ⟨e0, e1, e2⟩ := idx11 t
  funext j
  have h0 : (j 0).val < 1 := (xsize11 t).1 ▸ (j 0).isLt
  refine joined_at (xbcBlk m c) t _ (((cfg0.win 11).blk t).view.emb j) ?_ ?_ ?_
  · show win0_11.index t (0 : Fin 3) * 1 + 1 * (j 0).val = t.val / 16; omega
  · show win0_11.index t (1 : Fin 3) * 512 + 1 * (j 1).val = t.val % 16 * 512 + (j 1).val; omega
  · show win0_11.index t (2 : Fin 3) * 1536 + 1 * (j 2).val = (j 2).val; omega

theorem cover_xbc (i : S8x8192x1536.Idx) : ∃ t : Fin cfg0.N, (cfg0.win 11).flush t = true ∧ i ∈ ((cfg0.win 11).blk t).view.set := by
  have i0 : (i 0).val < 8 := (i 0).isLt
  have i1 : (i 1).val < 8192 := (i 1).isLt
  have i2 : (i 2).val < 1536 := (i 2).isLt
  obtain ⟨t, p0, p1⟩ := holder (i 0).val (i 1).val i0 i1
  refine ⟨t, flush0_11 _, ?_⟩
  show i ∈ ((View.whole main_v19_1).slice (win0_11.rect t)).set
  rw [View.set_slice_whole, Rect.mem_set_unit]
  obtain ⟨e0, e1, e2⟩ := idx11 t
  obtain ⟨x0, x1, x2⟩ := xsize11 t
  intro a
  match a with
  | ⟨0, _⟩ =>
    show win0_11.index t (0 : Fin 3) * 1 ≤ (i 0).val ∧ (i 0).val < win0_11.index t (0 : Fin 3) * 1 + win0_11.xsize (grid0.coords t) (0 : Fin 3)
    rw [x0]; omega
  | ⟨1, _⟩ =>
    show win0_11.index t (1 : Fin 3) * 512 ≤ (i 1).val ∧ (i 1).val < win0_11.index t (1 : Fin 3) * 512 + win0_11.xsize (grid0.coords t) (1 : Fin 3)
    rw [x1]; omega
  | ⟨2, _⟩ =>
    show win0_11.index t (2 : Fin 3) * 1536 ≤ (i 2).val ∧ (i 2).val < win0_11.index t (2 : Fin 3) * 1536 + win0_11.xsize (grid0.coords t) (2 : Fin 3)
    rw [x2]; omega

theorem final_xbc (c : Dev nD) : (dats m 0 c).arrAt 11 cfg0.N = xbcRes m c :=
  (dats m 0 c).arrAt_eq_of_cover 11 (xbcRes m c) (fun t _ => flushed_xbc m c t) cover_xbc

theorem idx12 : ∀ t : Fin cfg0.N, win0_12.index t (0 : Fin 3) = t.val / 16 ∧ win0_12.index t (1 : Fin 3) = t.val % 16
    ∧ win0_12.index t (2 : Fin 3) = 0 := (by decide +kernel : ∀ t : Fin grid0.N, _)
theorem xsize12 : ∀ t : Fin cfg0.N, win0_12.xsize (grid0.coords t) (0 : Fin 3) = 1 ∧ win0_12.xsize (grid0.coords t) (1 : Fin 3) = 512
    ∧ win0_12.xsize (grid0.coords t) (2 : Fin 3) = 256 := (by decide +kernel : ∀ t : Fin grid0.N, _)

theorem flushed_step (c : Dev nD) (t : Fin cfg0.N) :
    (dats m 0 c).flushed 12 t = ((cfg0.win 12).blk t).view.read (Elt Ideal) (stepRes m c) := by
  rw [Cert.Kernel3Ideal.Value.flushed12, outs_step]
  obtain ⟨e0, e1, e2⟩ := idx12 t
  funext j
  have h0 : (j 0).val < 1 := (xsize12 t).1 ▸ (j 0).isLt
  refine joined_at (stepBlk m c) t _ (((cfg0.win 12).blk t).view.emb j) ?_ ?_ ?_
  · show win0_12.index t (0 : Fin 3) * 1 + 1 * (j 0).val = t.val / 16; omega
  · show win0_12.index t (1 : Fin 3) * 512 + 1 * (j 1).val = t.val % 16 * 512 + (j 1).val; omega
  · show win0_12.index t (2 : Fin 3) * 256 + 1 * (j 2).val = (j 2).val; omega

theorem cover_step (i : S8x8192x256.Idx) : ∃ t : Fin cfg0.N, (cfg0.win 12).flush t = true ∧ i ∈ ((cfg0.win 12).blk t).view.set := by
  have i0 : (i 0).val < 8 := (i 0).isLt
  have i1 : (i 1).val < 8192 := (i 1).isLt
  have i2 : (i 2).val < 256 := (i 2).isLt
  obtain ⟨t, p0, p1⟩ := holder (i 0).val (i 1).val i0 i1
  refine ⟨t, flush0_12 _, ?_⟩
  show i ∈ ((View.whole main_v19_2).slice (win0_12.rect t)).set
  rw [View.set_slice_whole, Rect.mem_set_unit]
  obtain ⟨e0, e1, e2⟩ := idx12 t
  obtain ⟨x0, x1, x2⟩ := xsize12 t
  intro a
  match a with
  | ⟨0, _⟩ =>
    show win0_12.index t (0 : Fin 3) * 1 ≤ (i 0).val ∧ (i 0).val < win0_12.index t (0 : Fin 3) * 1 + win0_12.xsize (grid0.coords t) (0 : Fin 3)
    rw [x0]; omega
  | ⟨1, _⟩ =>
    show win0_12.index t (1 : Fin 3) * 512 ≤ (i 1).val ∧ (i 1).val < win0_12.index t (1 : Fin 3) * 512 + win0_12.xsize (grid0.coords t) (1 : Fin 3)
    rw [x1]; omega
  | ⟨2, _⟩ =>
    show win0_12.index t (2 : Fin 3) * 256 ≤ (i 2).val ∧ (i 2).val < win0_12.index t (2 : Fin 3) * 256 + win0_12.xsize (grid0.coords t) (2 : Fin 3)
    rw [x2]; omega

theorem final_step (c : Dev nD) : (dats m 0 c).arrAt 12 cfg0.N = stepRes m c :=
  (dats m 0 c).arrAt_eq_of_cover 12 (stepRes m c) (fun t _ => flushed_step m c t) cover_step

end Cert.Kernel3Ideal.Inp
end
-- ==== Proof.InpRef.lean ====
/-
  The reference's input projection read at an index.
-/
module

public import proofs.«01_k».proof.Proof.InpSpec
public import proofs.«01_k».proof.Proof.Gen.Reference3Ideal.Read
public import Idealize.ShloMosaic.Lib.Pointwise
public import Idealize.ShloMosaic.Lib.KernelVsHost

@[expose] public section

noncomputable section

namespace Cert.Reference3Ideal.Inp

open Cert.Inp
open Cert.Reference3Ideal Cert.Reference3Ideal.Gen Cert.Reference3Ideal.Read
open Idealize.ShloMosaic Idealize.ShloMosaic.TcCoe

variable (x0 : Vec Ideal S8x8192x1024 .f32) (x1 x2 : Vec Ideal S8x1x1024 .f32) (x3 : Vec Ideal S1024x5664 .f32) (x4 : Vec Ideal S5x1536 .f32)
  (x5 : Vec Ideal S1536 .f32)

/-- A row of the input, scaled and shifted. -/
def hid (b : Fin 8) (t : Fin 8192) (d : Fin 1024) : EReal :=
  x0 (ix3 b t d) * (Ideal.ofBits .f32 0x3F800000#32 + x2 (ix3 b 0 d)) + x1 (ix3 b 0 d)

/-- A row's product with a column of the weights. -/
def up (b : Fin 8) (t : Fin 8192) (j : Fin 5664) : EReal := ∑ d : Fin 1024, hid x0 x1 x2 b t d * x3 (ix2 d j)

theorem v5 (b : Fin 8) (t : Fin 8192) (d : Fin 1024) : val_main_v5 x0 x1 x2 (ix3 b t d) = hid x0 x1 x2 b t d := by
  pointwise [val_main_v5, val_main_v4, val_main_v3, val_main_v2, val_main_v1, val_main_v0, val_main_cst, hid]

theorem v6 (b : Fin 8) (t : Fin 8192) (j : Fin 5664) : val_main_v6 x0 x1 x2 x3 (ix3 b t j) = up x0 x1 x2 x3 b t j := by
  unfold up
  simp only [← v5]
  pointwise [val_main_v6]

theorem v8 (b : Fin 8) (t : Fin 8192) (j : Fin 1536) : val_main_v8 x0 x1 x2 x3 (ix3 b t j) = up x0 x1 x2 x3 b t ⟨2592 + j.val, by omega⟩ := by
  rw [← v6]
  pointwise [val_main_v8]

theorem v9 (b : Fin 8) (t : Fin 8192) (j : Fin 1536) : val_main_v9 x0 x1 x2 x3 (ix3 b t j) = up x0 x1 x2 x3 b t ⟨4128 + j.val, by omega⟩ := by
  rw [← v6]
  pointwise [val_main_v9]

theorem v10 (b : Fin 8) (t : Fin 8192) (j : Fin 1024) : val_main_v10 x0 x1 x2 x3 (ix3 b t j) = up x0 x1 x2 x3 b t ⟨j.val, by omega⟩ := by
  rw [← v6]
  pointwise [val_main_v10, val_main_v7]

theorem v11 (b : Fin 8) (t : Fin 8192) (j : Fin 1536) : val_main_v11 x0 x1 x2 x3 (ix3 b t j) = up x0 x1 x2 x3 b t ⟨1024 + j.val, by omega⟩ := by
  rw [← v6]
  pointwise [val_main_v11, val_main_v7]

theorem v53 (b : Fin 8) (t : Fin 8192) (j : Fin 16) : val_main_v53 x0 x1 x2 x3 (ix3 b t j) = up x0 x1 x2 x3 b t ⟨2560 + j.val, by omega⟩ := by
  rw [← v6]
  pointwise [val_main_v53, val_main_v12, val_main_v7]

theorem v54 (b : Fin 8) (t : Fin 8192) (j : Fin 16) : val_main_v54 x0 x1 x2 x3 (ix3 b t j) = up x0 x1 x2 x3 b t ⟨2576 + j.val, by omega⟩ := by
  have e : (⟨2576 + j.val, by omega⟩ : Fin 5664) = ⟨2560 + (16 + j.val), by omega⟩ := Fin.ext (by show 2576 + j.val = 2560 + (16 + j.val); omega)
  rw [e, ← v6]
  pointwise [val_main_v54, val_main_v12, val_main_v7]

theorem up_col (b : Fin 8) (t : Fin 8192) (j j' : Fin 5664) (h : j.val = j'.val) : up x0 x1 x2 x3 b t j = up x0 x1 x2 x3 b t j' :=
  congrArg _ (Fin.ext h)

/-- The first result's columns are the weights' columns but for the scan's own and its step columns. -/
theorem v57 (b : Fin 8) (t : Fin 8192) (j : Fin 4096) :
    val_main_v57 x0 x1 x2 x3 (ix3 b t j) = up x0 x1 x2 x3 b t (Cert.Inp.mainCol j) := by
  pointwise [val_main_v57, val_main_v56]
  unfold mainCol
  by_cases h0 : j.val < 1024
  · rw [dif_pos h0, dif_pos h0, v10]
  · rw [dif_neg h0, dif_neg h0]
    by_cases h1 : j.val - 1024 < 1536
    · rw [dif_pos h1, v8]
      exact up_col _ _ _ _ b t _ _ (by show 2592 + (j.val - 1024) = 1568 + j.val; omega)
    · rw [dif_neg h1, v9]
      exact up_col _ _ _ _ b t _ _ (by show 4128 + (j.val - 1024 - 1536) = 1568 + j.val; omega)

/-- The third result's columns: sixteen steps of one direction, zeros, sixteen of the other, zeros. -/
theorem v55 (b : Fin 8) (t : Fin 8192) (j : Fin 256) :
    val_main_v55 x0 x1 x2 x3 (ix3 b t j) = if h : j.val < 16 then up x0 x1 x2 x3 b t ⟨2560 + j.val, by omega⟩
      else if h : 128 ≤ j.val ∧ j.val < 144 then up x0 x1 x2 x3 b t ⟨2448 + j.val, by omega⟩ else 0 := by
  pointwise [val_main_v55, val_main_v52, val_main_cst_0]
  by_cases h0 : j.val < 16
  · rw [dif_pos h0, dif_pos h0, v53]
  · rw [dif_neg h0, dif_neg h0]
    by_cases h1 : j.val - 16 < 112
    · rw [dif_pos h1, dif_neg (by omega)]
    · rw [dif_neg h1]
      by_cases h2 : j.val - 16 - 112 < 16
      · rw [dif_pos h2, dif_pos (by omega), v54]
        exact up_col _ _ _ _ b t _ _ (by show 2576 + (j.val - 16 - 112) = 2448 + j.val; omega)
      · rw [dif_neg h2, dif_neg (by omega)]

theorem v13 (b : Fin 8) (t : Fin 8196) (j : Fin 1536) :
    val_main_v13 x0 x1 x2 x3 (ix3 b t j) = if h : 2 ≤ t.val ∧ t.val < 8194 then up x0 x1 x2 x3 b ⟨t.val - 2, by omega⟩ ⟨1024 + j.val, by omega⟩ else 0 := by
  simp only [← v11]
  pointwise [val_main_v13, val_main_call0_v0, val_main_c]
  by_cases h : 2 ≤ t.val ∧ t.val < 8194
  · rw [dif_pos h, dif_pos ⟨h.1, by omega⟩]
  · rw [dif_neg h, dif_neg (by omega)]
    exact sitofp_zero (φ := .f32)

theorem v50 (b : Fin 8) (t : Fin 8192) (j : Fin 1536) :
    val_main_v50 x0 x1 x2 x3 x4 x5 (ix3 b t j)
      = val_main_v13 x0 x1 x2 x3 (ix3 b ⟨t.val, by omega⟩ j) * x4 (ix2 0 j) + val_main_v13 x0 x1 x2 x3 (ix3 b ⟨1 + t.val, by omega⟩ j) * x4 (ix2 1 j)
        + val_main_v13 x0 x1 x2 x3 (ix3 b ⟨2 + t.val, by omega⟩ j) * x4 (ix2 2 j) + val_main_v13 x0 x1 x2 x3 (ix3 b ⟨3 + t.val, by omega⟩ j) * x4 (ix2 3 j)
        + val_main_v13 x0 x1 x2 x3 (ix3 b ⟨4 + t.val, by omega⟩ j) * x4 (ix2 4 j) + x5 (ix1 j) := by
  pointwise [val_main_v50, val_main_v49, val_main_v48, val_main_v47, val_main_v46, val_main_v45, val_main_v44, val_main_v43, val_main_v42, val_main_v41,
    val_main_v40, val_main_v39, val_main_v38, val_main_v37, val_main_v36, val_main_v35, val_main_v34, val_main_v33, val_main_v32, val_main_v31,
    val_main_v30, val_main_v29, val_main_v28, val_main_v27, val_main_v26, val_main_v25, val_main_v24, val_main_v23, val_main_v22, val_main_v21,
    val_main_v20, val_main_v19, val_main_v18, val_main_v17, val_main_v16, val_main_v15, val_main_v14]

theorem v58 (i : S8x8192x1536.Idx) : val_main_v58 x0 x1 x2 x3 x4 x5 i = silu (val_main_v50 x0 x1 x2 x3 x4 x5 i) := by
  unfold val_main_v58 val_main_v51 val_main_call1_v5 val_main_call1_v4 val_main_call1_v3 val_main_call1_v2 val_main_call1_v1 val_main_call1_v0
    val_main_call1_cst val_main_call1_cst_0
  generalize val_main_v50 x0 x1 x2 x3 x4 x5 = u
  pointwise [silu]

end Cert.Reference3Ideal.Inp
end
-- ==== Proof.InpValue.lean ====
/-
  The input projection's result arrays are the reference's values of the same arguments: the rows a block's convolution reads around
  its own are the neighbouring rows of the array, and zeros beyond its two ends, where the reference pads with zeros.
-/
module

public import proofs.«01_k».proof.Proof.InpBlocks
public import proofs.«01_k».proof.Proof.InpRef

@[expose] public section

noncomputable section

namespace Cert.Kernel3Ideal.Inp

open Cert.Inp
open Cert.Kernel3Ideal Cert.Kernel3Ideal.Gen
open Cert.Reference3Ideal.Read (val_main_v13 val_main_v50 val_main_v55 val_main_v57 val_main_v58)
open Cert.Reference3Ideal.Inp (hid up)
open Idealize.ShloMosaic Idealize.ShloMosaic.TcCoe
open Idealize.SL.Sem

variable (m : (ℓ : Loc nD τ sig) → Buf (Elt Ideal) ℓ) (c : Dev nD)

/-- The arguments. -/
abbrev X0 : Vec Ideal S8x8192x1024 .f32 := m ((c : Thread nD τ).loc main_arg0)
abbrev X1 : Vec Ideal S8x1x1024 .f32 := m ((c : Thread nD τ).loc main_arg1)
abbrev X2 : Vec Ideal S8x1x1024 .f32 := m ((c : Thread nD τ).loc main_arg2)
abbrev X3 : Vec Ideal S1024x5664 .f32 := m ((c : Thread nD τ).loc main_arg3)
abbrev X4 : Vec Ideal S5x1536 .f32 := m ((c : Thread nD τ).loc main_arg4)
abbrev X5 : Vec Ideal S1536 .f32 := m ((c : Thread nD τ).loc main_arg5)

variable (b : Fin 8) (i : Fin 16)

theorem own_row (r : Fin 512) (d : Fin 1024) :
    k0_pay5 (iblk m c 3 (point b i)) (iblk m c 4 (point b i)) (iblk m c 0 (point b i)) (ix2 r d)
      = hid (X0 m c) (X1 m c) (X2 m c) b ⟨512 * i.val + r.val, by omega⟩ d := by
  rw [pay5_apply, iblk0_at, iblk3_at, iblk4_at]
  rfl

theorem main_row (r : Fin 512) (j : Fin 4096) :
    mainBlk m c (point b i) (ix3 (n0 := 1) (n1 := 512) (n2 := 4096) 0 r j)
      = val_main_v57 (X0 m c) (X1 m c) (X2 m c) (X3 m c) (ix3 (n0 := 8) (n1 := 8192) (n2 := 4096) b ⟨512 * i.val + r.val, by omega⟩ j) := by
  unfold mainBlk
  rw [pay10_apply, Cert.Reference3Ideal.Inp.v57]
  unfold up
  refine Finset.sum_congr rfl fun d _ => ?_
  rw [own_row, iblk5_at]

theorem step_row (r : Fin 512) (j : Fin 256) :
    stepBlk m c (point b i) (ix3 (n0 := 1) (n1 := 512) (n2 := 256) 0 r j)
      = val_main_v55 (X0 m c) (X1 m c) (X2 m c) (X3 m c) (ix3 (n0 := 8) (n1 := 8192) (n2 := 256) b ⟨512 * i.val + r.val, by omega⟩ j) := by
  unfold stepBlk
  rw [pay12_apply, Cert.Reference3Ideal.Inp.v55]
  simp only [own_row, iblk7_at, stepW_apply]
  by_cases h0 : j.val < 16
  · simp only [dif_pos h0]; rfl
  · by_cases h1 : 128 ≤ j.val ∧ j.val < 144
    · simp only [dif_neg h0, dif_pos h1]; rfl
    · simp only [dif_neg h0, dif_neg h1, mul_zero, Finset.sum_const_zero]

/-- The rows a block reads at a grid point. -/
def xeAt : Vec Ideal S528x1024 .f32 :=
  xeB (iblk m c 0 (point b i)) (iblk m c 1 (point b i)) (iblk m c 2 (point b i)) (iblk m c 3 (point b i)) (iblk m c 4 (point b i))

/-- The rows the convolution reads, where they lie in the array, are the array's. -/
theorem xe_row (k : Fin 516) (h : 2 ≤ 512 * i.val + k.val ∧ 512 * i.val + k.val < 8194) (d : Fin 1024) :
    xeAt m c b i (ix2 (n0 := 528) (n1 := 1024) ⟨6 + k.val, by omega⟩ d)
      = hid (X0 m c) (X1 m c) (X2 m c) b ⟨512 * i.val + k.val - 2, by omega⟩ d := by
  unfold xeAt xeB pieced
  by_cases h0 : k.val < 2
  · refine (dif_pos (by show 6 + k.val < 8; omega)).trans ?_
    refine (pay4_apply _ _ _ ⟨6 + k.val, by omega⟩ d).trans ?_
    rw [iblk1_at, iblk3_at, iblk4_at]
    exact congrArg (fun t => hid (X0 m c) (X1 m c) (X2 m c) b t d)
      (Fin.ext (by show (64 * i.val - 1) * 8 + (6 + k.val) = 512 * i.val + k.val - 2; omega) : (⟨_, by omega⟩ : Fin 8192) = _)
  · refine (dif_neg (by show ¬ 6 + k.val < 8; omega)).trans ?_
    by_cases h1 : 514 ≤ k.val
    · refine (dif_neg (by show ¬ 6 + k.val < 520; omega)).trans ?_
      refine (pay6_apply _ _ _ ⟨6 + k.val - 520, by omega⟩ d).trans ?_
      rw [iblk2_at, iblk3_at, iblk4_at]
      exact congrArg (fun t => hid (X0 m c) (X1 m c) (X2 m c) b t d)
        (Fin.ext (by show min (64 * (i.val + 1)) 1023 * 8 + (6 + k.val - 520) = 512 * i.val + k.val - 2; omega) : (⟨_, by omega⟩ : Fin 8192) = _)
    · refine (dif_pos (by show 6 + k.val < 520; omega)).trans ?_
      refine (own_row m c b i ⟨6 + k.val - 8, by omega⟩ d).trans ?_
      exact congrArg (fun t => hid (X0 m c) (X1 m c) (X2 m c) b t d)
        (Fin.ext (by show 512 * i.val + (6 + k.val - 8) = 512 * i.val + k.val - 2; omega))

/-- A group's rows, zeros outside the array, are the padded rows of the reference's convolution. -/
theorem kept_row (e : Fin 528) (s : Fin 8196) (h : 512 * i.val + e.val = s.val + 6) (h6 : 6 ≤ e.val) (h' : e.val < 522) (n : Fin 1281) (q : Fin 256) (j : Fin 1536) (hj : n.val + q.val = j.val) :
    kept (k0_pay7 (BitVec.ofNat 32 i.val)) (cols n (k0_pay8 (xeAt m c b i) (iblk m c 6 (point b i)))) e q
      = val_main_v13 (X0 m c) (X1 m c) (X2 m c) (X3 m c) (ix3 (n0 := 8) (n1 := 8196) (n2 := 1536) b s j) := by
  obtain ⟨k, hk⟩ : ∃ k : Fin 516, e.val = 6 + k.val := ⟨⟨e.val - 6, by omega⟩, by show e.val = 6 + (e.val - 6); omega⟩
  have he : e = ⟨6 + k.val, by omega⟩ := Fin.ext hk
  have hj' : (⟨n.val + q.val, by omega⟩ : Fin 1536) = j := Fin.ext hj
  unfold kept
  rw [Cert.Reference3Ideal.Inp.v13]
  by_cases h2 : 2 ≤ s.val ∧ s.val < 8194
  · rw [if_pos ((inside i e).mpr (by omega)), dif_pos h2]
    show k0_pay8 (xeAt m c b i) (iblk m c 6 (point b i)) (ix2 (n0 := 528) (n1 := 1536) e ⟨n.val + q.val, by omega⟩) = _
    rw [pay8_apply, hj', he]
    unfold up
    refine Finset.sum_congr rfl fun d _ => ?_
    rw [xe_row m c b i k (by omega), iblk6_at]
    exact congrArg (fun t => hid (X0 m c) (X1 m c) (X2 m c) b t d * _) (Fin.ext (by show 512 * i.val + k.val - 2 = s.val - 2; omega))
  · rw [if_neg fun h3 => absurd ((inside i e).mp h3) (by omega), dif_neg h2]
    exact Ideal.ofBits_zero_f32

theorem xbc_row (r : Fin 512) (j : Fin 1536) :
    xbcBlk m c (point b i) (ix3 (n0 := 1) (n1 := 512) (n2 := 1536) 0 r j)
      = val_main_v58 (X0 m c) (X1 m c) (X2 m c) (X3 m c) (X4 m c) (X5 m c)
        (ix3 (n0 := 8) (n1 := 8192) (n2 := 1536) b ⟨512 * i.val + r.val, by omega⟩ j) := by
  have hj : 256 * (j.val / 256) + j.val % 256 = j.val := Nat.div_add_mod ..
  have hn : 256 * (j.val / 256) < 1281 := by omega
  have hq : j.val % 256 < 256 := Nat.mod_lt _ (by decide)
  have jj : (⟨256 * (j.val / 256) + j.val % 256, by omega⟩ : Fin 1536) = j := Fin.ext hj
  unfold xbcBlk
  rw [coords1]
  show groupB ⟨256 * (j.val / 256), hn⟩ (k0_pay7 (BitVec.ofNat 32 i.val)) (k0_pay8 (xeAt m c b i) (iblk m c 6 (point b i))) (iblk m c 8 (point b i))
    (iblk m c 9 (point b i)) (ix3 (n0 := 1) (n1 := 512) (n2 := 256) 0 r ⟨j.val % 256, hq⟩) = _
  unfold groupB
  have ew (k : Fin 5) : wcols k ⟨256 * (j.val / 256), hn⟩ (iblk m c 8 (point b i)) (ix2 (n0 := 1) (n1 := 256) 0 ⟨j.val % 256, hq⟩)
      = X4 m c (ix2 k j) :=
    (iblk8_at m c _ k ⟨256 * (j.val / 256) + j.val % 256, by omega⟩).trans (congrArg (fun j => X4 m c (ix2 k j)) jj)
  have eb : bcols ⟨256 * (j.val / 256), hn⟩ (iblk m c 9 (point b i)) (ix2 (n0 := 1) (n1 := 256) 0 ⟨j.val % 256, hq⟩) = X5 m c (ix1 j) :=
    (iblk9_at m c _ ⟨256 * (j.val / 256) + j.val % 256, by omega⟩).trans (congrArg (fun j => X5 m c (ix1 j)) jj)
  have ek (k : ℕ) (hk : k < 528) (s : ℕ) (hs : s < 8196) (h : 512 * i.val + k = s + 6) (h6 : 6 ≤ k) (h' : k < 522) :
      kept (k0_pay7 (BitVec.ofNat 32 i.val)) (cols ⟨256 * (j.val / 256), hn⟩ (k0_pay8 (xeAt m c b i) (iblk m c 6 (point b i)))) ⟨k, hk⟩ ⟨j.val % 256, hq⟩
        = val_main_v13 (X0 m c) (X1 m c) (X2 m c) (X3 m c) (ix3 (n0 := 8) (n1 := 8196) (n2 := 1536) b ⟨s, hs⟩ j) :=
    kept_row m c b i ⟨k, hk⟩ ⟨s, hs⟩ h h6 h' _ _ j hj
  rw [convB_apply, Cert.Reference3Ideal.Inp.v58, Cert.Reference3Ideal.Inp.v50, ew, ew, ew, ew, ew, eb,
    ek (8 + r.val) (by omega) (2 + (512 * i.val + r.val)) (by omega) (by omega) (by omega) (by omega),
    ek (6 + r.val) (by omega) (512 * i.val + r.val) (by omega) (by omega) (by omega) (by omega),
    ek (7 + r.val) (by omega) (1 + (512 * i.val + r.val)) (by omega) (by omega) (by omega) (by omega),
    ek (9 + r.val) (by omega) (3 + (512 * i.val + r.val)) (by omega) (by omega) (by omega) (by omega),
    ek (10 + r.val) (by omega) (4 + (512 * i.val + r.val)) (by omega) (by omega) (by omega) (by omega)]
  refine congrArg silu ?_
  abel

/-- An array whose blocks are another array's blocks is that array. -/
theorem joined_eq {α : Type} {n : ℕ} (f : Fin cfg0.N → (⟨3, ![1, 512, n]⟩ : Shape).Idx → α) (g : (⟨3, ![8, 8192, n]⟩ : Shape).Idx → α)
    (h : ∀ (b : Fin 8) (i : Fin 16) (r : Fin 512) (j : Fin n), f (point b i) (ix3 (n0 := 1) (n1 := 512) (n2 := n) 0 r j)
      = g (ix3 (n0 := 8) (n1 := 8192) (n2 := n) b ⟨512 * i.val + r.val, by omega⟩ j)) : joined f = g := by
  funext x
  have x0 : (x 0).val < 8 := (x 0).isLt
  have x1 : (x 1).val < 8192 := (x 1).isLt
  refine (h ⟨(x 0).val, x0⟩ ⟨(x 1).val / 512, by omega⟩ ⟨(x 1).val % 512, Nat.mod_lt _ (by decide)⟩ ⟨(x 2).val, (x 2).isLt⟩).trans ?_
  refine congrArg g (funext fun a => Fin.ext ?_)
  match a with
  | ⟨0, _⟩ => rfl
  | ⟨1, _⟩ => exact Nat.div_add_mod (x 1).val 512
  | ⟨2, _⟩ => rfl

/-- The result arrays are the reference's values of the same arguments. -/
theorem main_eq : mainRes m c = val_main_v57 (X0 m c) (X1 m c) (X2 m c) (X3 m c) := joined_eq (mainBlk m c) _ (main_row m c)
theorem xbc_eq : xbcRes m c = val_main_v58 (X0 m c) (X1 m c) (X2 m c) (X3 m c) (X4 m c) (X5 m c) := joined_eq (xbcBlk m c) _ (xbc_row m c)
theorem step_eq : stepRes m c = val_main_v55 (X0 m c) (X1 m c) (X2 m c) (X3 m c) := joined_eq (stepBlk m c) _ (step_row m c)

end Cert.Kernel3Ideal.Inp
end
-- ==== Proof.InpAlgebraic.lean ====
/-
  The input projection's claims about the runs: the reference's leaves its arguments as they were, and on the same arguments the
  kernel's run and the reference's end with the same results.
-/
module

public import proofs.«01_k».proof.Defs
public import proofs.«01_k».proof.Proof.InpValue
public import proofs.«01_k».proof.Proof.Gen.Reference3Ideal.Run

@[expose] public section

noncomputable section

namespace Cert.Kernel3Ideal.Inp

open Cert.Kernel3Ideal Cert.Kernel3Ideal.Gen
open Idealize.ShloMosaic Idealize.ShloMosaic.TcCoe
open Idealize.SL.Sem

attribute [local instance] Cert.Kernel3Ideal.Gen.facts Cert.Reference3Ideal.Gen.facts

theorem frame_ref : Cert.quiescent_Reference3Ideal := fun m ρ _ =>
  (θ_run Cert.Reference3Ideal.defs _ _).mono (fun r h => ⟨fun c => (h c).2.2.2, sem_eq_zero_of_no_sems (by decide) r.2⟩)
    (Cert.Reference3Ideal.Value.run (F := Ideal) m ρ)

theorem algebraic : Cert.algebraic_Kernel3Ideal_Reference3Ideal := fun m g m' g' _ hargs => by
  refine ⟨fun c => mainRes m c, fun c => xbcRes m c, fun c => stepRes m c,
    (θ_run defs _ _).mono (fun _ h c => ⟨(h c).1.trans (final_main m c), (h c).2.1.trans (final_xbc m c), (h c).2.2.1.trans (final_step m c), (h c).2.2.2⟩)
      (Cert.Kernel3Ideal.Value.run_blocks (F := Ideal) m g),
    (θ_run Cert.Reference3Ideal.defs _ _).mono (fun _ h c => ⟨(h c).1.trans ?_, (h c).2.1.trans ?_, (h c).2.2.1.trans ?_, (h c).2.2.2⟩)
      (Cert.Reference3Ideal.Value.run (F := Ideal) m' g')⟩
  all_goals obtain ⟨a0, a1, a2, a3, a4, a5⟩ := hargs c
  · rw [Cert.Reference3Ideal.Read.val_main_v57_eq, a0, a1, a2, a3]
    exact (main_eq m c).symm
  · rw [Cert.Reference3Ideal.Read.val_main_v58_eq, a0, a1, a2, a3, a4, a5]
    exact (xbc_eq m c).symm
  · rw [Cert.Reference3Ideal.Read.val_main_v55_eq, a0, a1, a2, a3]
    exact (step_eq m c).symm

end Cert.Kernel3Ideal.Inp
end
-- ==== Proof.MixOut.lean ====
/-
  The output projection's block, as one function of its input blocks.
-/
module

public import proofs.«01_k».proof.Proof.Gen.Kernel4Ideal.Frame
public import proofs.«01_k».proof.Proof.Gen.Kernel4Ideal.Value
public import Idealize.ShloMosaic.Lib.WritesUnit
public import Idealize.ShloMosaic.Lib.VecWindow
public import Idealize.ShloMosaic.Lib.Pointwise

@[expose] public section

noncomputable section

namespace Cert.Kernel4Ideal.Mix

open Cert.Kernel4Ideal Cert.Kernel4Ideal.Gen
open Idealize.ShloMosaic Idealize.ShloMosaic.TcCoe
open Idealize.SL.Sem

variable {F : FTy → Type} [FloatOps F]

/-- The scan's outputs with their skip, gated and normed. -/
def ssdB (yf yb : Vec F S1x1x512x1024 .bf16) (xs z : Vec F S1x512x1024 .bf16) (sk w : Vec F S1x1024 .f32) : FVec F S512x1024 .f32 :=
  k0_pay4 (k0_pay2 yf yb xs sk z) (k0_pay3 yf yb xs sk z) w

/-- The projection of the three parts side by side. -/
def projB (s : FVec F S512x1024 .f32) (y : Vec F S1x512x512 .bf16) (rf rb : Vec F S1x1x512x512 .bf16) (g : Vec F S1x512x512 .bf16) (w : Vec F S1x128 .f32)
    (wo : Vec F S2048x1024 .bf16) : FVec F S512x1024 .f32 :=
  k0_pay12 s (k0_pay5 rf rb) (k0_pay6 g) (k0_pay9 (k0_pay7 rf rb) (k0_pay8 rf rb) w) (k0_pay10 (k0_pay5 rf rb) w) (k0_pay11 (k0_pay5 rf rb)) w w y wo

theorem out_eq (c : Dev nD) (i : grid0.Coords) (arg2 : Memref sig .tc .vmem S1x512x1024 .f32) (harg2 : arg2.IsWhole) (arg3 : Memref sig .tc .vmem S1x1x512x1024 .bf16) (harg3 : arg3.IsWhole) (arg4 : Memref sig .tc .vmem S1x1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x512 .bf16) (harg7 : arg7.IsWhole) (arg8 : Memref sig .tc .vmem S1x1x512x512 .bf16) (harg8 : arg8.IsWhole) (arg9 : Memref sig .tc .vmem S1x1x512x512 .bf16) (harg9 : arg9.IsWhole) (arg10 : Memref sig .tc .vmem S1x512x512 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x128 .f32) (harg13 : arg13.IsWhole) (arg14 : Memref sig .tc .vmem S2048x1024 .bf16) (harg14 : arg14.IsWhole) (arg15 : Memref sig .tc .vmem S1x1x1024 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x512x1024 .f32) (harg18 : arg18.IsWhole)
    (x0 : Vec F S1x512x1024 .f32) (x1 : Vec F S1x1x512x1024 .bf16) (x2 : Vec F S1x1x512x1024 .bf16) (x3 : Vec F S1x512x1024 .bf16) (x4 : Vec F S1x512x1024 .bf16) (x5 : Vec F S1x512x512 .bf16) (x6 : Vec F S1x1x512x512 .bf16) (x7 : Vec F S1x1x512x512 .bf16) (x8 : Vec F S1x512x512 .bf16) (x9 : Vec F S1x1024 .f32) (x10 : Vec F S1x1024 .f32) (x11 : Vec F S1x128 .f32) (x12 : Vec F S2048x1024 .bf16) (x13 : Vec F S1x1x1024 .f32) (x14 : Vec F S1x1024 .f32) (x15 : Vec F S1x1024 .f32) :
    out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15
      = k0_pay1 (projB (ssdB x1 x2 x3 x4 x9 x10) x5 x6 x7 x8 x11 x12) (k0_pay13 x0) (k0_pay14 x13) x14 x15 := by
  unfold out0_A_16 kernelRun0_A
  dsimp only
  sl_unfold_words
  have e2 : arg2.view.readAt (Elt F) (Rect.unit (s := S1x512x1024) ![0, 0, 0] S1x512x1024.size inb_S1x512x1024_S1x512x1024_0_0_0).toLoadRect (harg2.unread x0) = x0 := (View.readAt_full ..).trans (harg2.read_unread x0)
  have e3 : arg3.view.readAt (Elt F) (Rect.unit (s := S1x1x512x1024) ![0, 0, 0, 0] S1x1x512x1024.size inb_S1x1x512x1024_S1x1x512x1024_0_0_0_0).toLoadRect (harg3.unread x1) = x1 := (View.readAt_full ..).trans (harg3.read_unread x1)
  have e4 : arg4.view.readAt (Elt F) (Rect.unit (s := S1x1x512x1024) ![0, 0, 0, 0] S1x1x512x1024.size inb_S1x1x512x1024_S1x1x512x1024_0_0_0_0).toLoadRect (harg4.unread x2) = x2 := (View.readAt_full ..).trans (harg4.read_unread x2)
  have e5 : arg5.view.readAt (Elt F) (Rect.unit (s := S1x512x1024) ![0, 0, 0] S1x512x1024.size inb_S1x512x1024_S1x512x1024_0_0_0).toLoadRect (harg5.unread x3) = x3 := (View.readAt_full ..).trans (harg5.read_unread x3)
  have e6 : arg6.view.readAt (Elt F) (Rect.unit (s := S1x512x1024) ![0, 0, 0] S1x512x1024.size inb_S1x512x1024_S1x512x1024_0_0_0).toLoadRect (harg6.unread x4) = x4 := (View.readAt_full ..).trans (harg6.read_unread x4)
  have e7 : arg7.view.readAt (Elt F) (Rect.unit (s := S1x512x512) ![0, 0, 0] S1x512x512.size inb_S1x512x512_S1x512x512_0_0_0).toLoadRect (harg7.unread x5) = x5 := (View.readAt_full ..).trans (harg7.read_unread x5)
  have e8 : arg8.view.readAt (Elt F) (Rect.unit (s := S1x1x512x512) ![0, 0, 0, 0] S1x1x512x512.size inb_S1x1x512x512_S1x1x512x512_0_0_0_0).toLoadRect (harg8.unread x6) = x6 := (View.readAt_full ..).trans (harg8.read_unread x6)
  have e9 : arg9.view.readAt (Elt F) (Rect.unit (s := S1x1x512x512) ![0, 0, 0, 0] S1x1x512x512.size inb_S1x1x512x512_S1x1x512x512_0_0_0_0).toLoadRect (harg9.unread x7) = x7 := (View.readAt_full ..).trans (harg9.read_unread x7)
  have e10 : arg10.view.readAt (Elt F) (Rect.unit (s := S1x512x512) ![0, 0, 0] S1x512x512.size inb_S1x512x512_S1x512x512_0_0_0).toLoadRect (harg10.unread x8) = x8 := (View.readAt_full ..).trans (harg10.read_unread x8)
  have e11 : arg11.view.readAt (Elt F) (Rect.unit (s := S1x1024) ![0, 0] S1x1024.size inb_S1x1024_S1x1024_0_0).toLoadRect (harg11.unread x9) = x9 := (View.readAt_full ..).trans (harg11.read_unread x9)
  have e12 : arg12.view.readAt (Elt F) (Rect.unit (s := S1x1024) ![0, 0] S1x1024.size inb_S1x1024_S1x1024_0_0).toLoadRect (harg12.unread x10) = x10 := (View.readAt_full ..).trans (harg12.read_unread x10)
  have e13 : arg13.view.readAt (Elt F) (Rect.unit (s := S1x128) ![0, 0] S1x128.size inb_S1x128_S1x128_0_0).toLoadRect (harg13.unread x11) = x11 := (View.readAt_full ..).trans (harg13.read_unread x11)
  have e14 : arg14.view.readAt (Elt F) (Rect.unit (s := S2048x1024) ![0, 0] S2048x1024.size inb_S2048x1024_S2048x1024_0_0).toLoadRect (harg14.unread x12) = x12 := (View.readAt_full ..).trans (harg14.read_unread x12)
  have e15 : arg15.view.readAt (Elt F) (Rect.unit (s := S1x1x1024) ![0, 0, 0] S1x1x1024.size inb_S1x1x1024_S1x1x1024_0_0_0).toLoadRect (harg15.unread x13) = x13 := (View.readAt_full ..).trans (harg15.read_unread x13)
  have e16 : arg16.view.readAt (Elt F) (Rect.unit (s := S1x1024) ![0, 0] S1x1024.size inb_S1x1024_S1x1024_0_0).toLoadRect (harg16.unread x14) = x14 := (View.readAt_full ..).trans (harg16.read_unread x14)
  have e17 : arg17.view.readAt (Elt F) (Rect.unit (s := S1x1024) ![0, 0] S1x1024.size inb_S1x1024_S1x1024_0_0).toLoadRect (harg17.unread x15) = x15 := (View.readAt_full ..).trans (harg17.read_unread x15)
  simp only [e2, e3, e4, e5, e6, e7, e8, e9, e10, e11, e12, e13, e14, e15, e16, e17]
  exact (View.read_writes_full ..).trans rfl

end Cert.Kernel4Ideal.Mix
end
-- ==== Proof.MixSpec.lean ====
/-
  What the output projection computes for one row, over the extended reals: the scan's outputs with their skip, gated and normed, the
  retention's heads, each normed, and gated, and the row the projection multiplies. The kernel and the reference are read as these
  expressions; the residual and the layer norm after them are the feed-forward part's.
-/
module

public import proofs.«01_k».proof.Proof.FfnSpec
public import proofs.«01_k».proof.Proof.InpSpec

@[expose] public section

noncomputable section

namespace Cert.Mix

open Cert.Ffn Cert.Inp
open Idealize.ShloMosaic Idealize.ShloMosaic.TcCoe

/-- The scan's two directions and the skip, gated. -/
def gated (yf yb xs sk z : EReal) : EReal := (yf + yb + xs * sk) * silu z

/-- A row over the root of its mean square, scaled. -/
def rms (z : Fin 1024 → EReal) (w : EReal) (d : Fin 1024) : EReal :=
  z d * Ideal.rsqrt (mean (fun k => z k * z k) + Ideal.ofBits .f32 0x3727C5AC#32) * w

/-- The mean of a head. -/
def hmean (z : Fin 128 → EReal) : EReal := Ideal.div (∑ k : Fin 128, z k) (Ideal.ofBits .f32 0x43000000#32)

/-- A head, its mean taken away, over its deviation, scaled. -/
def hnorm (z : Fin 128 → EReal) (w : EReal) (d : Fin 128) : EReal :=
  (z d - hmean z) * Ideal.rsqrt (hmean (fun k => (z k - hmean z) * (z k - hmean z)) + Ideal.ofBits .f32 0x3727C5AC#32) * w

/-- A row's head. -/
def head (r : Fin 512 → EReal) (h : Fin 4) (k : Fin 128) : EReal := r ⟨h.val * 128 + k.val, by omega⟩

/-- The heads of a row, each normed, one after the other. -/
def heads (r : Fin 512 → EReal) (w : Fin 128 → EReal) (j : Fin 512) : EReal :=
  hnorm (head r ⟨j.val / 128, by omega⟩) (w ⟨j.val % 128, Nat.mod_lt _ (by decide)⟩) ⟨j.val % 128, Nat.mod_lt _ (by decide)⟩

/-- Three rows one after the other. -/
def cat (s : Fin 1024 → EReal) (y r : Fin 512 → EReal) (j : Fin 2048) : EReal :=
  if h : j.val < 1024 then s ⟨j.val, h⟩ else if h : j.val - 1024 < 512 then y ⟨j.val - 1024, h⟩ else r ⟨j.val - 1024 - 512, by omega⟩

/-- The place of a column in the scan's groups and heads. -/
def scanAt (b : Fin 8) (t : Fin 8192) (d : Fin 1024) : (⟨5, ![8, 8192, 2, 8, 64]⟩ : Shape).Idx :=
  ix5 b t ⟨d.val / 512, by omega⟩ ⟨d.val / 64 % 8, Nat.mod_lt _ (by decide)⟩ ⟨d.val % 64, Nat.mod_lt _ (by decide)⟩

/-- The place of a column in the retention's heads. -/
def headAt (b : Fin 8) (t : Fin 8192) (j : Fin 512) : (⟨5, ![8, 8192, 4, 1, 128]⟩ : Shape).Idx :=
  ix5 b t ⟨j.val / 128, by omega⟩ 0 ⟨j.val % 128, Nat.mod_lt _ (by decide)⟩

end Cert.Mix
end
-- ==== Proof.MixElem.lean ====
/-
  The output projection's body read at an index.
-/
module

public import proofs.«01_k».proof.Proof.MixSpec
public import proofs.«01_k».proof.Proof.Gen.Kernel4Ideal.Skeleton
public import Idealize.ShloMosaic.Lib.Pointwise

@[expose] public section

noncomputable section

namespace Cert.Kernel4Ideal.Mix

open Cert.Ffn Cert.Inp Cert.Mix
open Cert.Kernel4Ideal Cert.Kernel4Ideal.Gen
open Idealize.ShloMosaic Idealize.ShloMosaic.TcCoe

theorem pay2_apply (yf yb : Vec Ideal S1x1x512x1024 .bf16) (xs : Vec Ideal S1x512x1024 .bf16) (sk : Vec Ideal S1x1024 .f32)
    (z : Vec Ideal S1x512x1024 .bf16) (r : Fin 512) (d : Fin 1024) :
    k0_pay2 yf yb xs sk z (ix2 r d)
      = gated (yf (ix4 0 0 r d)) (yb (ix4 0 0 r d)) (xs (ix3 0 r d)) (sk (ix2 0 d)) (z (ix3 0 r d)) := by
  unfold gated silu
  rw [← zero_sub, ← Ideal.ofBits_zero_f32]
  pointwise [k0_pay2]

theorem ssd_apply (yf yb : Vec Ideal S1x1x512x1024 .bf16) (xs : Vec Ideal S1x512x1024 .bf16) (sk : Vec Ideal S1x1024 .f32)
    (z : Vec Ideal S1x512x1024 .bf16) (w : Vec Ideal S1x1024 .f32) (r : Fin 512) (d : Fin 1024) :
    k0_pay4 (k0_pay2 yf yb xs sk z) (k0_pay3 yf yb xs sk z) w (ix2 r d)
      = rms (fun k => k0_pay2 yf yb xs sk z (ix2 r k)) (w (ix2 0 d)) d := by
  unfold k0_pay3
  generalize k0_pay2 yf yb xs sk z = u
  pointwise [k0_pay4, rms, mean]

theorem pay5_apply (rf rb : Vec Ideal S1x1x512x512 .bf16) (r : Fin 512) (j : Fin 512) :
    k0_pay5 rf rb (ix2 r j) = rf (ix4 0 0 r j) + rb (ix4 0 0 r j) := by
  pointwise [k0_pay5]

theorem pay6_apply (g : Vec Ideal S1x512x512 .bf16) (r : Fin 512) (j : Fin 512) : k0_pay6 g (ix2 r j) = silu (g (ix3 0 r j)) := by
  unfold silu
  rw [← zero_sub, ← Ideal.ofBits_zero_f32]
  pointwise [k0_pay6]

theorem head0_apply (rf rb : Vec Ideal S1x1x512x512 .bf16) (w : Vec Ideal S1x128 .f32) (r : Fin 512) (k : Fin 128) :
    k0_pay9 (k0_pay7 rf rb) (k0_pay8 rf rb) w (ix2 r k)
      = hnorm (fun k => k0_pay5 rf rb (ix2 r ⟨k.val, by omega⟩)) (w (ix2 0 k)) k := by
  unfold k0_pay8 k0_pay7
  generalize k0_pay5 rf rb = u
  pointwise [k0_pay9, hnorm, hmean]

theorem head1_apply (u : Vec Ideal S512x512 .f32) (w : Vec Ideal S1x128 .f32) (r : Fin 512) (k : Fin 128) :
    k0_pay10 u w (ix2 r k) = hnorm (fun k => u (ix2 r ⟨128 + k.val, by omega⟩)) (w (ix2 0 k)) k := by
  pointwise [k0_pay10, hnorm, hmean]

theorem head2_apply (u : Vec Ideal S512x512 .f32) (w : Vec Ideal S1x128 .f32) (r : Fin 512) (k : Fin 128) :
    (k0_pay11 (F := Ideal) u (ix2 r k) : EReal) * w (ix2 0 k) = hnorm (fun k => u (ix2 r ⟨256 + k.val, by omega⟩)) (w (ix2 0 k)) k := by
  pointwise [k0_pay11, hnorm, hmean]

theorem pay12_apply (s : Vec Ideal S512x1024 .f32) (u g : Vec Ideal S512x512 .f32) (h0 h1 h2 : Vec Ideal S512x128 .f32) (w w' : Vec Ideal S1x128 .f32)
    (y : Vec Ideal S1x512x512 .bf16) (wo : Vec Ideal S2048x1024 .bf16) (r : Fin 512) (d : Fin 1024) :
    k0_pay12 s u g h0 h1 h2 w w' y wo (ix2 r d) = ∑ j : Fin 2048,
      cat (fun k => s (ix2 r k)) (fun k => y (ix3 0 r k)) (fun k => (if h : k.val < 128 then h0 (ix2 r ⟨k.val, h⟩)
        else if h : k.val - 128 < 128 then h1 (ix2 r ⟨k.val - 128, h⟩)
        else if h : k.val - 128 - 128 < 128 then h2 (ix2 r ⟨k.val - 128 - 128, h⟩) * w (ix2 0 ⟨k.val - 128 - 128, h⟩)
        else hnorm (fun k => u (ix2 r ⟨384 + k.val, by omega⟩)) (w' (ix2 0 ⟨k.val - 128 - 128 - 128, by omega⟩)) ⟨k.val - 128 - 128 - 128, by omega⟩)
          * g (ix2 r k)) j * wo (ix2 j d) := by
  pointwise [k0_pay12, cat, hnorm, hmean]

/-- The row the projection multiplies, at a row of the block. -/
theorem proj_apply (s : Vec Ideal S512x1024 .f32) (rf rb : Vec Ideal S1x1x512x512 .bf16) (g : Vec Ideal S1x512x512 .bf16) (w : Vec Ideal S1x128 .f32)
    (y : Vec Ideal S1x512x512 .bf16) (wo : Vec Ideal S2048x1024 .bf16) (r : Fin 512) (d : Fin 1024) :
    k0_pay12 s (k0_pay5 rf rb) (k0_pay6 g) (k0_pay9 (k0_pay7 rf rb) (k0_pay8 rf rb) w) (k0_pay10 (k0_pay5 rf rb) w) (k0_pay11 (k0_pay5 rf rb)) w w y wo
        (ix2 r d) = ∑ j : Fin 2048,
      cat (fun k => s (ix2 r k)) (fun k => y (ix3 0 r k))
        (fun k => heads (fun l => rf (ix4 0 0 r l) + rb (ix4 0 0 r l)) (fun l => w (ix2 0 l)) k * silu (g (ix3 0 r k))) j * wo (ix2 j d) := by
  rw [pay12_apply]
  refine Finset.sum_congr rfl fun j _ => congrArg₂ (· * ·) (congrArg (fun f => cat _ _ f j) (funext fun k => ?_)) rfl
  refine congrArg₂ (· * ·) ?_ (pay6_apply g r k)
  have hk := k.isLt
  have key (h : Fin 4) (l : Fin 128) (hl : k.val = h.val * 128 + l.val) (f : Fin 128 → EReal)
      (hf : ∀ l : Fin 128, f l = k0_pay5 rf rb (ix2 r ⟨h.val * 128 + l.val, by omega⟩)) :
      hnorm f (w (ix2 0 l)) l = heads (fun l => rf (ix4 0 0 r l) + rb (ix4 0 0 r l)) (fun l => w (ix2 0 l)) k := by
    unfold heads
    have e1 : (⟨k.val / 128, by omega⟩ : Fin 4) = h := Fin.ext (by show k.val / 128 = h.val; omega)
    have e2 : (⟨k.val % 128, Nat.mod_lt _ (by decide)⟩ : Fin 128) = l := Fin.ext (by show k.val % 128 = l.val; omega)
    rw [e1, e2]
    refine congrArg (fun f => hnorm f _ l) (funext fun l => ?_)
    rw [hf, pay5_apply]
    rfl
  have at5 (a b : ℕ) (e : a = b) (ha : a < 512) (hb : b < 512) : k0_pay5 rf rb (ix2 r ⟨a, ha⟩) = k0_pay5 rf rb (ix2 r ⟨b, hb⟩) := by
    subst e; rfl
  by_cases c0 : k.val < 128
  · rw [dif_pos c0, head0_apply]
    exact key 0 ⟨k.val, c0⟩ (by show k.val = 0 * 128 + k.val; omega) _ fun l => at5 _ _ (by show l.val = 0 * 128 + l.val; omega) _ _
  · rw [dif_neg c0]
    by_cases c1 : k.val - 128 < 128
    · rw [dif_pos c1, head1_apply]
      exact key 1 ⟨k.val - 128, c1⟩ (by show k.val = 1 * 128 + (k.val - 128); omega) _ fun l => at5 _ _ (by show 128 + l.val = 1 * 128 + l.val; omega) _ _
    · rw [dif_neg c1]
      by_cases c2 : k.val - 128 - 128 < 128
      · rw [dif_pos c2, head2_apply]
        exact key 2 ⟨k.val - 128 - 128, c2⟩ (by show k.val = 2 * 128 + (k.val - 128 - 128); omega) _
          fun l => at5 _ _ (by show 256 + l.val = 2 * 128 + l.val; omega) _ _
      · rw [dif_neg c2]
        exact key 3 ⟨k.val - 128 - 128 - 128, by omega⟩ (by show k.val = 3 * 128 + (k.val - 128 - 128 - 128); omega) _
          fun l => at5 _ _ (by show 384 + l.val = 3 * 128 + l.val; omega) _ _

theorem pay1_apply (x : Vec Ideal S1x512x1024 .f32) (g : Vec Ideal S1x1x1024 .f32) (y : Vec Ideal S512x1024 .f32) (w b : Vec Ideal S1x1024 .f32)
    (r : Fin 512) (d : Fin 1024) :
    k0_pay1 y (k0_pay13 x) (k0_pay14 g) w b (ix3 0 r d)
      = lnorm (fun k => joined (x (ix3 0 r k)) (g (ix3 0 0 k)) (y (ix2 r k))) (w (ix2 0 d)) (b (ix2 0 d)) d := by
  pointwise [k0_pay1, k0_pay13, k0_pay14, lnorm, joined, mean]

end Cert.Kernel4Ideal.Mix
end
-- ==== Proof.MixBlocks.lean ====
/-
  The output projection from its grid's points to whole arrays: which part of its array each window's block is, and the result array
  the run ends with, block by block.
-/
module

public import proofs.«01_k».proof.Proof.MixOut
public import proofs.«01_k».proof.Proof.MixElem

@[expose] public section

noncomputable section

namespace Cert.Kernel4Ideal.Mix

open Cert.Inp Cert.Mix
open Cert.Kernel4Ideal Cert.Kernel4Ideal.Gen
open Idealize.ShloMosaic Idealize.ShloMosaic.TcCoe Idealize.ShloMosaic.Tactic
open Idealize.SL.Sem

variable (m : (ℓ : Loc nD τ sig) → Buf (Elt Ideal) ℓ)

/-- The grid point of a batch element and a block of rows. -/
def point (b : Fin 8) (i : Fin 16) : Fin cfg0.N := ⟨b.val * 16 + i.val, by show _ < grid0.N; rw [N_0]; omega⟩

theorem idx0 : ∀ (b : Fin 8) (i : Fin 16), win0_0.index (point b i) (0 : Fin 3) = b.val ∧ win0_0.index (point b i) (1 : Fin 3) = i.val ∧ win0_0.index (point b i) (2 : Fin 3) = 0 := by decide +kernel
theorem idx1 : ∀ (b : Fin 8) (i : Fin 16), win0_1.index (point b i) (0 : Fin 4) = b.val ∧ win0_1.index (point b i) (1 : Fin 4) = 0 ∧ win0_1.index (point b i) (2 : Fin 4) = i.val ∧ win0_1.index (point b i) (3 : Fin 4) = 0 := by decide +kernel
theorem idx2 : ∀ (b : Fin 8) (i : Fin 16), win0_2.index (point b i) (0 : Fin 4) = b.val ∧ win0_2.index (point b i) (1 : Fin 4) = 1 ∧ win0_2.index (point b i) (2 : Fin 4) = i.val ∧ win0_2.index (point b i) (3 : Fin 4) = 0 := by decide +kernel
theorem idx3 : ∀ (b : Fin 8) (i : Fin 16), win0_3.index (point b i) (0 : Fin 3) = b.val ∧ win0_3.index (point b i) (1 : Fin 3) = i.val ∧ win0_3.index (point b i) (2 : Fin 3) = 0 := by decide +kernel
theorem idx4 : ∀ (b : Fin 8) (i : Fin 16), win0_4.index (point b i) (0 : Fin 3) = b.val ∧ win0_4.index (point b i) (1 : Fin 3) = i.val ∧ win0_4.index (point b i) (2 : Fin 3) = 0 := by decide +kernel
theorem idx5 : ∀ (b : Fin 8) (i : Fin 16), win0_5.index (point b i) (0 : Fin 3) = b.val ∧ win0_5.index (point b i) (1 : Fin 3) = i.val ∧ win0_5.index (point b i) (2 : Fin 3) = 0 := by decide +kernel
theorem idx6 : ∀ (b : Fin 8) (i : Fin 16), win0_6.index (point b i) (0 : Fin 4) = b.val ∧ win0_6.index (point b i) (1 : Fin 4) = 0 ∧ win0_6.index (point b i) (2 : Fin 4) = i.val ∧ win0_6.index (point b i) (3 : Fin 4) = 0 := by decide +kernel
theorem idx7 : ∀ (b : Fin 8) (i : Fin 16), win0_7.index (point b i) (0 : Fin 4) = b.val ∧ win0_7.index (point b i) (1 : Fin 4) = 1 ∧ win0_7.index (point b i) (2 : Fin 4) = i.val ∧ win0_7.index (point b i) (3 : Fin 4) = 0 := by decide +kernel
theorem idx8 : ∀ (b : Fin 8) (i : Fin 16), win0_8.index (point b i) (0 : Fin 3) = b.val ∧ win0_8.index (point b i) (1 : Fin 3) = i.val ∧ win0_8.index (point b i) (2 : Fin 3) = 7 := by decide +kernel
theorem idx13 : ∀ (b : Fin 8) (i : Fin 16), win0_13.index (point b i) (0 : Fin 3) = b.val ∧ win0_13.index (point b i) (1 : Fin 3) = 0 ∧ win0_13.index (point b i) (2 : Fin 3) = 0 := by decide +kernel
theorem idx9 : ∀ t : Fin cfg0.N, win0_9.index t (0 : Fin 2) = 0 ∧ win0_9.index t (1 : Fin 2) = 0 := (by decide +kernel : ∀ t : Fin grid0.N, _)
theorem idx10 : ∀ t : Fin cfg0.N, win0_10.index t (0 : Fin 2) = 0 ∧ win0_10.index t (1 : Fin 2) = 0 := (by decide +kernel : ∀ t : Fin grid0.N, _)
theorem idx11 : ∀ t : Fin cfg0.N, win0_11.index t (0 : Fin 2) = 0 ∧ win0_11.index t (1 : Fin 2) = 0 := (by decide +kernel : ∀ t : Fin grid0.N, _)
theorem idx12 : ∀ t : Fin cfg0.N, win0_12.index t (0 : Fin 2) = 0 ∧ win0_12.index t (1 : Fin 2) = 0 := (by decide +kernel : ∀ t : Fin grid0.N, _)
theorem idx14 : ∀ t : Fin cfg0.N, win0_14.index t (0 : Fin 2) = 0 ∧ win0_14.index t (1 : Fin 2) = 0 := (by decide +kernel : ∀ t : Fin grid0.N, _)
theorem idx15 : ∀ t : Fin cfg0.N, win0_15.index t (0 : Fin 2) = 0 ∧ win0_15.index t (1 : Fin 2) = 0 := (by decide +kernel : ∀ t : Fin grid0.N, _)
theorem idx16 : ∀ t : Fin cfg0.N, win0_16.index t (0 : Fin 3) = t.val / 16 ∧ win0_16.index t (1 : Fin 3) = t.val % 16
    ∧ win0_16.index t (2 : Fin 3) = 0 := (by decide +kernel : ∀ t : Fin grid0.N, _)
theorem xsize16 : ∀ t : Fin cfg0.N, win0_16.xsize (grid0.coords t) (0 : Fin 3) = 1 ∧ win0_16.xsize (grid0.coords t) (1 : Fin 3) = 512
    ∧ win0_16.xsize (grid0.coords t) (2 : Fin 3) = 1024 := (by decide +kernel : ∀ t : Fin grid0.N, _)

/-! The arrays as the call's first steps lay them out. -/

theorem scan_cast (y : Vec Ideal S8x8192x2x8x64 .f32) (b : Fin 8) (t : Fin 8192) (d : Fin 1024) :
    shapeCast S8x8192x1024 y shapeCasts_S8x8192x2x8x64_S8x8192x1024 (ix3 b t d) = y (scanAt b t d) := by
  refine shapeCast_apply y shapeCasts_S8x8192x2x8x64_S8x8192x1024 _ _ ?_
  rewrite [Shape.rowMajor_val_five, Shape.rowMajor_val_three]
  show (((b.val * 8192 + t.val) * 2 + d.val / 512) * 8 + d.val / 64 % 8) * 64 + d.val % 64 = (b.val * 8192 + t.val) * 1024 + d.val
  omega

theorem head_cast (y : Vec Ideal S8x8192x4x1x128 .f32) (b : Fin 8) (t : Fin 8192) (j : Fin 512) :
    shapeCast S8x8192x512 y shapeCasts_S8x8192x4x1x128_S8x8192x512 (ix3 b t j) = y (headAt b t j) := by
  refine shapeCast_apply y shapeCasts_S8x8192x4x1x128_S8x8192x512 _ _ ?_
  rewrite [Shape.rowMajor_val_five, Shape.rowMajor_val_three]
  show (((b.val * 8192 + t.val) * 4 + j.val / 128) * 1 + 0) * 128 + j.val % 128 = (b.val * 8192 + t.val) * 512 + j.val
  omega

/-- The scan's two directions, one above the other. -/
def scanStack (yf yb : Vec Ideal S8x8192x2x8x64 .f32) : FVec Ideal S8x2x8192x1024 .bf16 :=
  truncf .bf16 (concatenate S8x2x8192x1024 1 [⟨S8x1x8192x1024, broadcastInDim S8x1x8192x1024 ![0, 2, 3] bcast_S8x8192x1024_S8x1x8192x1024_0_2_3 (shapeCast S8x8192x1024 yf shapeCasts_S8x8192x2x8x64_S8x8192x1024)⟩,
    ⟨S8x1x8192x1024, broadcastInDim S8x1x8192x1024 ![0, 2, 3] bcast_S8x8192x1024_S8x1x8192x1024_0_2_3 (shapeCast S8x8192x1024 yb shapeCasts_S8x8192x2x8x64_S8x8192x1024)⟩]
    concatenates_S8x1x8192x1024_S8x1x8192x1024_S8x2x8192x1024_d1 : FVec Ideal S8x2x8192x1024 .f32) bitsLt_bf16_f32

theorem scanStack_apply (yf yb : Vec Ideal S8x8192x2x8x64 .f32) (b : Fin 8) (k : Fin 2) (t : Fin 8192) (d : Fin 1024) :
    scanStack yf yb (ix4 b k t d) = if k.val < 1 then yf (scanAt b t d) else yb (scanAt b t d) := by
  rw [← scan_cast yf, ← scan_cast yb]
  unfold scanStack
  generalize shapeCast S8x8192x1024 yf shapeCasts_S8x8192x2x8x64_S8x8192x1024 = p
  generalize shapeCast S8x8192x1024 yb shapeCasts_S8x8192x2x8x64_S8x8192x1024 = q
  pointwise
  rfl

/-- The retention's two directions, one above the other. -/
def headStack (rf rb : Vec Ideal S8x8192x4x1x128 .f32) : FVec Ideal S8x2x8192x512 .bf16 :=
  truncf .bf16 (concatenate S8x2x8192x512 1 [⟨S8x1x8192x512, broadcastInDim S8x1x8192x512 ![0, 2, 3] bcast_S8x8192x512_S8x1x8192x512_0_2_3 (shapeCast S8x8192x512 rf shapeCasts_S8x8192x4x1x128_S8x8192x512)⟩,
    ⟨S8x1x8192x512, broadcastInDim S8x1x8192x512 ![0, 2, 3] bcast_S8x8192x512_S8x1x8192x512_0_2_3 (shapeCast S8x8192x512 rb shapeCasts_S8x8192x4x1x128_S8x8192x512)⟩]
    concatenates_S8x1x8192x512_S8x1x8192x512_S8x2x8192x512_d1 : FVec Ideal S8x2x8192x512 .f32) bitsLt_bf16_f32

theorem headStack_apply (rf rb : Vec Ideal S8x8192x4x1x128 .f32) (b : Fin 8) (k : Fin 2) (t : Fin 8192) (j : Fin 512) :
    headStack rf rb (ix4 b k t j) = if k.val < 1 then rf (headAt b t j) else rb (headAt b t j) := by
  rw [← head_cast rf, ← head_cast rb]
  unfold headStack
  generalize shapeCast S8x8192x512 rf shapeCasts_S8x8192x4x1x128_S8x8192x512 = p
  generalize shapeCast S8x8192x512 rb shapeCasts_S8x8192x4x1x128_S8x8192x512 = q
  pointwise
  rfl

/-- The projection without the scan's own and its step columns. -/
def gateCols (x : Vec Ideal S8x8192x5664 .f32) : FVec Ideal S8x8192x4096 .bf16 :=
  truncf .bf16 (concatenate S8x8192x4096 2 [⟨S8x8192x1024, extractStridedSlice S8x8192x1024 ![0, 0, 0] x slices_S8x8192x5664_S8x8192x1024_0_0_0⟩,
    ⟨S8x8192x3072, extractStridedSlice S8x8192x3072 ![0, 0, 2592] x slices_S8x8192x5664_S8x8192x3072_0_0_2592⟩]
    concatenates_S8x8192x1024_S8x8192x3072_S8x8192x4096_d2 : FVec Ideal S8x8192x4096 .f32) bitsLt_bf16_f32

theorem gateCols_apply (x : Vec Ideal S8x8192x5664 .f32) (b : Fin 8) (t : Fin 8192) (j : Fin 4096) :
    gateCols x (ix3 b t j) = x (ix3 b t (mainCol j)) := by
  have e (k k' : Fin 5664) (h : k.val = k'.val) : x (ix3 b t k) = x (ix3 b t k') := congrArg (fun k => x (ix3 b t k)) (Fin.ext h)
  pointwise [gateCols]
  unfold mainCol
  split_ifs <;> exact e _ _ (by dsimp only <;> omega)

/-- The skip weights, each repeated over its head. -/
def skipRow (x : Vec Ideal S16 .f32) : FVec Ideal S1x1024 .f32 :=
  shapeCast S1x1024 (shapeCast S1024 (broadcastInDim S16x64 ![0] bcast_S16_S16x64_0 x) shapeCasts_S16x64_S1024) shapeCasts_S1024_S1x1024

set_option maxRecDepth 16384 in
theorem skipRow_apply (x : Vec Ideal S16 .f32) (d : Fin 1024) : skipRow x (ix2 0 d) = x (ix1 ⟨d.val / 64, by omega⟩) := by
  pointwise [skipRow]

set_option maxRecDepth 16384 in
theorem V_v12 (c : Dev nD) : (V m c main_v12 : S8x2x8192x1024.Idx → EReal) = scanStack (m ((c : Thread nD τ).loc main_arg3)) (m ((c : Thread nD τ).loc main_arg4)) := by
  dsimp only [V, hostOps0]; after_results; rfl
set_option maxRecDepth 16384 in
theorem V_v20 (c : Dev nD) : (V m c main_v20 : S8x2x8192x512.Idx → EReal) = headStack (m ((c : Thread nD τ).loc main_arg6)) (m ((c : Thread nD τ).loc main_arg7)) := by
  dsimp only [V, hostOps0]; after_results; rfl
set_option maxRecDepth 16384 in
theorem V_v3 (c : Dev nD) : (V m c main_v3 : S8x8192x4096.Idx → EReal) = gateCols (m ((c : Thread nD τ).loc main_arg1)) := by
  dsimp only [V, hostOps0]; after_results; rfl
set_option maxRecDepth 16384 in
theorem V_v6 (c : Dev nD) : (V m c main_v6 : S1x1024.Idx → EReal) = skipRow (m ((c : Thread nD τ).loc main_arg8)) := by
  dsimp only [V, hostOps0]; after_results; rfl
set_option maxRecDepth 16384 in
theorem V_v13 (c : Dev nD) : (V m c main_v13 : S8x8192x1536.Idx → EReal) = m ((c : Thread nD τ).loc main_arg2) := by
  dsimp only [V, hostOps0]; after_results; rfl
set_option maxRecDepth 16384 in
theorem V_v14 (c : Dev nD) : (V m c main_v14 : S8x8192x512.Idx → EReal) = m ((c : Thread nD τ).loc main_arg5) := by
  dsimp only [V, hostOps0]; after_results; rfl
set_option maxRecDepth 16384 in
theorem V_v21 (c : Dev nD) : (V m c main_v21 : S2048x1024.Idx → EReal) = m ((c : Thread nD τ).loc main_arg11) := by
  dsimp only [V, hostOps0]; after_results; rfl
set_option maxRecDepth 16384 in
theorem row_cast (x : Vec Ideal S1024 .f32) (j : Fin 1024) : shapeCast S1x1024 x shapeCasts_S1024_S1x1024 (ix2 0 j) = x (ix1 j) := by
  pointwise
theorem V_v22 (c : Dev nD) : (V m c main_v22 : S1x1024.Idx → EReal) = shapeCast S1x1024 (m ((c : Thread nD τ).loc main_arg9)) shapeCasts_S1024_S1x1024 := by
  dsimp only [V, hostOps0]; after_results; rfl
theorem V_v23 (c : Dev nD) (j : Fin 128) :
    V m c main_v23 (ix2 (n0 := 1) (n1 := 128) 0 j) = m ((c : Thread nD τ).loc main_arg10) (ix1 (n0 := 128) j) := by
  have h : V m c main_v23 = shapeCast S1x128 (m ((c : Thread nD τ).loc main_arg10)) shapeCasts_S128_S1x128 := by
    dsimp only [V, hostOps0]; after_results; rfl
  rw [h]
  generalize m ((c : Thread nD τ).loc main_arg10) = x
  pointwise
theorem V_v24 (c : Dev nD) : (V m c main_v24 : S1x1024.Idx → EReal) = shapeCast S1x1024 (m ((c : Thread nD τ).loc main_arg13)) shapeCasts_S1024_S1x1024 := by
  dsimp only [V, hostOps0]; after_results; rfl
theorem V_v25 (c : Dev nD) : (V m c main_v25 : S1x1024.Idx → EReal) = shapeCast S1x1024 (m ((c : Thread nD τ).loc main_arg14)) shapeCasts_S1024_S1x1024 := by
  dsimp only [V, hostOps0]; after_results; rfl

/-! An input block at an index is its array at the block's corner plus the index. -/

theorem iblk0_at (c : Dev nD) (b : Fin 8) (i : Fin 16) (r : Fin 512) (d : Fin 1024) :
    iblk m c 0 (point b i) (ix3 (n0 := 1) (n1 := 512) (n2 := 1024) 0 r d)
      = m ((c : Thread nD τ).loc main_arg0) (ix3 (n0 := 8) (n1 := 8192) (n2 := 1024) b ⟨512 * i.val + r.val, by omega⟩ d) := by
  obtain ⟨e0, e1, e2⟩ := idx0 b i
  refine Eq.trans ?_ (congrFun (V_main_arg0 m c) _)
  refine congrArg (V m c main_arg0) (funext fun a => Fin.ext ?_)
  match a with
  | ⟨0, _⟩ => show win0_0.index (point b i) (0 : Fin 3) * 1 + 1 * 0 = b.val; omega
  | ⟨1, _⟩ => show win0_0.index (point b i) (1 : Fin 3) * 512 + 1 * r.val = 512 * i.val + r.val; omega
  | ⟨2, _⟩ => show win0_0.index (point b i) (2 : Fin 3) * 1024 + 1 * d.val = d.val; omega

theorem iblk1_at (c : Dev nD) (b : Fin 8) (i : Fin 16) (r : Fin 512) (d : Fin 1024) :
    iblk m c 1 (point b i) (ix4 (n0 := 1) (n1 := 1) (n2 := 512) (n3 := 1024) 0 0 r d)
      = m ((c : Thread nD τ).loc main_arg3) (scanAt b ⟨512 * i.val + r.val, by omega⟩ d) := by
  obtain ⟨e0, e1, e2, e3⟩ := idx1 b i
  refine Eq.trans ?_ ((congrFun (V_v12 m c) _).trans ((scanStack_apply _ _ b 0 ⟨512 * i.val + r.val, by omega⟩ d).trans (if_pos (by decide))))
  refine congrArg (V m c main_v12) (funext fun a => Fin.ext ?_)
  match a with
  | ⟨0, _⟩ => show win0_1.index (point b i) (0 : Fin 4) * 1 + 1 * 0 = b.val; omega
  | ⟨1, _⟩ => show win0_1.index (point b i) (1 : Fin 4) * 1 + 1 * 0 = 0; omega
  | ⟨2, _⟩ => show win0_1.index (point b i) (2 : Fin 4) * 512 + 1 * r.val = 512 * i.val + r.val; omega
  | ⟨3, _⟩ => show win0_1.index (point b i) (3 : Fin 4) * 1024 + 1 * d.val = d.val; omega

theorem iblk2_at (c : Dev nD) (b : Fin 8) (i : Fin 16) (r : Fin 512) (d : Fin 1024) :
    iblk m c 2 (point b i) (ix4 (n0 := 1) (n1 := 1) (n2 := 512) (n3 := 1024) 0 0 r d)
      = m ((c : Thread nD τ).loc main_arg4) (scanAt b ⟨512 * i.val + r.val, by omega⟩ d) := by
  obtain ⟨e0, e1, e2, e3⟩ := idx2 b i
  refine Eq.trans ?_ ((congrFun (V_v12 m c) _).trans ((scanStack_apply _ _ b 1 ⟨512 * i.val + r.val, by omega⟩ d).trans (if_neg (by decide))))
  refine congrArg (V m c main_v12) (funext fun a => Fin.ext ?_)
  match a with
  | ⟨0, _⟩ => show win0_2.index (point b i) (0 : Fin 4) * 1 + 1 * 0 = b.val; omega
  | ⟨1, _⟩ => show win0_2.index (point b i) (1 : Fin 4) * 1 + 1 * 0 = 1; omega
  | ⟨2, _⟩ => show win0_2.index (point b i) (2 : Fin 4) * 512 + 1 * r.val = 512 * i.val + r.val; omega
  | ⟨3, _⟩ => show win0_2.index (point b i) (3 : Fin 4) * 1024 + 1 * d.val = d.val; omega

theorem iblk3_at (c : Dev nD) (b : Fin 8) (i : Fin 16) (r : Fin 512) (d : Fin 1024) :
    X0_3 m c (point b i) (ix3 (n0 := 1) (n1 := 512) (n2 := 1024) 0 r d)
      = m ((c : Thread nD τ).loc main_arg2) (ix3 (n0 := 8) (n1 := 8192) (n2 := 1536) b ⟨512 * i.val + r.val, by omega⟩ ⟨d.val, by omega⟩) := by
  obtain ⟨e0, e1, e2⟩ := idx3 b i
  unfold X0_3 Pipeline.Window.fill
  refine (dif_pos (moved0_3 (point b i) _)).trans ?_
  refine Eq.trans ?_ (congrFun (V_v13 m c) _)
  refine congrArg (V m c main_v13) (funext fun a => Fin.ext ?_)
  match a with
  | ⟨0, _⟩ => show win0_3.index (point b i) (0 : Fin 3) * 1 + 1 * 0 = b.val; omega
  | ⟨1, _⟩ => show win0_3.index (point b i) (1 : Fin 3) * 512 + 1 * r.val = 512 * i.val + r.val; omega
  | ⟨2, _⟩ => show win0_3.index (point b i) (2 : Fin 3) * 1024 + 1 * d.val = d.val; omega

theorem iblk4_at (c : Dev nD) (b : Fin 8) (i : Fin 16) (r : Fin 512) (d : Fin 1024) :
    iblk m c 4 (point b i) (ix3 (n0 := 1) (n1 := 512) (n2 := 1024) 0 r d)
      = m ((c : Thread nD τ).loc main_arg1) (ix3 (n0 := 8) (n1 := 8192) (n2 := 5664) b ⟨512 * i.val + r.val, by omega⟩ ⟨d.val, by omega⟩) := by
  obtain ⟨e0, e1, e2⟩ := idx4 b i
  refine Eq.trans ?_ ((congrFun (V_v3 m c) _).trans ((gateCols_apply _ b ⟨512 * i.val + r.val, by omega⟩ ⟨d.val, by omega⟩).trans (congrArg (fun k => m ((c : Thread nD τ).loc main_arg1) (ix3 (n0 := 8) (n1 := 8192) (n2 := 5664) b ⟨512 * i.val + r.val, by omega⟩ k)) (dif_pos d.isLt))))
  refine congrArg (V m c main_v3) (funext fun a => Fin.ext ?_)
  match a with
  | ⟨0, _⟩ => show win0_4.index (point b i) (0 : Fin 3) * 1 + 1 * 0 = b.val; omega
  | ⟨1, _⟩ => show win0_4.index (point b i) (1 : Fin 3) * 512 + 1 * r.val = 512 * i.val + r.val; omega
  | ⟨2, _⟩ => show win0_4.index (point b i) (2 : Fin 3) * 1024 + 1 * d.val = d.val; omega

theorem iblk5_at (c : Dev nD) (b : Fin 8) (i : Fin 16) (r : Fin 512) (j : Fin 512) :
    iblk m c 5 (point b i) (ix3 (n0 := 1) (n1 := 512) (n2 := 512) 0 r j)
      = m ((c : Thread nD τ).loc main_arg5) (ix3 (n0 := 8) (n1 := 8192) (n2 := 512) b ⟨512 * i.val + r.val, by omega⟩ j) := by
  obtain ⟨e0, e1, e2⟩ := idx5 b i
  refine Eq.trans ?_ (congrFun (V_v14 m c) _)
  refine congrArg (V m c main_v14) (funext fun a => Fin.ext ?_)
  match a with
  | ⟨0, _⟩ => show win0_5.index (point b i) (0 : Fin 3) * 1 + 1 * 0 = b.val; omega
  | ⟨1, _⟩ => show win0_5.index (point b i) (1 : Fin 3) * 512 + 1 * r.val = 512 * i.val + r.val; omega
  | ⟨2, _⟩ => show win0_5.index (point b i) (2 : Fin 3) * 512 + 1 * j.val = j.val; omega

theorem iblk6_at (c : Dev nD) (b : Fin 8) (i : Fin 16) (r : Fin 512) (j : Fin 512) :
    iblk m c 6 (point b i) (ix4 (n0 := 1) (n1 := 1) (n2 := 512) (n3 := 512) 0 0 r j)
      = m ((c : Thread nD τ).loc main_arg6) (headAt b ⟨512 * i.val + r.val, by omega⟩ j) := by
  obtain ⟨e0, e1, e2, e3⟩ := idx6 b i
  refine Eq.trans ?_ ((congrFun (V_v20 m c) _).trans ((headStack_apply _ _ b 0 ⟨512 * i.val + r.val, by omega⟩ j).trans (if_pos (by decide))))
  refine congrArg (V m c main_v20) (funext fun a => Fin.ext ?_)
  match a with
  | ⟨0, _⟩ => show win0_6.index (point b i) (0 : Fin 4) * 1 + 1 * 0 = b.val; omega
  | ⟨1, _⟩ => show win0_6.index (point b i) (1 : Fin 4) * 1 + 1 * 0 = 0; omega
  | ⟨2, _⟩ => show win0_6.index (point b i) (2 : Fin 4) * 512 + 1 * r.val = 512 * i.val + r.val; omega
  | ⟨3, _⟩ => show win0_6.index (point b i) (3 : Fin 4) * 512 + 1 * j.val = j.val; omega

theorem iblk7_at (c : Dev nD) (b : Fin 8) (i : Fin 16) (r : Fin 512) (j : Fin 512) :
    iblk m c 7 (point b i) (ix4 (n0 := 1) (n1 := 1) (n2 := 512) (n3 := 512) 0 0 r j)
      = m ((c : Thread nD τ).loc main_arg7) (headAt b ⟨512 * i.val + r.val, by omega⟩ j) := by
  obtain ⟨e0, e1, e2, e3⟩ := idx7 b i
  refine Eq.trans ?_ ((congrFun (V_v20 m c) _).trans ((headStack_apply _ _ b 1 ⟨512 * i.val + r.val, by omega⟩ j).trans (if_neg (by decide))))
  refine congrArg (V m c main_v20) (funext fun a => Fin.ext ?_)
  match a with
  | ⟨0, _⟩ => show win0_7.index (point b i) (0 : Fin 4) * 1 + 1 * 0 = b.val; omega
  | ⟨1, _⟩ => show win0_7.index (point b i) (1 : Fin 4) * 1 + 1 * 0 = 1; omega
  | ⟨2, _⟩ => show win0_7.index (point b i) (2 : Fin 4) * 512 + 1 * r.val = 512 * i.val + r.val; omega
  | ⟨3, _⟩ => show win0_7.index (point b i) (3 : Fin 4) * 512 + 1 * j.val = j.val; omega

theorem iblk8_at (c : Dev nD) (b : Fin 8) (i : Fin 16) (r : Fin 512) (j : Fin 512) :
    iblk m c 8 (point b i) (ix3 (n0 := 1) (n1 := 512) (n2 := 512) 0 r j)
      = m ((c : Thread nD τ).loc main_arg1) (ix3 (n0 := 8) (n1 := 8192) (n2 := 5664) b ⟨512 * i.val + r.val, by omega⟩ ⟨5152 + j.val, by omega⟩) := by
  obtain ⟨e0, e1, e2⟩ := idx8 b i
  refine Eq.trans ?_ ((congrFun (V_v3 m c) _).trans ((gateCols_apply _ b ⟨512 * i.val + r.val, by omega⟩ ⟨3584 + j.val, by omega⟩).trans
    (congrArg (fun k => m ((c : Thread nD τ).loc main_arg1) (ix3 (n0 := 8) (n1 := 8192) (n2 := 5664) b ⟨512 * i.val + r.val, by omega⟩ k)) (Fin.ext (by
      show (if h : 3584 + j.val < 1024 then (⟨3584 + j.val, by omega⟩ : Fin 5664) else ⟨1568 + (3584 + j.val), by omega⟩).val = 5152 + j.val
      rw [dif_neg (by omega)]; show 1568 + (3584 + j.val) = _; omega)))))
  refine congrArg (V m c main_v3) (funext fun a => Fin.ext ?_)
  match a with
  | ⟨0, _⟩ => show win0_8.index (point b i) (0 : Fin 3) * 1 + 1 * 0 = b.val; omega
  | ⟨1, _⟩ => show win0_8.index (point b i) (1 : Fin 3) * 512 + 1 * r.val = 512 * i.val + r.val; omega
  | ⟨2, _⟩ => show win0_8.index (point b i) (2 : Fin 3) * 512 + 1 * j.val = 3584 + j.val; omega

theorem iblk9_at (c : Dev nD) (t : Fin cfg0.N) (d : Fin 1024) :
    iblk m c 9 t (ix2 (n0 := 1) (n1 := 1024) 0 d)
      = m ((c : Thread nD τ).loc main_arg8) (ix1 (n0 := 16) ⟨d.val / 64, by omega⟩) := by
  obtain ⟨e0, e1⟩ := idx9 t
  refine Eq.trans ?_ ((congrFun (V_v6 m c) _).trans (skipRow_apply _ d))
  refine congrArg (V m c main_v6) (funext fun a => Fin.ext ?_)
  match a with
  | ⟨0, _⟩ => show win0_9.index t (0 : Fin 2) * 1 + 1 * 0 = 0; omega
  | ⟨1, _⟩ => show win0_9.index t (1 : Fin 2) * 1024 + 1 * d.val = d.val; omega

theorem iblk10_at (c : Dev nD) (t : Fin cfg0.N) (d : Fin 1024) :
    iblk m c 10 t (ix2 (n0 := 1) (n1 := 1024) 0 d)
      = m ((c : Thread nD τ).loc main_arg9) (ix1 (n0 := 1024) d) := by
  obtain ⟨e0, e1⟩ := idx10 t
  refine Eq.trans ?_ ((congrFun (V_v22 m c) _).trans (row_cast _ d))
  refine congrArg (V m c main_v22) (funext fun a => Fin.ext ?_)
  match a with
  | ⟨0, _⟩ => show win0_10.index t (0 : Fin 2) * 1 + 1 * 0 = 0; omega
  | ⟨1, _⟩ => show win0_10.index t (1 : Fin 2) * 1024 + 1 * d.val = d.val; omega

theorem iblk11_at (c : Dev nD) (t : Fin cfg0.N) (d : Fin 128) :
    iblk m c 11 t (ix2 (n0 := 1) (n1 := 128) 0 d)
      = m ((c : Thread nD τ).loc main_arg10) (ix1 (n0 := 128) d) := by
  obtain ⟨e0, e1⟩ := idx11 t
  refine Eq.trans ?_ (V_v23 m c d)
  refine congrArg (V m c main_v23) (funext fun a => Fin.ext ?_)
  match a with
  | ⟨0, _⟩ => show win0_11.index t (0 : Fin 2) * 1 + 1 * 0 = 0; omega
  | ⟨1, _⟩ => show win0_11.index t (1 : Fin 2) * 128 + 1 * d.val = d.val; omega

theorem iblk14_at (c : Dev nD) (t : Fin cfg0.N) (d : Fin 1024) :
    iblk m c 14 t (ix2 (n0 := 1) (n1 := 1024) 0 d)
      = m ((c : Thread nD τ).loc main_arg13) (ix1 (n0 := 1024) d) := by
  obtain ⟨e0, e1⟩ := idx14 t
  refine Eq.trans ?_ ((congrFun (V_v24 m c) _).trans (row_cast _ d))
  refine congrArg (V m c main_v24) (funext fun a => Fin.ext ?_)
  match a with
  | ⟨0, _⟩ => show win0_14.index t (0 : Fin 2) * 1 + 1 * 0 = 0; omega
  | ⟨1, _⟩ => show win0_14.index t (1 : Fin 2) * 1024 + 1 * d.val = d.val; omega

theorem iblk15_at (c : Dev nD) (t : Fin cfg0.N) (d : Fin 1024) :
    iblk m c 15 t (ix2 (n0 := 1) (n1 := 1024) 0 d)
      = m ((c : Thread nD τ).loc main_arg14) (ix1 (n0 := 1024) d) := by
  obtain ⟨e0, e1⟩ := idx15 t
  refine Eq.trans ?_ ((congrFun (V_v25 m c) _).trans (row_cast _ d))
  refine congrArg (V m c main_v25) (funext fun a => Fin.ext ?_)
  match a with
  | ⟨0, _⟩ => show win0_15.index t (0 : Fin 2) * 1 + 1 * 0 = 0; omega
  | ⟨1, _⟩ => show win0_15.index t (1 : Fin 2) * 1024 + 1 * d.val = d.val; omega

theorem iblk12_at (c : Dev nD) (t : Fin cfg0.N) (j : Fin 2048) (d : Fin 1024) :
    iblk m c 12 t (ix2 (n0 := 2048) (n1 := 1024) j d)
      = m ((c : Thread nD τ).loc main_arg11) (ix2 (n0 := 2048) (n1 := 1024) j d) := by
  obtain ⟨e0, e1⟩ := idx12 t
  refine Eq.trans ?_ (congrFun (V_v21 m c) _)
  refine congrArg (V m c main_v21) (funext fun a => Fin.ext ?_)
  match a with
  | ⟨0, _⟩ => show win0_12.index t (0 : Fin 2) * 2048 + 1 * j.val = j.val; omega
  | ⟨1, _⟩ => show win0_12.index t (1 : Fin 2) * 1024 + 1 * d.val = d.val; omega

theorem iblk13_at (c : Dev nD) (b : Fin 8) (i : Fin 16) (d : Fin 1024) :
    iblk m c 13 (point b i) (ix3 (n0 := 1) (n1 := 1) (n2 := 1024) 0 0 d)
      = m ((c : Thread nD τ).loc main_arg12) (ix3 (n0 := 8) (n1 := 1) (n2 := 1024) b 0 d) := by
  obtain ⟨e0, e1, e2⟩ := idx13 b i
  refine Eq.trans ?_ (congrFun (V_main_arg12 m c) _)
  refine congrArg (V m c main_arg12) (funext fun a => Fin.ext ?_)
  match a with
  | ⟨0, _⟩ => show win0_13.index (point b i) (0 : Fin 3) * 1 + 1 * 0 = b.val; omega
  | ⟨1, _⟩ => show win0_13.index (point b i) (1 : Fin 3) * 1 + 1 * 0 = 0; omega
  | ⟨2, _⟩ => show win0_13.index (point b i) (2 : Fin 3) * 1024 + 1 * d.val = d.val; omega

/-! The result array. -/

/-- The block of the result at a grid point. -/
def ptBlk (c : Dev nD) (t : Fin cfg0.N) : FVec Ideal S1x512x1024 .f32 :=
  k0_pay1 (projB (ssdB (iblk m c 1 t) (iblk m c 2 t) (X0_3 m c t) (iblk m c 4 t) (iblk m c 9 t) (iblk m c 10 t)) (iblk m c 5 t) (iblk m c 6 t)
    (iblk m c 7 t) (iblk m c 8 t) (iblk m c 11 t) (iblk m c 12 t)) (k0_pay13 (iblk m c 0 t)) (k0_pay14 (iblk m c 13 t)) (iblk m c 14 t) (iblk m c 15 t)

theorem outs_eq (c : Dev nD) (t : Fin cfg0.N) : outsAt0 m c t = ptBlk m c t := by
  unfold outsAt0
  exact out_eq (F := Ideal) ..

/-- The result array: at each index, the block of its batch element and its block of rows. -/
def result (c : Dev nD) : FVec Ideal S8x8192x1024 .f32 := fun i =>
  ptBlk m c (point ⟨(i 0).val, (i 0).isLt⟩ ⟨(i 1).val / 512, by have h : (i 1).val < 8192 := (i 1).isLt; omega⟩)
    (ix3 (n0 := 1) (n1 := 512) (n2 := 1024) 0 ⟨(i 1).val % 512, Nat.mod_lt _ (by decide)⟩ ⟨(i 2).val, (i 2).isLt⟩)

theorem flushed_eq (c : Dev nD) (t : Fin cfg0.N) :
    (dats m 0 c).flushed 16 t = ((cfg0.win 16).blk t).view.read (Elt Ideal) (result m c) := by
  rw [Cert.Kernel4Ideal.Value.flushed16, outs_eq]
  obtain ⟨e0, e1, e2⟩ := idx16 t
  have ht : t.val < 128 := Nat.lt_of_lt_of_eq t.isLt N_0
  funext j
  have h0 : (j 0).val < 1 := (xsize16 t).1 ▸ (j 0).isLt
  have h1 : (j 1).val < 512 := (xsize16 t).2.1 ▸ (j 1).isLt
  have h2 : (j 2).val < 1024 := (xsize16 t).2.2 ▸ (j 2).isLt
  have a0 : ((((cfg0.win 16).blk t).view.emb j) 0).val = win0_16.index t (0 : Fin 3) * 1 + 1 * (j 0).val := rfl
  have a1 : ((((cfg0.win 16).blk t).view.emb j) 1).val = win0_16.index t (1 : Fin 3) * 512 + 1 * (j 1).val := rfl
  have a2 : ((((cfg0.win 16).blk t).view.emb j) 2).val = win0_16.index t (2 : Fin 3) * 1024 + 1 * (j 2).val := rfl
  show ptBlk m c t _ = ptBlk m c _ _
  refine congrArg₂ (fun t x => ptBlk m c t x) (Fin.ext ?_) (funext fun a => Fin.ext ?_)
  · show t.val = ((((cfg0.win 16).blk t).view.emb j) 0).val * 16 + ((((cfg0.win 16).blk t).view.emb j) 1).val / 512
    omega
  · match a with
    | ⟨0, _⟩ => show (j 0).val = 0; omega
    | ⟨1, _⟩ => show (j 1).val = ((((cfg0.win 16).blk t).view.emb j) 1).val % 512; omega
    | ⟨2, _⟩ => show (j 2).val = ((((cfg0.win 16).blk t).view.emb j) 2).val; omega

theorem cover (i : S8x8192x1024.Idx) : ∃ t : Fin cfg0.N, (cfg0.win 16).flush t = true ∧ i ∈ ((cfg0.win 16).blk t).view.set := by
  have i0 : (i 0).val < 8 := (i 0).isLt
  have i1 : (i 1).val < 8192 := (i 1).isLt
  have i2 : (i 2).val < 1024 := (i 2).isLt
  have hp : (point ⟨(i 0).val, i0⟩ ⟨(i 1).val / 512, by omega⟩).val = (i 0).val * 16 + (i 1).val / 512 := rfl
  generalize point ⟨(i 0).val, i0⟩ ⟨(i 1).val / 512, by omega⟩ = t at hp
  refine ⟨t, flush0_16 _, ?_⟩
  show i ∈ ((View.whole main_v26).slice (win0_16.rect t)).set
  rw [View.set_slice_whole, Rect.mem_set_unit]
  obtain ⟨e0, e1, e2⟩ := idx16 t
  obtain ⟨x0, x1, x2⟩ := xsize16 t
  intro a
  match a with
  | ⟨0, _⟩ =>
    show win0_16.index t (0 : Fin 3) * 1 ≤ (i 0).val ∧ (i 0).val < win0_16.index t (0 : Fin 3) * 1 + win0_16.xsize (grid0.coords t) (0 : Fin 3)
    rw [x0]; omega
  | ⟨1, _⟩ =>
    show win0_16.index t (1 : Fin 3) * 512 ≤ (i 1).val ∧ (i 1).val < win0_16.index t (1 : Fin 3) * 512 + win0_16.xsize (grid0.coords t) (1 : Fin 3)
    rw [x1]; omega
  | ⟨2, _⟩ =>
    show win0_16.index t (2 : Fin 3) * 1024 ≤ (i 2).val ∧ (i 2).val < win0_16.index t (2 : Fin 3) * 1024 + win0_16.xsize (grid0.coords t) (2 : Fin 3)
    rw [x2]; omega

theorem final_result (c : Dev nD) : (dats m 0 c).arrAt 16 cfg0.N = result m c :=
  (dats m 0 c).arrAt_eq_of_cover 16 (result m c) (fun t _ => flushed_eq m c t) cover

end Cert.Kernel4Ideal.Mix
end
-- ==== Proof.MixRef.lean ====
/-
  The reference's output projection read at an index.
-/
module

public import proofs.«01_k».proof.Proof.MixSpec
public import proofs.«01_k».proof.Proof.Gen.Reference4Ideal.Read
public import Idealize.ShloMosaic.Lib.Pointwise
public import Idealize.ShloMosaic.Lib.KernelVsHost

@[expose] public section

noncomputable section

namespace Cert.Reference4Ideal.Mix

open Cert.Ffn Cert.Inp Cert.Mix
open Cert.Reference4Ideal Cert.Reference4Ideal.Gen Cert.Reference4Ideal.Read
open Idealize.ShloMosaic Idealize.ShloMosaic.TcCoe

variable (x0 : Vec Ideal S8x8192x1024 .f32) (x1 : Vec Ideal S8x8192x5664 .f32) (x2 : Vec Ideal S8x8192x1536 .f32)
  (x3 x4 : Vec Ideal S8x8192x2x8x64 .f32) (x5 : Vec Ideal S8x8192x512 .f32) (x6 x7 : Vec Ideal S8x8192x4x1x128 .f32) (x8 : Vec Ideal S16 .f32)
  (x9 : Vec Ideal S1024 .f32) (x10 : Vec Ideal S128 .f32) (x11 : Vec Ideal S2048x1024 .f32) (x12 : Vec Ideal S8x1x1024 .f32) (x13 x14 : Vec Ideal S1024 .f32)

theorem v16 (b : Fin 8) (t : Fin 8192) (d : Fin 1024) :
    val_main_v16 x2 x3 x4 x8 (ix3 b t d)
      = x3 (scanAt b t d) + x4 (scanAt b t d) + x2 (ix3 b t ⟨d.val, by omega⟩) * x8 (ix1 ⟨d.val / 64, by omega⟩) := by
  have e : idx_main_v16 (ix3 b t d) = scanAt b t d := funext fun a => Fin.ext (by
    match a with
    | ⟨0, _⟩ => show ((b.val * 8192 + t.val) * 1024 + d.val) / 8388608 = b.val; omega
    | ⟨1, _⟩ => show ((b.val * 8192 + t.val) * 1024 + d.val) / 1024 % 8192 = t.val; omega
    | ⟨2, _⟩ => show ((b.val * 8192 + t.val) * 1024 + d.val) / 512 % 2 = d.val / 512; omega
    | ⟨3, _⟩ => show ((b.val * 8192 + t.val) * 1024 + d.val) / 64 % 8 = d.val / 64 % 8; omega
    | ⟨4, _⟩ => show ((b.val * 8192 + t.val) * 1024 + d.val) % 64 = d.val % 64; omega)
  have e9 : val_main_v9 x2 (scanAt b t d) = x2 (ix3 b t ⟨d.val, by omega⟩) := by
    have ei : idx_main_v9 (scanAt b t d) = ix3 (n0 := 8) (n1 := 8192) (n2 := 1024) b t d := funext fun a => Fin.ext (by
      match a with
      | ⟨0, _⟩ => show ((((b.val * 8192 + t.val) * 2 + d.val / 512) * 8 + d.val / 64 % 8) * 64 + d.val % 64) / 8388608 = b.val; omega
      | ⟨1, _⟩ => show ((((b.val * 8192 + t.val) * 2 + d.val / 512) * 8 + d.val / 64 % 8) * 64 + d.val % 64) / 1024 % 8192 = t.val; omega
      | ⟨2, _⟩ => show ((((b.val * 8192 + t.val) * 2 + d.val / 512) * 8 + d.val / 64 % 8) * 64 + d.val % 64) % 1024 = d.val; omega)
    rw [val_main_v9_apply, ei]
    pointwise [val_main_v6]
  have e13 : val_main_v13 x8 (scanAt b t d) = x8 (ix1 ⟨d.val / 64, by omega⟩) := by
    rw [val_main_v13_apply, val_main_v12_apply, val_main_v11_apply]
    refine congrArg x8 (funext fun a => Fin.ext ?_)
    match a with
    | ⟨0, _⟩ => show (d.val / 512 * 8 + d.val / 64 % 8) * 1 + 0 = d.val / 64; omega
  rw [val_main_v16_apply, e]
  show (x3 _ + x4 _) + val_main_v9 x2 _ * val_main_v13 x8 _ = _
  rw [e9, e13]

theorem v17 (b : Fin 8) (t : Fin 8192) (d : Fin 1024) : val_main_v17 x1 (ix3 b t d) = silu (x1 (ix3 b t ⟨d.val, by omega⟩)) := by
  pointwise [val_main_v17, val_main_call0_v5, val_main_call0_v4, val_main_call0_v3, val_main_call0_v2, val_main_call0_v1, val_main_call0_v0,
    val_main_call0_cst, val_main_call0_cst_0, val_main_v3, val_main_v0, silu]

/-- A row of the scan's outputs with the skip, gated. -/
def scanRow (b : Fin 8) (t : Fin 8192) (d : Fin 1024) : EReal :=
  gated (x3 (scanAt b t d)) (x4 (scanAt b t d)) (x2 (ix3 b t ⟨d.val, by omega⟩)) (x8 (ix1 ⟨d.val / 64, by omega⟩)) (x1 (ix3 b t ⟨d.val, by omega⟩))

theorem v18 (b : Fin 8) (t : Fin 8192) (d : Fin 1024) : val_main_v18 x1 x2 x3 x4 x8 (ix3 b t d) = scanRow x1 x2 x3 x4 x8 b t d := by
  unfold scanRow gated
  rw [← v16, ← v17]
  rfl

theorem v31 (b : Fin 8) (t : Fin 8192) (d : Fin 1024) :
    val_main_v31 x1 x2 x3 x4 x8 x9 (ix3 b t d) = rms (scanRow x1 x2 x3 x4 x8 b t) (x9 (ix1 d)) d := by
  have e : scanRow x1 x2 x3 x4 x8 b t = fun k => val_main_v18 x1 x2 x3 x4 x8 (ix3 b t k) := funext fun k => (v18 ..).symm
  rw [e]
  unfold val_main_v31 val_main_v30 val_main_v29 val_main_v28 val_main_v27 val_main_v26 val_main_v25 val_main_v24 val_main_v23 val_main_v22 val_main_v21
    val_main_v20 val_main_v19 val_main_cst val_main_cst_0 val_main_cst_1
  generalize val_main_v18 x1 x2 x3 x4 x8 = z
  pointwise [rms, mean]

/-- A row of the retention's outputs. -/
def retRow (b : Fin 8) (t : Fin 8192) (j : Fin 512) : EReal := x6 (headAt b t j) + x7 (headAt b t j)

theorem v37 (b : Fin 8) (t : Fin 8192) (h : Fin 4) (k : Fin 128) : val_main_v37 x6 x7 (ix4 b t h k) = head (retRow x6 x7 b t) h k := by
  have e : idx_main_v37 (ix4 b t h k) = headAt b t ⟨h.val * 128 + k.val, by omega⟩ := funext fun a => Fin.ext (by
    match a with
    | ⟨0, _⟩ => show (((b.val * 8192 + t.val) * 4 + h.val) * 128 + k.val) / 4194304 = b.val; omega
    | ⟨1, _⟩ => show (((b.val * 8192 + t.val) * 4 + h.val) * 128 + k.val) / 512 % 8192 = t.val; omega
    | ⟨2, _⟩ => show (((b.val * 8192 + t.val) * 4 + h.val) * 128 + k.val) / 128 % 4 = (h.val * 128 + k.val) / 128; omega
    | ⟨3, _⟩ => rfl
    | ⟨4, _⟩ => show (((b.val * 8192 + t.val) * 4 + h.val) * 128 + k.val) % 128 = (h.val * 128 + k.val) % 128; omega)
  rw [val_main_v37_apply, e]
  rfl

theorem v58 (b : Fin 8) (t : Fin 8192) (h : Fin 4) (k : Fin 128) :
    val_main_v58 x6 x7 x10 (ix4 b t h k) = hnorm (head (retRow x6 x7 b t) h) (x10 (ix1 k)) k := by
  have e : head (retRow x6 x7 b t) h = fun k => val_main_v37 x6 x7 (ix4 b t h k) := funext fun k => (v37 ..).symm
  rw [e]
  unfold val_main_v58 val_main_v57 val_main_v56 val_main_v55 val_main_v54 val_main_v53 val_main_v52 val_main_v51 val_main_v50 val_main_v49 val_main_v48
    val_main_v47 val_main_v46 val_main_v45 val_main_v44 val_main_v43 val_main_v42 val_main_v41 val_main_v40 val_main_v39 val_main_v38
    val_main_cst_2 val_main_cst_3 val_main_cst_4 val_main_cst_5 val_main_cst_6
  generalize val_main_v37 x6 x7 = z
  pointwise [hnorm, hmean]

theorem v59 (b : Fin 8) (t : Fin 8192) (j : Fin 512) :
    val_main_v59 x6 x7 x10 (ix3 b t j) = heads (retRow x6 x7 b t) (fun k => x10 (ix1 k)) j := by
  have e : idx_main_v59 (ix3 b t j) = ix4 (n0 := 8) (n1 := 8192) (n2 := 4) (n3 := 128) b t ⟨j.val / 128, by omega⟩ ⟨j.val % 128, Nat.mod_lt _ (by decide)⟩ :=
    funext fun a => Fin.ext (by
      match a with
      | ⟨0, _⟩ => show ((b.val * 8192 + t.val) * 512 + j.val) / 4194304 = b.val; omega
      | ⟨1, _⟩ => show ((b.val * 8192 + t.val) * 512 + j.val) / 512 % 8192 = t.val; omega
      | ⟨2, _⟩ => show ((b.val * 8192 + t.val) * 512 + j.val) / 128 % 4 = j.val / 128; omega
      | ⟨3, _⟩ => show ((b.val * 8192 + t.val) * 512 + j.val) % 128 = j.val % 128; omega)
  rw [val_main_v59_apply, e, v58]
  rfl

theorem v60 (b : Fin 8) (t : Fin 8192) (j : Fin 512) : val_main_v60 x1 (ix3 b t j) = silu (x1 (ix3 b t ⟨5152 + j.val, by omega⟩)) := by
  have e : x1 (ix3 b t ⟨5152 + j.val, by omega⟩) = val_main_v35 x1 (ix3 b t j) := by
    pointwise [val_main_v35, val_main_v2]
    exact congrArg (fun k => x1 (ix3 b t k)) (Fin.ext (by show 5152 + j.val = 4128 + (1024 + j.val); omega))
  rw [e]
  unfold val_main_v60 val_main_call1_v5 val_main_call1_v4 val_main_call1_v3 val_main_call1_v2 val_main_call1_v1 val_main_call1_v0
    val_main_call1_cst val_main_call1_cst_0
  generalize val_main_v35 x1 = u
  pointwise [silu]

theorem v61 (b : Fin 8) (t : Fin 8192) (j : Fin 512) :
    val_main_v61 x1 x6 x7 x10 (ix3 b t j)
      = heads (retRow x6 x7 b t) (fun k => x10 (ix1 k)) j * silu (x1 (ix3 b t ⟨5152 + j.val, by omega⟩)) := by
  rw [← v59, ← v60]
  rfl

/-- The row the projection multiplies. -/
def mixRow (b : Fin 8) (t : Fin 8192) (j : Fin 2048) : EReal :=
  cat (fun d => rms (scanRow x1 x2 x3 x4 x8 b t) (x9 (ix1 d)) d) (fun k => x5 (ix3 b t k))
    (fun k => heads (retRow x6 x7 b t) (fun k => x10 (ix1 k)) k * silu (x1 (ix3 b t ⟨5152 + k.val, by omega⟩))) j

theorem v62 (b : Fin 8) (t : Fin 8192) (j : Fin 2048) :
    val_main_v62 x1 x2 x3 x4 x5 x6 x7 x8 x9 x10 (ix3 b t j) = mixRow x1 x2 x3 x4 x5 x6 x7 x8 x9 x10 b t j := by
  unfold mixRow
  simp only [← v31, ← v61]
  unfold val_main_v62
  generalize val_main_v31 x1 x2 x3 x4 x8 x9 = p
  generalize val_main_v61 x1 x6 x7 x10 = q
  pointwise [cat]

theorem v63 (b : Fin 8) (t : Fin 8192) (d : Fin 1024) :
    val_main_v63 x1 x2 x3 x4 x5 x6 x7 x8 x9 x10 x11 (ix3 b t d)
      = ∑ j : Fin 2048, mixRow x1 x2 x3 x4 x5 x6 x7 x8 x9 x10 b t j * x11 (ix2 j d) := by
  simp only [← v62]
  unfold val_main_v63
  generalize val_main_v62 x1 x2 x3 x4 x5 x6 x7 x8 x9 x10 = p
  pointwise

theorem v68 (b : Fin 8) (t : Fin 8192) (d : Fin 1024) :
    val_main_v68 x0 x1 x2 x3 x4 x5 x6 x7 x8 x9 x10 x11 x12 (ix3 b t d)
      = joined (x0 (ix3 b t d)) (x12 (ix3 b 0 d)) (val_main_v63 x1 x2 x3 x4 x5 x6 x7 x8 x9 x10 x11 (ix3 b t d)) := by
  unfold val_main_v68 val_main_v67 val_main_v66 val_main_v65 val_main_v64 val_main_cst_7
  generalize val_main_v63 x1 x2 x3 x4 x5 x6 x7 x8 x9 x10 x11 = y
  pointwise [joined]

theorem v92 (b : Fin 8) (t : Fin 8192) (d : Fin 1024) :
    val_main_v92 x0 x1 x2 x3 x4 x5 x6 x7 x8 x9 x10 x11 x12 x13 x14 (ix3 b t d)
      = lnorm (fun k => val_main_v68 x0 x1 x2 x3 x4 x5 x6 x7 x8 x9 x10 x11 x12 (ix3 b t k)) (x13 (ix1 d)) (x14 (ix1 d)) d := by
  unfold val_main_v92 val_main_v91 val_main_v90 val_main_v89 val_main_v88 val_main_v87 val_main_v86 val_main_v85 val_main_v84 val_main_v83 val_main_v82
    val_main_v81 val_main_v80 val_main_v79 val_main_v78 val_main_v77 val_main_v76 val_main_v75 val_main_v74 val_main_v73 val_main_v72 val_main_v71
    val_main_v70 val_main_v69 val_main_cst_8 val_main_cst_9 val_main_cst_10 val_main_cst_11 val_main_cst_12
  generalize val_main_v68 x0 x1 x2 x3 x4 x5 x6 x7 x8 x9 x10 x11 x12 = z
  pointwise [lnorm, mean]

end Cert.Reference4Ideal.Mix
end
-- ==== Proof.MixValue.lean ====
/-
  The output projection's result array is the reference's value of the same arguments.
-/
module

public import proofs.«01_k».proof.Proof.MixBlocks
public import proofs.«01_k».proof.Proof.MixRef

@[expose] public section

noncomputable section

namespace Cert.Kernel4Ideal.Mix

open Cert.Ffn Cert.Inp Cert.Mix
open Cert.Kernel4Ideal Cert.Kernel4Ideal.Gen
open Cert.Reference4Ideal.Read (val_main_v63 val_main_v68 val_main_v92)
open Cert.Reference4Ideal.Mix (scanRow retRow mixRow)
open Idealize.ShloMosaic Idealize.ShloMosaic.TcCoe
open Idealize.SL.Sem

variable (m : (ℓ : Loc nD τ sig) → Buf (Elt Ideal) ℓ) (c : Dev nD)

/-- The arguments. -/
abbrev X0 : Vec Ideal S8x8192x1024 .f32 := m ((c : Thread nD τ).loc main_arg0)
abbrev X1 : Vec Ideal S8x8192x5664 .f32 := m ((c : Thread nD τ).loc main_arg1)
abbrev X2 : Vec Ideal S8x8192x1536 .f32 := m ((c : Thread nD τ).loc main_arg2)
abbrev X3 : Vec Ideal S8x8192x2x8x64 .f32 := m ((c : Thread nD τ).loc main_arg3)
abbrev X4 : Vec Ideal S8x8192x2x8x64 .f32 := m ((c : Thread nD τ).loc main_arg4)
abbrev X5 : Vec Ideal S8x8192x512 .f32 := m ((c : Thread nD τ).loc main_arg5)
abbrev X6 : Vec Ideal S8x8192x4x1x128 .f32 := m ((c : Thread nD τ).loc main_arg6)
abbrev X7 : Vec Ideal S8x8192x4x1x128 .f32 := m ((c : Thread nD τ).loc main_arg7)
abbrev X8 : Vec Ideal S16 .f32 := m ((c : Thread nD τ).loc main_arg8)
abbrev X9 : Vec Ideal S1024 .f32 := m ((c : Thread nD τ).loc main_arg9)
abbrev X10 : Vec Ideal S128 .f32 := m ((c : Thread nD τ).loc main_arg10)
abbrev X11 : Vec Ideal S2048x1024 .f32 := m ((c : Thread nD τ).loc main_arg11)
abbrev X12 : Vec Ideal S8x1x1024 .f32 := m ((c : Thread nD τ).loc main_arg12)
abbrev X13 : Vec Ideal S1024 .f32 := m ((c : Thread nD τ).loc main_arg13)
abbrev X14 : Vec Ideal S1024 .f32 := m ((c : Thread nD τ).loc main_arg14)

variable (b : Fin 8) (i : Fin 16)

theorem ssd_row (r : Fin 512) (d : Fin 1024) :
    ssdB (iblk m c 1 (point b i)) (iblk m c 2 (point b i)) (X0_3 m c (point b i)) (iblk m c 4 (point b i)) (iblk m c 9 (point b i)) (iblk m c 10 (point b i))
      (ix2 r d) = rms (scanRow (X1 m c) (X2 m c) (X3 m c) (X4 m c) (X8 m c) b ⟨512 * i.val + r.val, by omega⟩) (X9 m c (ix1 d)) d := by
  refine (ssd_apply _ _ _ _ _ _ r d).trans ?_
  rw [iblk10_at]
  refine congrArg (fun z => rms z _ d) (funext fun k => ?_)
  rw [pay2_apply, iblk1_at, iblk2_at, iblk3_at, iblk4_at, iblk9_at]
  rfl

theorem proj_row (r : Fin 512) (d : Fin 1024) :
    projB (ssdB (iblk m c 1 (point b i)) (iblk m c 2 (point b i)) (X0_3 m c (point b i)) (iblk m c 4 (point b i)) (iblk m c 9 (point b i)) (iblk m c 10 (point b i)))
      (iblk m c 5 (point b i)) (iblk m c 6 (point b i)) (iblk m c 7 (point b i)) (iblk m c 8 (point b i)) (iblk m c 11 (point b i)) (iblk m c 12 (point b i))
      (ix2 r d) = val_main_v63 (X1 m c) (X2 m c) (X3 m c) (X4 m c) (X5 m c) (X6 m c) (X7 m c) (X8 m c) (X9 m c) (X10 m c) (X11 m c) (ix3 (n0 := 8) (n1 := 8192) (n2 := 1024) b ⟨512 * i.val + r.val, by omega⟩ d) := by
  refine (proj_apply _ _ _ _ _ _ _ r d).trans ?_
  rw [Cert.Reference4Ideal.Mix.v63]
  refine Finset.sum_congr rfl fun j _ => congrArg₂ (· * ·) ?_ (iblk12_at m c _ j d)
  unfold mixRow
  have es (k : Fin 1024) := ssd_row m c b i r k
  have ey (k : Fin 512) := iblk5_at m c b i r k
  have ef (k : Fin 512) := iblk6_at m c b i r k
  have eb (k : Fin 512) := iblk7_at m c b i r k
  have eg (k : Fin 512) := iblk8_at m c b i r k
  have ew (k : Fin 128) := iblk11_at m c (point b i) k
  simp only [es, ey, ef, eb, eg, ew]
  rfl

theorem ptBlk_row (r : Fin 512) (d : Fin 1024) :
    ptBlk m c (point b i) (ix3 (n0 := 1) (n1 := 512) (n2 := 1024) 0 r d)
      = val_main_v92 (X0 m c) (X1 m c) (X2 m c) (X3 m c) (X4 m c) (X5 m c) (X6 m c) (X7 m c) (X8 m c) (X9 m c) (X10 m c) (X11 m c) (X12 m c) (X13 m c) (X14 m c)
        (ix3 (n0 := 8) (n1 := 8192) (n2 := 1024) b ⟨512 * i.val + r.val, by omega⟩ d) := by
  unfold ptBlk
  rw [pay1_apply, Cert.Reference4Ideal.Mix.v92, iblk14_at, iblk15_at]
  refine congrArg (fun z => lnorm z _ _ d) (funext fun k => ?_)
  rw [Cert.Reference4Ideal.Mix.v68, iblk0_at, iblk13_at, proj_row]

/-- The result array is the reference's value of the same arguments. -/
theorem result_eq : result m c = val_main_v92 (X0 m c) (X1 m c) (X2 m c) (X3 m c) (X4 m c) (X5 m c) (X6 m c) (X7 m c) (X8 m c) (X9 m c) (X10 m c) (X11 m c) (X12 m c) (X13 m c) (X14 m c) := by
  funext x
  have x0 : (x 0).val < 8 := (x 0).isLt
  have x1 : (x 1).val < 8192 := (x 1).isLt
  have x2 : (x 2).val < 1024 := (x 2).isLt
  refine (ptBlk_row m c ⟨(x 0).val, x0⟩ ⟨(x 1).val / 512, by omega⟩ ⟨(x 1).val % 512, Nat.mod_lt _ (by decide)⟩ ⟨(x 2).val, x2⟩).trans ?_
  refine congrArg (val_main_v92 _ _ _ _ _ _ _ _ _ _ _ _ _ _ _) (funext fun a => Fin.ext ?_)
  match a with
  | ⟨0, _⟩ => rfl
  | ⟨1, _⟩ => exact Nat.div_add_mod (x 1).val 512
  | ⟨2, _⟩ => rfl

end Cert.Kernel4Ideal.Mix
end
-- ==== Proof.MixAlgebraic.lean ====
/-
  The output projection's claims about the runs: the reference's leaves its arguments as they were, and on the same arguments the
  kernel's run and the reference's end with the same result.
-/
module

public import proofs.«01_k».proof.Defs
public import proofs.«01_k».proof.Proof.MixValue
public import proofs.«01_k».proof.Proof.Gen.Reference4Ideal.Run

@[expose] public section

noncomputable section

namespace Cert.Kernel4Ideal.Mix

open Cert.Kernel4Ideal Cert.Kernel4Ideal.Gen
open Idealize.ShloMosaic Idealize.ShloMosaic.TcCoe
open Idealize.SL.Sem

attribute [local instance] Cert.Kernel4Ideal.Gen.facts Cert.Reference4Ideal.Gen.facts

theorem frame_ref : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic : Cert.algebraic_Kernel4Ideal_Reference4Ideal := fun m g m' g' _ hargs => by
  refine ⟨fun c => result m c, (θ_run defs _ _).mono (fun _ h c => ⟨(h c).1.trans (final_result m c), (h c).2⟩)
      (Cert.Kernel4Ideal.Value.run_blocks (F := Ideal) m g),
    (θ_run Cert.Reference4Ideal.defs _ _).mono (fun _ h c => ⟨(h c).1.trans ?_, (h c).2⟩) (Cert.Reference4Ideal.Value.run (F := Ideal) m' g')⟩
  obtain ⟨a0, a1, a2, a3, a4, a5, a6, a7, a8, a9, a10, a11, a12, a13, a14⟩ := hargs c
  rw [Cert.Reference4Ideal.Read.val_main_v92_eq, a0, a1, a2, a3, a4, a5, a6, a7, a8, a9, a10, a11, a12, a13, a14]
  exact (result_eq m c).symm

end Cert.Kernel4Ideal.Mix
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.KernelFrame
public import proofs.«01_k».proof.Proof.RefFrame
public import proofs.«01_k».proof.Proof.Algebraic
public import proofs.«01_k».proof.Proof.FfnAlgebraic
public import proofs.«01_k».proof.Proof.InpAlgebraic
public import proofs.«01_k».proof.Proof.MixAlgebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite.facts,
  Cert.KernelIdeal.Attn.frame_kernel,
  fun m ρ _ => Cert.KernelIdeal.Attn.frame (F := Ideal) m ρ, fun m ρ _ => Cert.KernelIdeal.Attn.frame (F := Ideal) m ρ,
  Cert.ReferenceIdeal.frame_ref, fun m ρ _ => Cert.ReferenceIdeal.frame_ref m ρ trivial,
  fun m ρ _ => Cert.Kernel2.Gen.frame m ρ, fun m ρ _ => Cert.Kernel2Ideal.Gen.frame m ρ, Cert.Kernel2Ideal.Ffn.frame_ref,
  fun m ρ _ => Cert.Kernel3.Gen.frame m ρ, fun m ρ _ => Cert.Kernel3Ideal.Gen.frame m ρ, Cert.Kernel3Ideal.Inp.frame_ref,
  fun m ρ _ => Cert.Kernel4.Gen.frame m ρ, fun m ρ _ => Cert.Kernel4Ideal.Gen.frame m ρ, Cert.Kernel4Ideal.Mix.frame_ref,
  IdealRules.named_const.statement Cert.KernelIdeal.κ "scale" .f32 0x3E38AA3B#32 (((1 / 8) * (Real.log 2)⁻¹ : ℝ) : EReal) rfl,
  Cert.KernelIdeal.Attn.algebraic, trivial, Cert.Kernel2Ideal.Ffn.algebraic,
  trivial, Cert.Kernel3Ideal.Inp.algebraic,
  trivial, Cert.Kernel4Ideal.Mix.algebraic⟩

end Cert.Proof

end
